-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scale [hPre_finite_scale : Cert.Pre_finite_scale.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scale [hPre_finite_scale : Cert.Pre_finite_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scale [hKernelIdeal : Cert.KernelIdeal.Facts] [hPre_finite_scale : Cert.Pre_finite_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scale [hReferenceIdeal : Cert.ReferenceIdeal.Facts] [hPre_finite_scale : Cert.Pre_finite_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_scale [hKernelIdeal : Cert.KernelIdeal.Facts] [hReferenceIdeal : Cert.ReferenceIdeal.Facts] [hPre_finite_scale : Cert.Pre_finite_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scale : Cert.Pre_finite_scale.Facts),
    quiescent_Kernel (hKernel := hKernel)
    ∧ quiescent_KernelIdeal (hKernelIdeal := hKernelIdeal)
    ∧ quiescent_KernelIdeal_pre_finite_scale (hKernelIdeal := hKernelIdeal) (hPre_finite_scale := hPre_finite_scale)
    ∧ quiescent_ReferenceIdeal (hReferenceIdeal := hReferenceIdeal)
    ∧ quiescent_ReferenceIdeal_pre_finite_scale (hReferenceIdeal := hReferenceIdeal) (hPre_finite_scale := hPre_finite_scale)
    ∧ preserves_Kernel_KernelIdeal
    ∧ algebraic_KernelIdeal_ReferenceIdeal_pre_finite_scale (hKernelIdeal := hKernelIdeal) (hReferenceIdeal := hReferenceIdeal) (hPre_finite_scale := hPre_finite_scale)
-- ==== Pre_finite_scale.lean ====
abbrev S2x96x224x224 : Shape := ⟨4, ![2, 96, 224, 224]⟩
abbrev S96 : Shape := ⟨1, ![96]⟩
abbrev S192x96 : Shape := ⟨2, ![192, 96]⟩
abbrev S192 : Shape := ⟨1, ![192]⟩
abbrev S96x192 : Shape := ⟨2, ![96, 192]⟩
abbrev S_ : Shape := ⟨0, ![]⟩

class Facts : Prop where
  bcast_S_S96 : S_.BroadcastsInDim S96 (![] : Fin 0 → Fin S96.rank)

variable [Facts]

def fn {F : FTy → Type} [FloatOps F] (main_arg0 : FVec F S2x96x224x224 .f32) (main_arg1 : FVec F S96 .f32) (main_arg2 : FVec F S96 .f32) (main_arg3 : FVec F S192x96 .f32) (main_arg4 : FVec F S192 .f32) (main_arg5 : FVec F S96x192 .f32) (main_arg6 : FVec F S96 .f32) : IVec S96 1 :=
  let main_v0 : FVec F S96 .f32 := Host.absf main_arg1
  let main_cst : FVec F S_ .f32 := constant S_ .f32 0x7F800000#32
  let main_v1 : FVec F S96 .f32 := broadcastInDim S96 ![] bcast_S_S96 main_cst
  let main_v2 : IVec S96 1 := cmpf .olt main_v0 main_v1
  main_v2
-- ==== Kernel.lean ====
abbrev S2x96x224x224 : Shape := ⟨4, ![2, 96, 224, 224]⟩
abbrev S96 : Shape := ⟨1, ![96]⟩
abbrev S192x96 : Shape := ⟨2, ![192, 96]⟩
abbrev S192 : Shape := ⟨1, ![192]⟩
abbrev S96x192 : Shape := ⟨2, ![96, 192]⟩
abbrev S224x224 : Shape := ⟨2, ![224, 224]⟩
abbrev S_ : Shape := ⟨0, ![]⟩
abbrev S2x96x2x224 : Shape := ⟨4, ![2, 96, 2, 224]⟩
abbrev S2x96x4x224 : Shape := ⟨4, ![2, 96, 4, 224]⟩
abbrev S2x1x96x4x224 : Shape := ⟨5, ![2, 1, 96, 4, 224]⟩
abbrev S2x7x96x4x224 : Shape := ⟨5, ![2, 7, 96, 4, 224]⟩
abbrev S2x224x224 : Shape := ⟨3, ![2, 224, 224]⟩
abbrev S2x7x1x66 : Shape := ⟨4, ![2, 7, 1, 66]⟩
abbrev S1x96x32x224 : Shape := ⟨4, ![1, 96, 32, 224]⟩
abbrev S1x1x96x4x224 : Shape := ⟨5, ![1, 1, 96, 4, 224]⟩
abbrev S1x32x224 : Shape := ⟨3, ![1, 32, 224]⟩
abbrev S1x1x1x66 : Shape := ⟨4, ![1, 1, 1, 66]⟩
abbrev S96x32x224 : Shape := ⟨3, ![96, 32, 224]⟩
abbrev S96x4x224 : Shape := ⟨3, ![96, 4, 224]⟩
abbrev S96x2x224 : Shape := ⟨3, ![96, 2, 224]⟩
abbrev S96x36x224 : Shape := ⟨3, ![96, 36, 224]⟩
abbrev S3456x224 : Shape := ⟨2, ![3456, 224]⟩
abbrev S1x32x1 : Shape := ⟨3, ![1, 32, 1]⟩
abbrev S32x224 : Shape := ⟨2, ![32, 224]⟩
abbrev S32x3x32x224 : Shape := ⟨4, ![32, 3, 32, 224]⟩
abbrev S32 : Shape := ⟨1, ![32]⟩
abbrev S1 : Shape := ⟨1, ![1]⟩
abbrev S1x1x1 : Shape := ⟨3, ![1, 1, 1]⟩
abbrev S66 : Shape := ⟨1, ![66]⟩
abbrev S1x66 : Shape := ⟨2, ![1, 66]⟩
abbrev S2x7x66 : Shape := ⟨3, ![2, 7, 66]⟩
abbrev S32x3 : Shape := ⟨2, ![32, 3]⟩
abbrev S1x192 : Shape := ⟨2, ![1, 192]⟩
abbrev S1x96 : Shape := ⟨2, ![1, 96]⟩
abbrev S1x7x66 : Shape := ⟨3, ![1, 7, 66]⟩
abbrev S96x1x224 : Shape := ⟨3, ![96, 1, 224]⟩
abbrev S96x31x224 : Shape := ⟨3, ![96, 31, 224]⟩
abbrev S7x66 : Shape := ⟨2, ![7, 66]⟩
abbrev S7x1 : Shape := ⟨2, ![7, 1]⟩
abbrev S7 : Shape := ⟨1, ![7]⟩
abbrev S1x7 : Shape := ⟨2, ![1, 7]⟩
abbrev S1x1 : Shape := ⟨2, ![1, 1]⟩
abbrev S7x32 : Shape := ⟨2, ![7, 32]⟩
abbrev S96x32x1 : Shape := ⟨3, ![96, 32, 1]⟩
abbrev S96x32x225 : Shape := ⟨3, ![96, 32, 225]⟩
abbrev S32x1 : Shape := ⟨2, ![32, 1]⟩
abbrev S32x225 : Shape := ⟨2, ![32, 225]⟩
abbrev S32x226 : Shape := ⟨2, ![32, 226]⟩
abbrev S9x32x224 : Shape := ⟨3, ![9, 32, 224]⟩
abbrev S9x32x1 : Shape := ⟨3, ![9, 32, 1]⟩
abbrev S9x32x225 : Shape := ⟨3, ![9, 32, 225]⟩
abbrev S9x32x226 : Shape := ⟨3, ![9, 32, 226]⟩
abbrev S96x32x226 : Shape := ⟨3, ![96, 32, 226]⟩
abbrev S32x3x1x1 : Shape := ⟨4, ![32, 3, 1, 1]⟩
abbrev S96x7168 : Shape := ⟨2, ![96, 7168]⟩
abbrev S192x7168 : Shape := ⟨2, ![192, 7168]⟩
abbrev S192x1 : Shape := ⟨2, ![192, 1]⟩
abbrev S96x1 : Shape := ⟨2, ![96, 1]⟩

abbrev nBuf : Space → Nat
  | .hbm => 45
  | .vmem => 25
  | .smem => 0
  | _ => 0

abbrev bufTy : (tb : Table) → Fin (tcTables nBuf tb) → BufTy
  | .hbm, ⟨0, _⟩ => ⟨S2x96x224x224, .f32⟩
  | .hbm, ⟨1, _⟩ => ⟨S96, .f32⟩
  | .hbm, ⟨2, _⟩ => ⟨S96, .f32⟩
  | .hbm, ⟨3, _⟩ => ⟨S192x96, .f32⟩
  | .hbm, ⟨4, _⟩ => ⟨S192, .f32⟩
  | .hbm, ⟨5, _⟩ => ⟨S96x192, .f32⟩
  | .hbm, ⟨6, _⟩ => ⟨S96, .f32⟩
  | .hbm, ⟨7, _⟩ => ⟨S224x224, .f32⟩
  | .hbm, ⟨8, _⟩ => ⟨S_, .f32⟩
  | .hbm, ⟨9, _⟩ => ⟨S2x96x2x224, .f32⟩
  | .hbm, ⟨10, _⟩ => ⟨S2x96x2x224, .f32⟩
  | .hbm, ⟨11, _⟩ => ⟨S2x96x4x224, .f32⟩
  | .hbm, ⟨12, _⟩ => ⟨S2x96x2x224, .f32⟩
  | .hbm, ⟨13, _⟩ => ⟨S2x96x2x224, .f32⟩
  | .hbm, ⟨14, _⟩ => ⟨S2x96x4x224, .f32⟩
  | .hbm, ⟨15, _⟩ => ⟨S2x96x2x224, .f32⟩
  | .hbm, ⟨16, _⟩ => ⟨S2x96x2x224, .f32⟩
  | .hbm, ⟨17, _⟩ => ⟨S2x96x4x224, .f32⟩
  | .hbm, ⟨18, _⟩ => ⟨S2x96x2x224, .f32⟩
  | .hbm, ⟨19, _⟩ => ⟨S2x96x2x224, .f32⟩
  | .hbm, ⟨20, _⟩ => ⟨S2x96x4x224, .f32⟩
  | .hbm, ⟨21, _⟩ => ⟨S2x96x2x224, .f32⟩
  | .hbm, ⟨22, _⟩ => ⟨S2x96x2x224, .f32⟩
  | .hbm, ⟨23, _⟩ => ⟨S2x96x4x224, .f32⟩
  | .hbm, ⟨24, _⟩ => ⟨S2x96x2x224, .f32⟩
  | .hbm, ⟨25, _⟩ => ⟨S2x96x2x224, .f32⟩
  | .hbm, ⟨26, _⟩ => ⟨S2x96x4x224, .f32⟩
  | .hbm, ⟨27, _⟩ => ⟨S2x96x2x224, .f32⟩
  | .hbm, ⟨28, _⟩ => ⟨S2x96x4x224, .f32⟩
  | .hbm, ⟨29, _⟩ => ⟨S2x1x96x4x224, .f32⟩
  | .hbm, ⟨30, _⟩ => ⟨S2x1x96x4x224, .f32⟩
  | .hbm, ⟨31, _⟩ => ⟨S2x1x96x4x224, .f32⟩
  | .hbm, ⟨32, _⟩ => ⟨S2x1x96x4x224, .f32⟩
  | .hbm, ⟨33, _⟩ => ⟨S2x1x96x4x224, .f32⟩
  | .hbm, ⟨34, _⟩ => ⟨S2x1x96x4x224, .f32⟩
  | .hbm, ⟨35, _⟩ => ⟨S2x1x96x4x224, .f32⟩
  | .hbm, ⟨36, _⟩ => ⟨S2x7x96x4x224, .f32⟩
  | .hbm, ⟨37, _⟩ => ⟨S2x224x224, .f32⟩
  | .hbm, ⟨38, _⟩ => ⟨S2x7x1x66, .f32⟩
  | .hbm, ⟨39, _⟩ => ⟨S2x7x66, .f32⟩
  | .hbm, ⟨40, _⟩ => ⟨S32x3, .f32⟩
  | .hbm, ⟨41, _⟩ => ⟨S32x3, .f32⟩
  | .hbm, ⟨42, _⟩ => ⟨S1x192, .f32⟩
  | .hbm, ⟨43, _⟩ => ⟨S1x96, .f32⟩
  | .hbm, ⟨44, _⟩ => ⟨S2x96x224x224, .f32⟩
  | .local _ .vmem, ⟨0, _⟩ => ⟨S1x96x32x224, .f32⟩
  | .local _ .vmem, ⟨1, _⟩ => ⟨S1x96x32x224, .f32⟩
  | .local _ .vmem, ⟨2, _⟩ => ⟨S1x1x96x4x224, .f32⟩
  | .local _ .vmem, ⟨3, _⟩ => ⟨S1x1x96x4x224, .f32⟩
  | .local _ .vmem, ⟨4, _⟩ => ⟨S224x224, .f32⟩
  | .local _ .vmem, ⟨5, _⟩ => ⟨S1x32x224, .f32⟩
  | .local _ .vmem, ⟨6, _⟩ => ⟨S1x32x224, .f32⟩
  | .local _ .vmem, ⟨7, _⟩ => ⟨S1x1x1x66, .f32⟩
  | .local _ .vmem, ⟨8, _⟩ => ⟨S1x1x1x66, .f32⟩
  | .local _ .vmem, ⟨9, _⟩ => ⟨S1x96x32x224, .f32⟩
  | .local _ .vmem, ⟨10, _⟩ => ⟨S1x96x32x224, .f32⟩
  | .local _ .vmem, ⟨11, _⟩ => ⟨S1x1x96x4x224, .f32⟩
  | .local _ .vmem, ⟨12, _⟩ => ⟨S1x1x96x4x224, .f32⟩
  | .local _ .vmem, ⟨13, _⟩ => ⟨S1x32x224, .f32⟩
  | .local _ .vmem, ⟨14, _⟩ => ⟨S1x32x224, .f32⟩
  | .local _ .vmem, ⟨15, _⟩ => ⟨S1x7x66, .f32⟩
  | .local _ .vmem, ⟨16, _⟩ => ⟨S1x7x66, .f32⟩
  | .local _ .vmem, ⟨17, _⟩ => ⟨S32x3, .f32⟩
  | .local _ .vmem, ⟨18, _⟩ => ⟨S32x3, .f32⟩
  | .local _ .vmem, ⟨19, _⟩ => ⟨S192x96, .f32⟩
  | .local _ .vmem, ⟨20, _⟩ => ⟨S1x192, .f32⟩
  | .local _ .vmem, ⟨21, _⟩ => ⟨S96x192, .f32⟩
  | .local _ .vmem, ⟨22, _⟩ => ⟨S1x96, .f32⟩
  | .local _ .vmem, ⟨23, _⟩ => ⟨S1x96x32x224, .f32⟩
  | .local _ .vmem, ⟨24, _⟩ => ⟨S1x96x32x224, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg10_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem10_1 : DmaSem sig := 24

abbrev nD : Nat := 1
abbrev τ : Topo := Topo.v7x

variable {F : FTy → Type} [FloatOps F]

abbrev grid0 : Pipeline.Grid := ⟨2, ![2, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x96x32x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x96x4x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S224x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x66 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 7], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x96x32x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x96x4x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x224 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x7x66 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S32x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S192x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S96x192 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x96 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x96x32x224 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ReferenceIdeal.lean ====
abbrev S2x96x224x224 : Shape := ⟨4, ![2, 96, 224, 224]⟩
abbrev S96 : Shape := ⟨1, ![96]⟩
abbrev S192x96 : Shape := ⟨2, ![192, 96]⟩
abbrev S192 : Shape := ⟨1, ![192]⟩
abbrev S96x192 : Shape := ⟨2, ![96, 192]⟩
abbrev S112 : Shape := ⟨1, ![112]⟩
abbrev S_ : Shape := ⟨0, ![]⟩
abbrev S112x1 : Shape := ⟨2, ![112, 1]⟩
abbrev S2x96x112x224 : Shape := ⟨4, ![2, 96, 112, 224]⟩
abbrev S1x1x112x1 : Shape := ⟨4, ![1, 1, 112, 1]⟩
abbrev S2x96x112x112 : Shape := ⟨4, ![2, 96, 112, 112]⟩
abbrev S1x1x1x112 : Shape := ⟨4, ![1, 1, 1, 112]⟩
abbrev S224 : Shape := ⟨1, ![224]⟩
abbrev S224x1 : Shape := ⟨2, ![224, 1]⟩
abbrev S2x96x224x112 : Shape := ⟨4, ![2, 96, 224, 112]⟩
abbrev S1x1x224x1 : Shape := ⟨4, ![1, 1, 224, 1]⟩
abbrev S1x1x1x224 : Shape := ⟨4, ![1, 1, 1, 224]⟩
abbrev S2x224x224 : Shape := ⟨3, ![2, 224, 224]⟩
abbrev S2x1x224x224 : Shape := ⟨4, ![2, 1, 224, 224]⟩
abbrev S2x50176 : Shape := ⟨2, ![2, 50176]⟩
abbrev S2 : Shape := ⟨1, ![2]⟩
abbrev S2x1x1x1 : Shape := ⟨4, ![2, 1, 1, 1]⟩
abbrev S2x96x226x226 : Shape := ⟨4, ![2, 96, 226, 226]⟩
abbrev S2x96x1x224x224 : Shape := ⟨5, ![2, 96, 1, 224, 224]⟩
abbrev S2x96x9x224x224 : Shape := ⟨5, ![2, 96, 9, 224, 224]⟩
abbrev S2x96x9x50176 : Shape := ⟨4, ![2, 96, 9, 50176]⟩
abbrev S2x96x50176 : Shape := ⟨3, ![2, 96, 50176]⟩
abbrev S2x1x50176 : Shape := ⟨3, ![2, 1, 50176]⟩
abbrev S2x9x50176 : Shape := ⟨3, ![2, 9, 50176]⟩
abbrev S2x1x9x50176 : Shape := ⟨4, ![2, 1, 9, 50176]⟩
abbrev S2x50176x9 : Shape := ⟨3, ![2, 50176, 9]⟩
abbrev S9 : Shape := ⟨1, ![9]⟩
abbrev S1x1x9 : Shape := ⟨3, ![1, 1, 9]⟩
abbrev S2x50176x1 : Shape := ⟨3, ![2, 50176, 1]⟩
abbrev S2x50176x9x1 : Shape := ⟨4, ![2, 50176, 9, 1]⟩
abbrev S1 : Shape := ⟨1, ![1]⟩
abbrev S1x1x1x1 : Shape := ⟨4, ![1, 1, 1, 1]⟩
abbrev S2x50176x9x96 : Shape := ⟨4, ![2, 50176, 9, 96]⟩
abbrev S2x50176x96 : Shape := ⟨3, ![2, 50176, 96]⟩
abbrev S2x32x3x224x224 : Shape := ⟨5, ![2, 32, 3, 224, 224]⟩
abbrev S2x32 : Shape := ⟨2, ![2, 32]⟩
abbrev S2x32x1x1x1 : Shape := ⟨5, ![2, 32, 1, 1, 1]⟩
abbrev S1x96x1x1 : Shape := ⟨4, ![1, 96, 1, 1]⟩
abbrev S2x224x224x192 : Shape := ⟨4, ![2, 224, 224, 192]⟩
abbrev S2x192x224x224 : Shape := ⟨4, ![2, 192, 224, 224]⟩
abbrev S1x192x1x1 : Shape := ⟨4, ![1, 192, 1, 1]⟩
abbrev S2x224x224x96 : Shape := ⟨4, ![2, 224, 224, 96]⟩

abbrev nBuf : Space → Nat
  | .hbm => 460
  | .vmem => 0
  | .smem => 0
  | _ => 0

abbrev hbmTy0_0 (i : Nat) : BufTy := match i % 128 with
  | 0 => ⟨S2x96x224x224, .f32⟩
  | 1 => ⟨S96, .f32⟩
  | 2 => ⟨S96, .f32⟩
  | 3 => ⟨S192x96, .f32⟩
  | 4 => ⟨S192, .f32⟩
  | 5 => ⟨S96x192, .f32⟩
  | 6 => ⟨S96, .f32⟩
  | 7 => ⟨S112, .f32⟩
  | 8 => ⟨S_, .f32⟩
  | 9 => ⟨S112, .f32⟩
  | 10 => ⟨S112, .f32⟩
  | 11 => ⟨S_, .f32⟩
  | 12 => ⟨S112, .f32⟩
  | 13 => ⟨S112, .f32⟩
  | 14 => ⟨S_, .f32⟩
  | 15 => ⟨S112, .f32⟩
  | 16 => ⟨S112, .f32⟩
  | 17 => ⟨S_, .f32⟩
  | 18 => ⟨S_, .f32⟩
  | 19 => ⟨S_, .f32⟩
  | 20 => ⟨S112, .f32⟩
  | 21 => ⟨S112, .f32⟩
  | 22 => ⟨S_, .f32⟩
  | 23 => ⟨S112, .f32⟩
  | 24 => ⟨S112, .f32⟩
  | 25 => ⟨S112, .f32⟩
  | 26 => ⟨S112, .i32⟩
  | 27 => ⟨S_, .i32⟩
  | 28 => ⟨S112, .i32⟩
  | 29 => ⟨S112, .i32⟩
  | 30 => ⟨S_, .i32⟩
  | 31 => ⟨S112, .i32⟩
  | 32 => ⟨S112, .i32⟩
  | 33 => ⟨S112, .f32⟩
  | 34 => ⟨S112, .f32⟩
  | 35 => ⟨S112, .f32⟩
  | 36 => ⟨S_, .f32⟩
  | 37 => ⟨S112, .f32⟩
  | 38 => ⟨S112, .f32⟩
  | 39 => ⟨S_, .f32⟩
  | 40 => ⟨S112, .f32⟩
  | 41 => ⟨S112, .f32⟩
  | 42 => ⟨S_, .f32⟩
  | 43 => ⟨S112, .f32⟩
  | 44 => ⟨S112, .f32⟩
  | 45 => ⟨S_, .f32⟩
  | 46 => ⟨S_, .f32⟩
  | 47 => ⟨S_, .f32⟩
  | 48 => ⟨S112, .f32⟩
  | 49 => ⟨S112, .f32⟩
  | 50 => ⟨S_, .f32⟩
  | 51 => ⟨S112, .f32⟩
  | 52 => ⟨S112, .f32⟩
  | 53 => ⟨S112, .f32⟩
  | 54 => ⟨S112, .i32⟩
  | 55 => ⟨S_, .i32⟩
  | 56 => ⟨S112, .i32⟩
  | 57 => ⟨S112, .i32⟩
  | 58 => ⟨S_, .i32⟩
  | 59 => ⟨S112, .i32⟩
  | 60 => ⟨S112, .i32⟩
  | 61 => ⟨S112, .f32⟩
  | 62 => ⟨S112, .f32⟩
  | 63 => ⟨S_, .i32⟩
  | 64 => ⟨S112, .i32⟩
  | 65 => ⟨S112, .i1⟩
  | 66 => ⟨S_, .i32⟩
  | 67 => ⟨S112, .i32⟩
  | 68 => ⟨S112, .i32⟩
  | 69 => ⟨S112, .i32⟩
  | 70 => ⟨S112x1, .i32⟩
  | 71 => ⟨S2x96x112x224, .f32⟩
  | 72 => ⟨S_, .f32⟩
  | 73 => ⟨S112, .f32⟩
  | 74 => ⟨S112, .f32⟩
  | 75 => ⟨S1x1x112x1, .f32⟩
  | 76 => ⟨S2x96x112x224, .f32⟩
  | 77 => ⟨S2x96x112x224, .f32⟩
  | 78 => ⟨S_, .i32⟩
  | 79 => ⟨S112, .i32⟩
  | 80 => ⟨S112, .i1⟩
  | 81 => ⟨S_, .i32⟩
  | 82 => ⟨S112, .i32⟩
  | 83 => ⟨S112, .i32⟩
  | 84 => ⟨S112, .i32⟩
  | 85 => ⟨S112x1, .i32⟩
  | 86 => ⟨S2x96x112x224, .f32⟩
  | 87 => ⟨S1x1x112x1, .f32⟩
  | 88 => ⟨S2x96x112x224, .f32⟩
  | 89 => ⟨S2x96x112x224, .f32⟩
  | 90 => ⟨S2x96x112x224, .f32⟩
  | 91 => ⟨S_, .i32⟩
  | 92 => ⟨S112, .i32⟩
  | 93 => ⟨S112, .i1⟩
  | 94 => ⟨S_, .i32⟩
  | 95 => ⟨S112, .i32⟩
  | 96 => ⟨S112, .i32⟩
  | 97 => ⟨S112, .i32⟩
  | 98 => ⟨S112x1, .i32⟩
  | 99 => ⟨S2x96x112x112, .f32⟩
  | 100 => ⟨S_, .f32⟩
  | 101 => ⟨S112, .f32⟩
  | 102 => ⟨S112, .f32⟩
  | 103 => ⟨S1x1x1x112, .f32⟩
  | 104 => ⟨S2x96x112x112, .f32⟩
  | 105 => ⟨S2x96x112x112, .f32⟩
  | 106 => ⟨S_, .i32⟩
  | 107 => ⟨S112, .i32⟩
  | 108 => ⟨S112, .i1⟩
  | 109 => ⟨S_, .i32⟩
  | 110 => ⟨S112, .i32⟩
  | 111 => ⟨S112, .i32⟩
  | 112 => ⟨S112, .i32⟩
  | 113 => ⟨S112x1, .i32⟩
  | 114 => ⟨S2x96x112x112, .f32⟩
  | 115 => ⟨S1x1x1x112, .f32⟩
  | 116 => ⟨S2x96x112x112, .f32⟩
  | 117 => ⟨S2x96x112x112, .f32⟩
  | 118 => ⟨S2x96x112x112, .f32⟩
  | 119 => ⟨S224, .f32⟩
  | 120 => ⟨S_, .f32⟩
  | 121 => ⟨S224, .f32⟩
  | 122 => ⟨S224, .f32⟩
  | 123 => ⟨S_, .f32⟩
  | 124 => ⟨S224, .f32⟩
  | 125 => ⟨S224, .f32⟩
  | 126 => ⟨S_, .f32⟩
  | 127 => ⟨S224, .f32⟩
  | _ => ⟨S2x96x224x224, .f32⟩

abbrev hbmTy0_1 (i : Nat) : BufTy := match i % 128 with
  | 0 => ⟨S224, .f32⟩
  | 1 => ⟨S_, .f32⟩
  | 2 => ⟨S_, .f32⟩
  | 3 => ⟨S_, .f32⟩
  | 4 => ⟨S224, .f32⟩
  | 5 => ⟨S224, .f32⟩
  | 6 => ⟨S_, .f32⟩
  | 7 => ⟨S224, .f32⟩
  | 8 => ⟨S224, .f32⟩
  | 9 => ⟨S224, .f32⟩
  | 10 => ⟨S224, .i32⟩
  | 11 => ⟨S_, .i32⟩
  | 12 => ⟨S224, .i32⟩
  | 13 => ⟨S224, .i32⟩
  | 14 => ⟨S_, .i32⟩
  | 15 => ⟨S224, .i32⟩
  | 16 => ⟨S224, .i32⟩
  | 17 => ⟨S224, .f32⟩
  | 18 => ⟨S224, .f32⟩
  | 19 => ⟨S224, .f32⟩
  | 20 => ⟨S_, .f32⟩
  | 21 => ⟨S224, .f32⟩
  | 22 => ⟨S224, .f32⟩
  | 23 => ⟨S_, .f32⟩
  | 24 => ⟨S224, .f32⟩
  | 25 => ⟨S224, .f32⟩
  | 26 => ⟨S_, .f32⟩
  | 27 => ⟨S224, .f32⟩
  | 28 => ⟨S224, .f32⟩
  | 29 => ⟨S_, .f32⟩
  | 30 => ⟨S_, .f32⟩
  | 31 => ⟨S_, .f32⟩
  | 32 => ⟨S224, .f32⟩
  | 33 => ⟨S224, .f32⟩
  | 34 => ⟨S_, .f32⟩
  | 35 => ⟨S224, .f32⟩
  | 36 => ⟨S224, .f32⟩
  | 37 => ⟨S224, .f32⟩
  | 38 => ⟨S224, .i32⟩
  | 39 => ⟨S_, .i32⟩
  | 40 => ⟨S224, .i32⟩
  | 41 => ⟨S224, .i32⟩
  | 42 => ⟨S_, .i32⟩
  | 43 => ⟨S224, .i32⟩
  | 44 => ⟨S224, .i32⟩
  | 45 => ⟨S224, .f32⟩
  | 46 => ⟨S224, .f32⟩
  | 47 => ⟨S_, .i32⟩
  | 48 => ⟨S224, .i32⟩
  | 49 => ⟨S224, .i1⟩
  | 50 => ⟨S_, .i32⟩
  | 51 => ⟨S224, .i32⟩
  | 52 => ⟨S224, .i32⟩
  | 53 => ⟨S224, .i32⟩
  | 54 => ⟨S224x1, .i32⟩
  | 55 => ⟨S2x96x224x112, .f32⟩
  | 56 => ⟨S_, .f32⟩
  | 57 => ⟨S224, .f32⟩
  | 58 => ⟨S224, .f32⟩
  | 59 => ⟨S1x1x224x1, .f32⟩
  | 60 => ⟨S2x96x224x112, .f32⟩
  | 61 => ⟨S2x96x224x112, .f32⟩
  | 62 => ⟨S_, .i32⟩
  | 63 => ⟨S224, .i32⟩
  | 64 => ⟨S224, .i1⟩
  | 65 => ⟨S_, .i32⟩
  | 66 => ⟨S224, .i32⟩
  | 67 => ⟨S224, .i32⟩
  | 68 => ⟨S224, .i32⟩
  | 69 => ⟨S224x1, .i32⟩
  | 70 => ⟨S2x96x224x112, .f32⟩
  | 71 => ⟨S1x1x224x1, .f32⟩
  | 72 => ⟨S2x96x224x112, .f32⟩
  | 73 => ⟨S2x96x224x112, .f32⟩
  | 74 => ⟨S2x96x224x112, .f32⟩
  | 75 => ⟨S_, .i32⟩
  | 76 => ⟨S224, .i32⟩
  | 77 => ⟨S224, .i1⟩
  | 78 => ⟨S_, .i32⟩
  | 79 => ⟨S224, .i32⟩
  | 80 => ⟨S224, .i32⟩
  | 81 => ⟨S224, .i32⟩
  | 82 => ⟨S224x1, .i32⟩
  | 83 => ⟨S2x96x224x224, .f32⟩
  | 84 => ⟨S_, .f32⟩
  | 85 => ⟨S224, .f32⟩
  | 86 => ⟨S224, .f32⟩
  | 87 => ⟨S1x1x1x224, .f32⟩
  | 88 => ⟨S2x96x224x224, .f32⟩
  | 89 => ⟨S2x96x224x224, .f32⟩
  | 90 => ⟨S_, .i32⟩
  | 91 => ⟨S224, .i32⟩
  | 92 => ⟨S224, .i1⟩
  | 93 => ⟨S_, .i32⟩
  | 94 => ⟨S224, .i32⟩
  | 95 => ⟨S224, .i32⟩
  | 96 => ⟨S224, .i32⟩
  | 97 => ⟨S224x1, .i32⟩
  | 98 => ⟨S2x96x224x224, .f32⟩
  | 99 => ⟨S1x1x1x224, .f32⟩
  | 100 => ⟨S2x96x224x224, .f32⟩
  | 101 => ⟨S2x96x224x224, .f32⟩
  | 102 => ⟨S2x96x224x224, .f32⟩
  | 103 => ⟨S2x96x224x224, .f32⟩
  | 104 => ⟨S2x96x224x224, .f32⟩
  | 105 => ⟨S_, .f32⟩
  | 106 => ⟨S2x224x224, .f32⟩
  | 107 => ⟨S2x1x224x224, .f32⟩
  | 108 => ⟨S2x50176, .f32⟩
  | 109 => ⟨S_, .f32⟩
  | 110 => ⟨S2, .f32⟩
  | 111 => ⟨S2x1x1x1, .f32⟩
  | 112 => ⟨S2x50176, .f32⟩
  | 113 => ⟨S_, .f32⟩
  | 114 => ⟨S2, .f32⟩
  | 115 => ⟨S2x1x1x1, .f32⟩
  | 116 => ⟨S2x1x224x224, .f32⟩
  | 117 => ⟨S2x1x224x224, .f32⟩
  | 118 => ⟨S2x1x1x1, .f32⟩
  | 119 => ⟨S_, .f32⟩
  | 120 => ⟨S2x1x1x1, .f32⟩
  | 121 => ⟨S2x1x1x1, .f32⟩
  | 122 => ⟨S2x1x224x224, .f32⟩
  | 123 => ⟨S2x1x224x224, .f32⟩
  | 124 => ⟨S2x1x224x224, .f32⟩
  | 125 => ⟨S2x1x224x224, .f32⟩
  | 126 => ⟨S_, .f32⟩
  | 127 => ⟨S2x1x224x224, .f32⟩
  | _ => ⟨S2x96x224x224, .f32⟩

abbrev hbmTy0_2 (i : Nat) : BufTy := match i % 128 with
  | 0 => ⟨S2x1x224x224, .i1⟩
  | 1 => ⟨S2x1x224x224, .f32⟩
  | 2 => ⟨S_, .f32⟩
  | 3 => ⟨S2x1x224x224, .f32⟩
  | 4 => ⟨S2x1x224x224, .f32⟩
  | 5 => ⟨S_, .f32⟩
  | 6 => ⟨S2x1x224x224, .f32⟩
  | 7 => ⟨S2x1x224x224, .f32⟩
  | 8 => ⟨S_, .f32⟩
  | 9 => ⟨S2x1x224x224, .f32⟩
  | 10 => ⟨S2x1x224x224, .f32⟩
  | 11 => ⟨S2x1x224x224, .f32⟩
  | 12 => ⟨S_, .f32⟩
  | 13 => ⟨S2x1x224x224, .f32⟩
  | 14 => ⟨S2x1x224x224, .f32⟩
  | 15 => ⟨S2x1x224x224, .f32⟩
  | 16 => ⟨S_, .f32⟩
  | 17 => ⟨S2x1x224x224, .f32⟩
  | 18 => ⟨S2x1x224x224, .f32⟩
  | 19 => ⟨S_, .i32⟩
  | 20 => ⟨S_, .f32⟩
  | 21 => ⟨S2x96x226x226, .f32⟩
  | 22 => ⟨S2x96x224x224, .f32⟩
  | 23 => ⟨S2x96x224x224, .f32⟩
  | 24 => ⟨S2x96x224x224, .f32⟩
  | 25 => ⟨S2x96x224x224, .f32⟩
  | 26 => ⟨S2x96x224x224, .f32⟩
  | 27 => ⟨S2x96x224x224, .f32⟩
  | 28 => ⟨S2x96x224x224, .f32⟩
  | 29 => ⟨S2x96x224x224, .f32⟩
  | 30 => ⟨S2x96x224x224, .f32⟩
  | 31 => ⟨S2x96x1x224x224, .f32⟩
  | 32 => ⟨S2x96x1x224x224, .f32⟩
  | 33 => ⟨S2x96x1x224x224, .f32⟩
  | 34 => ⟨S2x96x1x224x224, .f32⟩
  | 35 => ⟨S2x96x1x224x224, .f32⟩
  | 36 => ⟨S2x96x1x224x224, .f32⟩
  | 37 => ⟨S2x96x1x224x224, .f32⟩
  | 38 => ⟨S2x96x1x224x224, .f32⟩
  | 39 => ⟨S2x96x1x224x224, .f32⟩
  | 40 => ⟨S2x96x9x224x224, .f32⟩
  | 41 => ⟨S2x96x9x50176, .f32⟩
  | 42 => ⟨S2x96x50176, .f32⟩
  | 43 => ⟨S2x96x50176, .f32⟩
  | 44 => ⟨S_, .f32⟩
  | 45 => ⟨S2x50176, .f32⟩
  | 46 => ⟨S2x1x50176, .f32⟩
  | 47 => ⟨S2x1x50176, .f32⟩
  | 48 => ⟨S_, .f32⟩
  | 49 => ⟨S2x1x50176, .f32⟩
  | 50 => ⟨S2x1x50176, .f32⟩
  | 51 => ⟨S2x96x50176, .f32⟩
  | 52 => ⟨S2x96x50176, .f32⟩
  | 53 => ⟨S2x96x9x50176, .f32⟩
  | 54 => ⟨S_, .f32⟩
  | 55 => ⟨S2x9x50176, .f32⟩
  | 56 => ⟨S2x1x9x50176, .f32⟩
  | 57 => ⟨S2x1x9x50176, .f32⟩
  | 58 => ⟨S_, .f32⟩
  | 59 => ⟨S2x1x9x50176, .f32⟩
  | 60 => ⟨S2x1x9x50176, .f32⟩
  | 61 => ⟨S2x96x9x50176, .f32⟩
  | 62 => ⟨S2x96x9x50176, .f32⟩
  | 63 => ⟨S2x50176x9, .f32⟩
  | 64 => ⟨S2x50176, .f32⟩
  | 65 => ⟨S2x50176, .i32⟩
  | 66 => ⟨S_, .i32⟩
  | 67 => ⟨S2x50176, .i32⟩
  | 68 => ⟨S2x50176, .i32⟩
  | 69 => ⟨S9, .i32⟩
  | 70 => ⟨S1x1x9, .i32⟩
  | 71 => ⟨S2x50176x1, .i32⟩
  | 72 => ⟨S2x50176x9, .i32⟩
  | 73 => ⟨S2x50176x9, .i32⟩
  | 74 => ⟨S2x50176x9, .i1⟩
  | 75 => ⟨S2x50176x9, .f32⟩
  | 76 => ⟨S2x50176x9, .f32⟩
  | 77 => ⟨S2x50176x9, .i32⟩
  | 78 => ⟨S2x50176x9, .f32⟩
  | 79 => ⟨S2x50176x9, .i32⟩
  | 80 => ⟨S_, .i32⟩
  | 81 => ⟨S2x50176x9, .i32⟩
  | 82 => ⟨S2x50176x9, .i1⟩
  | 83 => ⟨S_, .i32⟩
  | 84 => ⟨S2x50176x9, .i32⟩
  | 85 => ⟨S2x50176x9, .i32⟩
  | 86 => ⟨S2x50176x9, .i32⟩
  | 87 => ⟨S2x50176x9x1, .i32⟩
  | 88 => ⟨S1, .i32⟩
  | 89 => ⟨S_, .i32⟩
  | 90 => ⟨S2x50176x9x1, .i32⟩
  | 91 => ⟨S2x50176x9x1, .i1⟩
  | 92 => ⟨S1x1x1x1, .i32⟩
  | 93 => ⟨S2x50176x9x1, .i32⟩
  | 94 => ⟨S2x50176x9x1, .i1⟩
  | 95 => ⟨S2x50176x9x1, .i1⟩
  | 96 => ⟨S_, .i1⟩
  | 97 => ⟨S2x50176x9, .i1⟩
  | 98 => ⟨S2x50176x9, .f32⟩
  | 99 => ⟨S_, .f32⟩
  | 100 => ⟨S2x50176x9, .f32⟩
  | 101 => ⟨S2x50176x9, .f32⟩
  | 102 => ⟨S2x50176x9, .f32⟩
  | 103 => ⟨S2x50176x9, .f32⟩
  | 104 => ⟨S_, .f32⟩
  | 105 => ⟨S2x50176, .f32⟩
  | 106 => ⟨S2x50176x1, .f32⟩
  | 107 => ⟨S_, .f32⟩
  | 108 => ⟨S2x50176x1, .f32⟩
  | 109 => ⟨S2x50176x1, .f32⟩
  | 110 => ⟨S2x50176x9, .f32⟩
  | 111 => ⟨S2x50176x9, .f32⟩
  | 112 => ⟨S2x50176x9x96, .f32⟩
  | 113 => ⟨S2x50176x9x1, .i32⟩
  | 114 => ⟨S_, .i32⟩
  | 115 => ⟨S2x50176x9x1, .i32⟩
  | 116 => ⟨S2x50176x9x1, .i1⟩
  | 117 => ⟨S_, .i32⟩
  | 118 => ⟨S2x50176x9x1, .i32⟩
  | 119 => ⟨S2x50176x9x1, .i32⟩
  | 120 => ⟨S2x50176x9x1, .i32⟩
  | 121 => ⟨S1, .i32⟩
  | 122 => ⟨S_, .i32⟩
  | 123 => ⟨S2x50176x9x1, .i32⟩
  | 124 => ⟨S2x50176x9x1, .i1⟩
  | 125 => ⟨S1x1x1x1, .i32⟩
  | 126 => ⟨S2x50176x9x1, .i32⟩
  | 127 => ⟨S2x50176x9x1, .i1⟩
  | _ => ⟨S2x96x224x224, .f32⟩

abbrev hbmTy0_3 (i : Nat) : BufTy := match i % 128 with
  | 0 => ⟨S2x50176x9x1, .i1⟩
  | 1 => ⟨S_, .i1⟩
  | 2 => ⟨S2x50176x9, .i1⟩
  | 3 => ⟨S2x50176x9x96, .f32⟩
  | 4 => ⟨S2x50176x9x96, .i1⟩
  | 5 => ⟨S_, .f32⟩
  | 6 => ⟨S2x50176x9x96, .f32⟩
  | 7 => ⟨S2x50176x9x96, .f32⟩
  | 8 => ⟨S2x50176x9x1, .f32⟩
  | 9 => ⟨S2x50176x9x96, .f32⟩
  | 10 => ⟨S2x50176x9x96, .f32⟩
  | 11 => ⟨S_, .f32⟩
  | 12 => ⟨S2x50176x96, .f32⟩
  | 13 => ⟨S2x96x50176, .f32⟩
  | 14 => ⟨S2x96x224x224, .f32⟩
  | 15 => ⟨S2x32x3x224x224, .f32⟩
  | 16 => ⟨S_, .f32⟩
  | 17 => ⟨S2x32, .f32⟩
  | 18 => ⟨S2x32x1x1x1, .f32⟩
  | 19 => ⟨S_, .f32⟩
  | 20 => ⟨S2x32x1x1x1, .f32⟩
  | 21 => ⟨S2x32x1x1x1, .f32⟩
  | 22 => ⟨S_, .i32⟩
  | 23 => ⟨S_, .f32⟩
  | 24 => ⟨S2x32, .f32⟩
  | 25 => ⟨S2x32x1x1x1, .f32⟩
  | 26 => ⟨S_, .f32⟩
  | 27 => ⟨S2x32x1x1x1, .f32⟩
  | 28 => ⟨S2x32x1x1x1, .f32⟩
  | 29 => ⟨S2x32x3x224x224, .f32⟩
  | 30 => ⟨S2x32x3x224x224, .f32⟩
  | 31 => ⟨S2x32x3x224x224, .f32⟩
  | 32 => ⟨S_, .f32⟩
  | 33 => ⟨S_, .f32⟩
  | 34 => ⟨S_, .f32⟩
  | 35 => ⟨S_, .f32⟩
  | 36 => ⟨S2x32, .f32⟩
  | 37 => ⟨S2x32x1x1x1, .f32⟩
  | 38 => ⟨S2x32x1x1x1, .f32⟩
  | 39 => ⟨S2x32x1x1x1, .f32⟩
  | 40 => ⟨S_, .f32⟩
  | 41 => ⟨S_, .i1⟩
  | 42 => ⟨S_, .f32⟩
  | 43 => ⟨S_, .f32⟩
  | 44 => ⟨S2x32x1x1x1, .f32⟩
  | 45 => ⟨S2x32x1x1x1, .f32⟩
  | 46 => ⟨S2x32x3x224x224, .f32⟩
  | 47 => ⟨S2x32x3x224x224, .f32⟩
  | 48 => ⟨S_, .f32⟩
  | 49 => ⟨S2x32x1x1x1, .f32⟩
  | 50 => ⟨S2x32x1x1x1, .f32⟩
  | 51 => ⟨S2x32x1x1x1, .f32⟩
  | 52 => ⟨S2x32x3x224x224, .f32⟩
  | 53 => ⟨S2x32x3x224x224, .f32⟩
  | 54 => ⟨S2x96x224x224, .f32⟩
  | 55 => ⟨S1x96x1x1, .f32⟩
  | 56 => ⟨S2x96x224x224, .f32⟩
  | 57 => ⟨S2x96x224x224, .f32⟩
  | 58 => ⟨S1x96x1x1, .f32⟩
  | 59 => ⟨S2x96x224x224, .f32⟩
  | 60 => ⟨S2x96x224x224, .f32⟩
  | 61 => ⟨S2x96x224x224, .f32⟩
  | 62 => ⟨S2x224x224x192, .f32⟩
  | 63 => ⟨S2x192x224x224, .f32⟩
  | 64 => ⟨S1x192x1x1, .f32⟩
  | 65 => ⟨S2x192x224x224, .f32⟩
  | 66 => ⟨S2x192x224x224, .f32⟩
  | 67 => ⟨S_, .f32⟩
  | 68 => ⟨S2x192x224x224, .f32⟩
  | 69 => ⟨S2x192x224x224, .f32⟩
  | 70 => ⟨S2x224x224x96, .f32⟩
  | 71 => ⟨S2x96x224x224, .f32⟩
  | 72 => ⟨S1x96x1x1, .f32⟩
  | 73 => ⟨S2x96x224x224, .f32⟩
  | 74 => ⟨S2x96x224x224, .f32⟩
  | 75 => ⟨S2x96x224x224, .f32⟩
  | _ => ⟨S2x96x224x224, .f32⟩

abbrev hbmTy (i : Nat) : BufTy := match i / 128 with
  | 0 => hbmTy0_0 i
  | 1 => hbmTy0_1 i
  | 2 => hbmTy0_2 i
  | 3 => hbmTy0_3 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_cst_6 : Ref sig .tc := ⟨.hbm, 39, rfl⟩
abbrev main_v19 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_v22 : Ref sig .tc := ⟨.hbm, 44, rfl⟩
abbrev main_cst_8 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_10 : Ref sig .tc := ⟨.hbm, 55, rfl⟩
abbrev main_v26 : Ref sig .tc := ⟨.hbm, 56, rfl⟩
abbrev main_v27 : Ref sig .tc := ⟨.hbm, 57, rfl⟩
abbrev main_c_11 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_12 : Ref sig .tc := ⟨.hbm, 63, rfl⟩
abbrev main_v32 : Ref sig .tc := ⟨.hbm, 64, rfl⟩
abbrev main_v33 : Ref sig .tc := ⟨.hbm, 65, rfl⟩
abbrev main_c_13 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_14 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_15 : Ref sig .tc := ⟨.hbm, 78, rfl⟩
abbrev main_v44 : Ref sig .tc := ⟨.hbm, 79, rfl⟩
abbrev main_v45 : Ref sig .tc := ⟨.hbm, 80, rfl⟩
abbrev main_c_16 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_17 : Ref sig .tc := ⟨.hbm, 91, rfl⟩
abbrev main_v55 : Ref sig .tc := ⟨.hbm, 92, rfl⟩
abbrev main_v56 : Ref sig .tc := ⟨.hbm, 93, rfl⟩
abbrev main_c_18 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_19 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_20 : Ref sig .tc := ⟨.hbm, 106, rfl⟩
abbrev main_v67 : Ref sig .tc := ⟨.hbm, 107, rfl⟩
abbrev main_v68 : Ref sig .tc := ⟨.hbm, 108, rfl⟩
abbrev main_c_21 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_22 : Ref sig .tc := ⟨.hbm, 120, rfl⟩
abbrev main_v79 : Ref sig .tc := ⟨.hbm, 121, rfl⟩
abbrev main_v80 : Ref sig .tc := ⟨.hbm, 122, rfl⟩
abbrev main_cst_23 : Ref sig .tc := ⟨.hbm, 123, rfl⟩
abbrev main_v81 : Ref sig .tc := ⟨.hbm, 124, rfl⟩
abbrev main_v82 : Ref sig .tc := ⟨.hbm, 125, rfl⟩
abbrev main_cst_24 : Ref sig .tc := ⟨.hbm, 126, rfl⟩
abbrev main_v83 : Ref sig .tc := ⟨.hbm, 127, rfl⟩
abbrev main_v84 : Ref sig .tc := ⟨.hbm, 128, rfl⟩
abbrev main_cst_25 : Ref sig .tc := ⟨.hbm, 129, rfl⟩
abbrev main_cst_26 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_c_27 : Ref sig .tc := ⟨.hbm, 139, rfl⟩
abbrev main_v88 : Ref sig .tc := ⟨.hbm, 140, rfl⟩
abbrev main_v89 : Ref sig .tc := ⟨.hbm, 141, rfl⟩
abbrev main_c_28 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_29 : Ref sig .tc := ⟨.hbm, 148, rfl⟩
abbrev main_v95 : Ref sig .tc := ⟨.hbm, 149, rfl⟩
abbrev main_v96 : Ref sig .tc := ⟨.hbm, 150, rfl⟩
abbrev main_cst_30 : Ref sig .tc := ⟨.hbm, 151, rfl⟩
abbrev main_v97 : Ref sig .tc := ⟨.hbm, 152, rfl⟩
abbrev main_v98 : Ref sig .tc := ⟨.hbm, 153, rfl⟩
abbrev main_cst_31 : Ref sig .tc := ⟨.hbm, 154, rfl⟩
abbrev main_v99 : Ref sig .tc := ⟨.hbm, 155, rfl⟩
abbrev main_v100 : Ref sig .tc := ⟨.hbm, 156, rfl⟩
abbrev main_cst_32 : Ref sig .tc := ⟨.hbm, 157, rfl⟩
abbrev main_cst_33 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_c_34 : Ref sig .tc := ⟨.hbm, 167, rfl⟩
abbrev main_v104 : Ref sig .tc := ⟨.hbm, 168, rfl⟩
abbrev main_v105 : Ref sig .tc := ⟨.hbm, 169, rfl⟩
abbrev main_c_35 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_c_36 : Ref sig .tc := ⟨.hbm, 175, rfl⟩
abbrev main_v110 : Ref sig .tc := ⟨.hbm, 176, rfl⟩
abbrev main_v111 : Ref sig .tc := ⟨.hbm, 177, rfl⟩
abbrev main_c_37 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_38 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_c_39 : Ref sig .tc := ⟨.hbm, 190, rfl⟩
abbrev main_v122 : Ref sig .tc := ⟨.hbm, 191, rfl⟩
abbrev main_v123 : Ref sig .tc := ⟨.hbm, 192, rfl⟩
abbrev main_c_40 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_c_41 : Ref sig .tc := ⟨.hbm, 203, rfl⟩
abbrev main_v133 : Ref sig .tc := ⟨.hbm, 204, rfl⟩
abbrev main_v134 : Ref sig .tc := ⟨.hbm, 205, rfl⟩
abbrev main_c_42 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_cst_43 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_c_44 : Ref sig .tc := ⟨.hbm, 218, rfl⟩
abbrev main_v145 : Ref sig .tc := ⟨.hbm, 219, rfl⟩
abbrev main_v146 : Ref sig .tc := ⟨.hbm, 220, rfl⟩
abbrev main_c_45 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_cst_46 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_cst_47 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_cst_48 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_cst_49 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_cst_50 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_cst_51 : Ref sig .tc := ⟨.hbm, 258, rfl⟩
abbrev main_v178 : Ref sig .tc := ⟨.hbm, 259, rfl⟩
abbrev main_v179 : Ref sig .tc := ⟨.hbm, 260, rfl⟩
abbrev main_cst_52 : Ref sig .tc := ⟨.hbm, 261, rfl⟩
abbrev main_v180 : Ref sig .tc := ⟨.hbm, 262, rfl⟩
abbrev main_v181 : Ref sig .tc := ⟨.hbm, 263, rfl⟩
abbrev main_cst_53 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_cst_54 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_cst_55 : Ref sig .tc := ⟨.hbm, 272, rfl⟩
abbrev main_v188 : Ref sig .tc := ⟨.hbm, 273, rfl⟩
abbrev main_v189 : Ref sig .tc := ⟨.hbm, 274, rfl⟩
abbrev main_c_56 : Ref sig .tc := ⟨.hbm, 275, rfl⟩
abbrev main_call5_v0 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_cst_57 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_cst_58 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_cst_59 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_cst_60 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_c_61 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_call6_v0 : Ref sig .tc := ⟨.hbm, 333, rfl⟩
abbrev main_call6_v1_0 : Ref sig .tc := ⟨.hbm, 334, rfl⟩
abbrev main_v241 : Ref sig .tc := ⟨.hbm, 335, rfl⟩
abbrev main_call7_c : Ref sig .tc := ⟨.hbm, 336, rfl⟩
abbrev main_call7_v0 : Ref sig .tc := ⟨.hbm, 337, rfl⟩
abbrev main_call7_v1 : Ref sig .tc := ⟨.hbm, 338, rfl⟩
abbrev main_call7_c_0 : Ref sig .tc := ⟨.hbm, 339, rfl⟩
abbrev main_call7_v2 : Ref sig .tc := ⟨.hbm, 340, rfl⟩
abbrev main_call7_v3 : Ref sig .tc := ⟨.hbm, 341, rfl⟩
abbrev main_call7_v4 : Ref sig .tc := ⟨.hbm, 342, rfl⟩
abbrev main_call7_v5 : Ref sig .tc := ⟨.hbm, 343, rfl⟩
abbrev main_call7_c_1 : Ref sig .tc := ⟨.hbm, 344, rfl⟩
abbrev main_call7_c_2 : Ref sig .tc := ⟨.hbm, 345, rfl⟩
abbrev main_call7_v6 : Ref sig .tc := ⟨.hbm, 346, rfl⟩
abbrev main_call7_v7 : Ref sig .tc := ⟨.hbm, 347, rfl⟩
abbrev main_call7_v8 : Ref sig .tc := ⟨.hbm, 348, rfl⟩
abbrev main_call7_v9 : Ref sig .tc := ⟨.hbm, 349, rfl⟩
abbrev main_call7_v10 : Ref sig .tc := ⟨.hbm, 350, rfl⟩
abbrev main_call7_v11 : Ref sig .tc := ⟨.hbm, 351, rfl⟩
abbrev main_call7_c_3 : Ref sig .tc := ⟨.hbm, 352, rfl⟩
abbrev main_call7_v12 : Ref sig .tc := ⟨.hbm, 353, rfl⟩
abbrev main_call7_v13 : Ref sig .tc := ⟨.hbm, 354, rfl⟩
abbrev main_call7_cst : Ref sig .tc := ⟨.hbm, 355, rfl⟩
abbrev main_call7_v14 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_cst_62 : Ref sig .tc := ⟨.hbm, 360, rfl⟩
abbrev main_v245 : Ref sig .tc := ⟨.hbm, 361, rfl⟩
abbrev main_v246 : Ref sig .tc := ⟨.hbm, 362, rfl⟩
abbrev main_cst_63 : Ref sig .tc := ⟨.hbm, 363, rfl⟩
abbrev main_v247 : Ref sig .tc := ⟨.hbm, 364, rfl⟩
abbrev main_v248 : Ref sig .tc := ⟨.hbm, 365, rfl⟩
abbrev main_v249 : Ref sig .tc := ⟨.hbm, 366, rfl⟩
abbrev main_v250 : Ref sig .tc := ⟨.hbm, 367, rfl⟩
abbrev main_v251 : Ref sig .tc := ⟨.hbm, 368, rfl⟩
abbrev main_v252 : Ref sig .tc := ⟨.hbm, 369, rfl⟩
abbrev main_call8_c : Ref sig .tc := ⟨.hbm, 370, rfl⟩
abbrev main_call8_v0 : Ref sig .tc := ⟨.hbm, 371, rfl⟩
abbrev main_call8_v1 : Ref sig .tc := ⟨.hbm, 372, rfl⟩
abbrev main_call8_c_0 : Ref sig .tc := ⟨.hbm, 373, rfl⟩
abbrev main_call8_v2 : Ref sig .tc := ⟨.hbm, 374, rfl⟩
abbrev main_call8_v3 : Ref sig .tc := ⟨.hbm, 375, rfl⟩
abbrev main_call8_v4 : Ref sig .tc := ⟨.hbm, 376, rfl⟩
abbrev main_call8_c_1 : Ref sig .tc := ⟨.hbm, 377, rfl⟩
abbrev main_call8_c_2 : Ref sig .tc := ⟨.hbm, 378, rfl⟩
abbrev main_call8_v5 : Ref sig .tc := ⟨.hbm, 379, rfl⟩
abbrev main_call8_v6 : Ref sig .tc := ⟨.hbm, 380, rfl⟩
abbrev main_call8_v7 : Ref sig .tc := ⟨.hbm, 381, rfl⟩
abbrev main_call8_v8 : Ref sig .tc := ⟨.hbm, 382, rfl⟩
abbrev main_call8_v9 : Ref sig .tc := ⟨.hbm, 383, rfl⟩
abbrev main_call8_v10 : Ref sig .tc := ⟨.hbm, 384, rfl⟩
abbrev main_call8_c_3 : Ref sig .tc := ⟨.hbm, 385, rfl⟩
abbrev main_call8_v11 : Ref sig .tc := ⟨.hbm, 386, rfl⟩
abbrev main_call8_v12 : Ref sig .tc := ⟨.hbm, 387, rfl⟩
abbrev main_call8_v13 : Ref sig .tc := ⟨.hbm, 388, rfl⟩
abbrev main_call8_cst : Ref sig .tc := ⟨.hbm, 389, rfl⟩
abbrev main_call8_v14 : Ref sig .tc := ⟨.hbm, 390, rfl⟩
abbrev main_v253 : Ref sig .tc := ⟨.hbm, 391, rfl⟩
abbrev main_v254 : Ref sig .tc := ⟨.hbm, 392, rfl⟩
abbrev main_v255 : Ref sig .tc := ⟨.hbm, 393, rfl⟩
abbrev main_v256 : Ref sig .tc := ⟨.hbm, 394, rfl⟩
abbrev main_cst_64 : Ref sig .tc := ⟨.hbm, 395, rfl⟩
abbrev main_v257 : Ref sig .tc := ⟨.hbm, 396, rfl⟩
abbrev main_v258 : Ref sig .tc := ⟨.hbm, 397, rfl⟩
abbrev main_v259 : Ref sig .tc := ⟨.hbm, 398, rfl⟩
abbrev main_v260 : Ref sig .tc := ⟨.hbm, 399, rfl⟩
abbrev main_cst_65 : Ref sig .tc := ⟨.hbm, 400, rfl⟩
abbrev main_v261 : Ref sig .tc := ⟨.hbm, 401, rfl⟩
abbrev main_v262 : Ref sig .tc := ⟨.hbm, 402, rfl⟩
abbrev main_cst_66 : Ref sig .tc := ⟨.hbm, 403, rfl⟩
abbrev main_v263 : Ref sig .tc := ⟨.hbm, 404, rfl⟩
abbrev main_v264 : Ref sig .tc := ⟨.hbm, 405, rfl⟩
abbrev main_c_67 : Ref sig .tc := ⟨.hbm, 406, rfl⟩
abbrev main_call9_cst : Ref sig .tc := ⟨.hbm, 407, rfl⟩
abbrev main_call9_v0 : Ref sig .tc := ⟨.hbm, 408, rfl⟩
abbrev main_call9_v1 : Ref sig .tc := ⟨.hbm, 409, rfl⟩
abbrev main_call9_cst_0 : Ref sig .tc := ⟨.hbm, 410, rfl⟩
abbrev main_call9_v2 : Ref sig .tc := ⟨.hbm, 411, rfl⟩
abbrev main_call9_v3 : Ref sig .tc := ⟨.hbm, 412, rfl⟩
abbrev main_call9_v4 : Ref sig .tc := ⟨.hbm, 413, rfl⟩
abbrev main_call9_v5 : Ref sig .tc := ⟨.hbm, 414, rfl⟩
abbrev main_call9_v6 : Ref sig .tc := ⟨.hbm, 415, rfl⟩
abbrev main_call9_v7 : Ref sig .tc := ⟨.hbm, 416, rfl⟩
abbrev main_call9_cst_1 : Ref sig .tc := ⟨.hbm, 417, rfl⟩
abbrev main_call9_v8 : Ref sig .tc := ⟨.hbm, 418, rfl⟩
abbrev main_call9_cst_2 : Ref sig .tc := ⟨.hbm, 419, rfl⟩
abbrev main_call9_v9 : Ref sig .tc := ⟨.hbm, 420, rfl⟩
abbrev main_call9_v10 : Ref sig .tc := ⟨.hbm, 421, rfl⟩
abbrev main_call9_v11 : Ref sig .tc := ⟨.hbm, 422, rfl⟩
abbrev main_call9_v12 : Ref sig .tc := ⟨.hbm, 423, rfl⟩
abbrev main_call9_cst_3 : Ref sig .tc := ⟨.hbm, 424, rfl⟩
abbrev main_call9_v13 : Ref sig .tc := ⟨.hbm, 425, rfl⟩
abbrev main_call9_cst_4 : Ref sig .tc := ⟨.hbm, 426, rfl⟩
abbrev main_call9_call0_v0 : Ref sig .tc := ⟨.hbm, 427, rfl⟩
abbrev main_call9_call0_v1 : Ref sig .tc := ⟨.hbm, 428, rfl⟩
abbrev main_v265 : Ref sig .tc := ⟨.hbm, 429, rfl⟩
abbrev main_v266 : Ref sig .tc := ⟨.hbm, 430, rfl⟩
abbrev main_v267 : Ref sig .tc := ⟨.hbm, 431, rfl⟩
abbrev main_cst_68 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_v280 : Ref sig .tc := ⟨.hbm, 445, rfl⟩
abbrev main_v281 : Ref sig .tc := ⟨.hbm, 446, rfl⟩
abbrev main_v282 : Ref sig .tc := ⟨.hbm, 447, rfl⟩
abbrev main_v283 : Ref sig .tc := ⟨.hbm, 448, rfl⟩
abbrev main_v284 : Ref sig .tc := ⟨.hbm, 449, rfl⟩
abbrev main_v285 : Ref sig .tc := ⟨.hbm, 450, rfl⟩
abbrev main_cst_69 : Ref sig .tc := ⟨.hbm, 451, rfl⟩
abbrev main_v286 : Ref sig .tc := ⟨.hbm, 452, rfl⟩
abbrev main_v287 : Ref sig .tc := ⟨.hbm, 453, rfl⟩
abbrev main_v288 : Ref sig .tc := ⟨.hbm, 454, rfl⟩
abbrev main_v289 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_v293 : Ref sig .tc := ⟨.hbm, 459, rfl⟩

abbrev nD : Nat := 1
abbrev τ : Topo := Topo.v7x

variable {F : FTy → Type} [FloatOps F]
-- ==== Proof.K.Spec.lean ====
module

public import Idealize.ShloMosaic.Lib.Pointwise

/-!
The values both programs compute, written per pixel over one image of the batch: padded neighbours,
similarities, the number of neighbours kept, ranks, weights, aggregation, normalisation, feed-forward.
-/

@[expose] public section

noncomputable section

namespace Cert.KV

open Idealize.ShloMosaic

/-! The constants the programs write, as numbers. -/

theorem top_f32 : Ideal.ofBits .f32 0x7F800000#32 = ⊤ := by simp [Ideal.ofBits, Ideal.ieee]
theorem bot_f32 : Ideal.ofBits .f32 0xFF800000#32 = ⊥ := by simp [Ideal.ofBits, Ideal.ieee]
theorem half_f32 : Ideal.ofBits .f32 0x3F000000#32 = ((1 / 2 : ℝ) : EReal) := by
  simp [Ideal.ofBits, Ideal.ieee]; rw [← EReal.coe_mul]; norm_num
theorem eighth_f32 : Ideal.ofBits .f32 0x3E000000#32 = ((1 / 8 : ℝ) : EReal) := by
  simp [Ideal.ofBits, Ideal.ieee]; rw [← EReal.coe_mul]; norm_num
theorem c3_8_f32 : Ideal.ofBits .f32 0x3EC00000#32 = ((3 / 8 : ℝ) : EReal) := by
  simp [Ideal.ofBits, Ideal.ieee]; rw [← EReal.coe_mul]; norm_num
theorem eps8_pos : ∃ e : ℝ, 0 < e ∧ Ideal.ofBits .f32 0x322BCC77#32 = (e : EReal) := by
  refine ⟨11258999 * 2 ^ (-50 : ℤ), by norm_num, ?_⟩; simp [Ideal.ofBits, Ideal.ieee]
theorem eps12_pos : ∃ e : ℝ, 0 < e ∧ Ideal.ofBits .f32 0x2B8CBCCC#32 = (e : EReal) := by
  refine ⟨9223372 * 2 ^ (-63 : ℤ), by norm_num, ?_⟩; simp [Ideal.ofBits, Ideal.ieee]
theorem eps5_pos : ∃ e : ℝ, 0 < e ∧ Ideal.ofBits .f32 0x3727C5AC#32 = (e : EReal) := by
  refine ⟨10995116 * 2 ^ (-40 : ℤ), by norm_num, ?_⟩; simp [Ideal.ofBits, Ideal.ieee]
theorem thr_f32 : ∃ e : ℝ, Ideal.ofBits .f32 0x3F666666#32 = (e : EReal) := by
  refine ⟨15099494 * 2 ^ (-24 : ℤ), ?_⟩; simp [Ideal.ofBits, Ideal.ieee]
theorem den_f32 : ∃ e : ℝ, 0 < e ∧ Ideal.ofBits .f32 0x3DCCCCCE#32 = (e : EReal) := by
  refine ⟨13421774 * 2 ^ (-27 : ℤ), by norm_num, ?_⟩; simp [Ideal.ofBits, Ideal.ieee]
theorem c15_f32 : Ideal.ofBits .f32 0x41700000#32 = ((15 : ℝ) : EReal) := by
  simp [Ideal.ofBits, Ideal.ieee]; rw [← EReal.coe_mul]; norm_num
theorem count_f32 : Ideal.ofBits .f32 0x48130000#32 = ((150528 : ℝ) : EReal) := by
  simp [Ideal.ofBits, Ideal.ieee]; rw [← EReal.coe_mul]; norm_num

theorem ltT {T : ℕ} (hT : T + 32 ≤ 224) (r : Fin 32) : T + r.val < 224 := by omega

/-- One image: channel, row, column. -/
abbrev Img := Fin 96 → Fin 224 → Fin 224 → EReal

/-- The image with a border of one zero on every side: `p`, `q` count from the border. -/
def xp (X : Img) (c : Fin 96) (p q : ℕ) : EReal :=
  if h : (1 ≤ p ∧ p ≤ 224) ∧ (1 ≤ q ∧ q ≤ 224) then X c ⟨p - 1, by omega⟩ ⟨q - 1, by omega⟩ else 0

/-- The column of channels of the `k`-th of the nine neighbours of the pixel. -/
def nbr (X : Img) (h w : Fin 224) (k : Fin 9) (c : Fin 96) : EReal := xp X c (h + k / 3) (w + k % 3)

/-- One over a column's length, the length at least the floor `1e-12`. -/
def invn (a : Fin 96 → EReal) : EReal := Ideal.div 1 (max (Ideal.sqrt (∑ c, a c * a c)) (Ideal.ofBits .f32 0x2B8CBCCC#32))

/-- The similarity of two columns. -/
def simS (a b : Fin 96 → EReal) : EReal := (∑ c, a c * b c) * invn a * invn b

/-- The nine similarities at a pixel. -/
def sims (X : Img) (h w : Fin 224) (k : Fin 9) : EReal := simS (fun c => X c h w) (nbr X h w k)

/-- The fourth power of the normalised detail. -/
def dpS (dmin dmax d : EReal) : EReal :=
  Ideal.div (d - dmin) (dmax - dmin + Ideal.ofBits .f32 0x322BCC77#32) * Ideal.div (d - dmin) (dmax - dmin + Ideal.ofBits .f32 0x322BCC77#32)
    * (Ideal.div (d - dmin) (dmax - dmin + Ideal.ofBits .f32 0x322BCC77#32) * Ideal.div (d - dmin) (dmax - dmin + Ideal.ofBits .f32 0x322BCC77#32))

/-- How many neighbours a pixel of detail power `p` keeps. -/
def cntS (p : EReal) : EReal :=
  1 + max (Ideal.liftRound Ideal.roundHalfEven (Ideal.div (p - Ideal.ofBits .f32 0x3F666666#32) (Ideal.ofBits .f32 0x3DCCCCCE#32) * Ideal.ofBits .f32 0x41700000#32)) 0
    * (if Ideal.ofBits .f32 0x3F666666#32 < p then 1 else 0)

/-- The rank of neighbour `j` when the similarities are sorted downwards, ties in order of position. -/
def rankN (s : Fin 9 → EReal) (j : Fin 9) : ℕ :=
  ∑ l : Fin 9, if (s j < s l ∨ (s j = s l ∧ l < j)) then 1 else 0

/-- The unnormalised weight of neighbour `j`. -/
def rawS (s : Fin 9 → EReal) (cn : EReal) (j : Fin 9) : EReal := Ideal.exp (s j) * (if ((rankN s j : ℕ) : EReal) < cn then 1 else 0)

/-- The weight of neighbour `j`. -/
def wtS (s : Fin 9 → EReal) (cn : EReal) (j : Fin 9) : EReal :=
  Ideal.div (rawS s cn j) (∑ k, rawS s cn k + Ideal.ofBits .f32 0x322BCC77#32)

/-- The nine neighbours added up by weight, column of the window by column. -/
def aggS (W n : Fin 9 → EReal) : EReal :=
  (W 0 * n 0 + W 3 * n 3 + W 6 * n 6) + (W 1 * n 1 + W 4 * n 4 + W 7 * n 7) + (W 2 * n 2 + W 5 * n 5 + W 8 * n 8)

/-- The group normalisation as the kernel applies it: one scale and one shift per channel. -/
def gnS (x mu var ga be : EReal) : EReal :=
  x * (ga * Ideal.div 1 (Ideal.sqrt (var + Ideal.ofBits .f32 0x3727C5AC#32)))
    + (be - mu * (ga * Ideal.div 1 (Ideal.sqrt (var + Ideal.ofBits .f32 0x3727C5AC#32))))

/-- The feed-forward layer with its residual, at channel `c` of the column `e`. -/
def ffnS (e : Fin 96 → EReal) (w1 : Fin 192 → Fin 96 → EReal) (b1 : Fin 192 → EReal) (w2 : Fin 96 → Fin 192 → EReal) (b2 : Fin 96 → EReal) (c : Fin 96) : EReal :=
  e c + ∑ o, w2 c o * max (∑ d, w1 o d * e d + b1 o) 0 + b2 c

theorem xp_in (X : Img) (c : Fin 96) (h w : Fin 224) (p q : ℕ) (hp : p = h + 1) (hq : q = w + 1) : xp X c p q = X c h w := by
  subst hp hq; simp only [xp]; rw [dif_pos (by omega)]; rfl

theorem xp_out (X : Img) (c : Fin 96) (p q : ℕ) (hp : ¬ ((1 ≤ p ∧ p ≤ 224) ∧ (1 ≤ q ∧ q ≤ 224))) : xp X c p q = 0 := by
  simp only [xp]; rw [dif_neg hp]

theorem simS_zero (a b : Fin 96 → EReal) (hb : ∀ c, b c = 0) : simS a b = 0 := by simp [simS, hb]

end Cert.KV

end
-- ==== Proof.K.Sims.lean ====
module

public import proofs.«01_k».proof.Proof.Gen.KernelIdeal.Skeleton
public import proofs.«01_k».proof.Proof.K.Spec

/-! The nine similarities one tile of the main call computes. -/

@[expose] public section

set_option maxRecDepth 16384
set_option maxHeartbeats 4000000

noncomputable section

namespace Cert.KV

open Cert.KernelIdeal Cert.KernelIdeal.Gen Idealize.ShloMosaic

/-- The similarities from the tile's rows, the rows above and the rows below. -/
def simV (v1 v6 v9 : FVec Ideal S96x32x224 .f32) (v36 v37 : FVec Ideal S32x224 .f32) : FVec Ideal S9x32x224 .f32 :=
  k1_pay26 v1 v9 (k1_pay12 v1) (k1_pay13 v9) (k1_pay14 v1) (k1_pay15 v1) (k1_pay17 v1 v6 v36 v37) (k1_pay20 (k1_pay12 v1) (k1_pay16 v36 v37) (k1_pay18 (F := Ideal)) (k1_pay19 v1 v6)) (k1_pay21 v6 (k1_pay12 v1) (k1_pay15 v1) (k1_pay16 v36 v37)) (k1_pay22 (k1_pay12 v1)) (k1_pay23 v1 (k1_pay12 v1) (k1_pay14 v1)) (k1_pay24 v1 (k1_pay12 v1)) (k1_pay25 v1 (k1_pay15 v1))

/-- One over the length of a pixel's own column. -/
theorem pay12_at (v1 : FVec Ideal S96x32x224 .f32) (r : Fin 32) (w : Fin 224) :
    k1_pay12 v1 (ix2 r w) = invn fun c => v1 (ix3 c r w) := by
  pointwise [k1_pay12, invn]

theorem zw : (((0#32 : BitVec 32).toInt : ℝ) : EReal) = 0 := by simp

/-- A neighbour outside the columns is zero, and so is its similarity. -/
theorem sims_out (X : Img) (h w : Fin 224) (k : Fin 9) (hk : (w : ℕ) + k % 3 = 0 ∨ (w : ℕ) + k % 3 = 225) : sims X h w k = 0 :=
  simS_zero _ _ fun c => xp_out X c _ _ (by omega)

section
variable (X : Img) (T : ℕ) (hT : T + 32 ≤ 224) (v1 v6 v9 : FVec Ideal S96x32x224 .f32) (v36 v37 : FVec Ideal S32x224 .f32)
  (h1 : ∀ c (r : Fin 32) (w : Fin 224), v1 (ix3 c r w) = X c ⟨T + r, ltT hT r⟩ w)
  (h6 : ∀ c (r : Fin 32) (w : Fin 224), v6 (ix3 c r w) = xp X c (T + r) (w + 1))
  (h9 : ∀ c (r : Fin 32) (w : Fin 224), v9 (ix3 c r w) = xp X c (T + r + 2) (w + 1))
  (h36 : ∀ (r : Fin 32) (w : Fin 224), v36 (ix2 r w) = Ideal.sqrt (∑ c, v6 (ix3 c r w) * v6 (ix3 c r w)))
  (h37 : ∀ (r : Fin 32) (w : Fin 224), v37 (ix2 r w) = Ideal.ofBits .f32 0x2B8CBCCC#32)

include h1 h6 h36 h37 in
theorem sim0 (r : Fin 32) (w : Fin 224) : simV v1 v6 v9 v36 v37 (ix3 (0 : Fin 9) r w) = sims X ⟨T + r, ltT hT r⟩ w 0 := by
  by_cases hw : (w : ℕ) < 1
  · rw [sims_out X _ w 0 (.inl (by simp; omega))]
    pointwise [simV, k1_pay26, k1_pay17, k1_pay14, k1_pay16]
    simp [hw]
  · have e : 1 + ((w : ℕ) - 1) = w := by omega
    have e2 : (w : ℕ) - 1 + 1 = w := by omega
    pointwise [simV, k1_pay26, k1_pay17, k1_pay14, k1_pay16]
    simp only [dif_neg hw, dif_pos (show (w : ℕ) < 225 by omega), e, dif_pos w.2, pay12_at, h36, h37, h6, e2]
    simp only [h1, sims, simS, invn, nbr]
    rfl

include h1 h6 h36 h37 in
theorem sim1 (r : Fin 32) (w : Fin 224) : simV v1 v6 v9 v36 v37 (ix3 (1 : Fin 9) r w) = sims X ⟨T + r, ltT hT r⟩ w 1 := by
  have e : 1 + (w : ℕ) - 1 = w := by omega
  pointwise [simV, k1_pay26, k1_pay20, k1_pay19, k1_pay18, k1_pay16]
  simp only [dif_pos (show 1 + (w : ℕ) < 225 by omega), pay12_at, h36, h37, h6]
  simp only [h1, sims, simS, invn, nbr]
  rfl

include h1 h6 h36 h37 in
theorem sim2 (r : Fin 32) (w : Fin 224) : simV v1 v6 v9 v36 v37 (ix3 (2 : Fin 9) r w) = sims X ⟨T + r, ltT hT r⟩ w 2 := by
  by_cases hw : 2 + (w : ℕ) < 225
  · have e : 2 + (w : ℕ) - 1 - 1 = w := by omega
    have e2 : 2 + (w : ℕ) - 1 + 1 = w + 2 := by omega
    pointwise [simV, k1_pay26, k1_pay21, k1_pay15, k1_pay16]
    simp only [dif_pos hw, dif_neg (show ¬ 2 + (w : ℕ) < 1 by omega), dif_neg (show ¬ 2 + (w : ℕ) - 1 < 1 by omega), e, pay12_at, h36, h37, h6, e2]
    simp only [h1, sims, simS, invn, nbr]
    rfl
  · rw [sims_out X _ w 2 (.inr (by simp; omega))]
    pointwise [simV, k1_pay26, k1_pay21, k1_pay15, k1_pay16]
    simp [hw]

include h1 in
theorem sim3 (r : Fin 32) (w : Fin 224) : simV v1 v6 v9 v36 v37 (ix3 (3 : Fin 9) r w) = sims X ⟨T + r, ltT hT r⟩ w 3 := by
  have hx := fun c (r : Fin 32) (w : Fin 224) => (h1 c r w).trans (xp_in X c ⟨T + r, ltT hT r⟩ w (T + r + 1) (w + 1) rfl rfl).symm
  have hX := fun c => (xp_in X c ⟨T + r, ltT hT r⟩ w (T + r + 1) (w + 1) rfl rfl).symm
  by_cases hw : (w : ℕ) < 1
  · rw [sims_out X _ w 3 (.inl (by simp; omega))]
    pointwise [simV, k1_pay26, k1_pay23, k1_pay22, k1_pay14, k1_pay22]
    simp [hw]
  · have e : 1 + ((w : ℕ) - 1) = w := by omega
    have e2 : (w : ℕ) - 1 + 1 = w := by omega
    pointwise [simV, k1_pay26, k1_pay23, k1_pay22, k1_pay14, k1_pay22]
    simp only [dif_neg hw, dif_pos (show (w : ℕ) < 225 by omega), e, dif_pos w.2, pay12_at, hx, e2]
    simp only [sims, simS, invn, nbr, hX]
    rfl

include h1 in
theorem sim4 (r : Fin 32) (w : Fin 224) : simV v1 v6 v9 v36 v37 (ix3 (4 : Fin 9) r w) = sims X ⟨T + r, ltT hT r⟩ w 4 := by
  have hx := fun c (r : Fin 32) (w : Fin 224) => (h1 c r w).trans (xp_in X c ⟨T + r, ltT hT r⟩ w (T + r + 1) (w + 1) rfl rfl).symm
  have hX := fun c => (xp_in X c ⟨T + r, ltT hT r⟩ w (T + r + 1) (w + 1) rfl rfl).symm
  have e : 1 + (w : ℕ) - 1 = w := by omega
  pointwise [simV, k1_pay26, k1_pay24, k1_pay22]
  simp only [dif_pos (show 1 + (w : ℕ) < 225 by omega), pay12_at, hx]
  simp only [sims, simS, invn, nbr, hX]
  rfl

include h1 in
theorem sim5 (r : Fin 32) (w : Fin 224) : simV v1 v6 v9 v36 v37 (ix3 (5 : Fin 9) r w) = sims X ⟨T + r, ltT hT r⟩ w 5 := by
  have hx := fun c (r : Fin 32) (w : Fin 224) => (h1 c r w).trans (xp_in X c ⟨T + r, ltT hT r⟩ w (T + r + 1) (w + 1) rfl rfl).symm
  have hX := fun c => (xp_in X c ⟨T + r, ltT hT r⟩ w (T + r + 1) (w + 1) rfl rfl).symm
  by_cases hw : 2 + (w : ℕ) < 225
  · have e : 2 + (w : ℕ) - 1 - 1 = w := by omega
    have e2 : 2 + (w : ℕ) - 1 + 1 = w + 2 := by omega
    pointwise [simV, k1_pay26, k1_pay25, k1_pay15, k1_pay22]
    simp only [dif_pos hw, dif_neg (show ¬ 2 + (w : ℕ) < 1 by omega), dif_neg (show ¬ 2 + (w : ℕ) - 1 < 1 by omega), e, pay12_at, hx, e2]
    simp only [sims, simS, invn, nbr, hX]
    rfl
  · rw [sims_out X _ w 5 (.inr (by simp; omega))]
    pointwise [simV, k1_pay26, k1_pay25, k1_pay15, k1_pay22]
    simp [hw]

include h1 h9 in
theorem sim6 (r : Fin 32) (w : Fin 224) : simV v1 v6 v9 v36 v37 (ix3 (6 : Fin 9) r w) = sims X ⟨T + r, ltT hT r⟩ w 6 := by
  by_cases hw : (w : ℕ) < 1
  · rw [sims_out X _ w 6 (.inl (by simp; omega))]
    pointwise [simV, k1_pay26, k1_pay14, k1_pay13]
    simp [hw]
  · have e : 1 + ((w : ℕ) - 1) = w := by omega
    have e2 : (w : ℕ) - 1 + 1 = w := by omega
    pointwise [simV, k1_pay26, k1_pay14, k1_pay13]
    simp only [dif_neg hw, dif_pos (show (w : ℕ) < 225 by omega), e, dif_pos w.2, pay12_at, h9, e2]
    simp only [h1, sims, simS, invn, nbr]
    rfl

include h1 h9 in
theorem sim7 (r : Fin 32) (w : Fin 224) : simV v1 v6 v9 v36 v37 (ix3 (7 : Fin 9) r w) = sims X ⟨T + r, ltT hT r⟩ w 7 := by
  have e : 1 + (w : ℕ) - 1 = w := by omega
  pointwise [simV, k1_pay26, k1_pay13]
  simp only [dif_pos (show 1 + (w : ℕ) < 225 by omega), pay12_at, h9]
  simp only [h1, sims, simS, invn, nbr]
  rfl

include h1 h9 in
theorem sim8 (r : Fin 32) (w : Fin 224) : simV v1 v6 v9 v36 v37 (ix3 (8 : Fin 9) r w) = sims X ⟨T + r, ltT hT r⟩ w 8 := by
  by_cases hw : 2 + (w : ℕ) < 225
  · have e : 2 + (w : ℕ) - 1 - 1 = w := by omega
    have e2 : 2 + (w : ℕ) - 1 + 1 = w + 2 := by omega
    pointwise [simV, k1_pay26, k1_pay15, k1_pay13]
    simp only [dif_pos hw, dif_neg (show ¬ 2 + (w : ℕ) < 1 by omega), dif_neg (show ¬ 2 + (w : ℕ) - 1 < 1 by omega), e, pay12_at, h9, e2]
    simp only [h1, sims, simS, invn, nbr]
    rfl
  · rw [sims_out X _ w 8 (.inr (by simp; omega))]
    pointwise [simV, k1_pay26, k1_pay15, k1_pay13]
    simp [hw]

include h1 h6 h9 h36 h37 in
/-- The tile's nine similarities are those of the image. -/
theorem simV_at (k : Fin 9) (r : Fin 32) (w : Fin 224) : simV v1 v6 v9 v36 v37 (ix3 k r w) = sims X ⟨T + r, ltT hT r⟩ w k := by
  fin_cases k
  · exact sim0 X T hT v1 v6 v9 v36 v37 h1 h6 h36 h37 r w
  · exact sim1 X T hT v1 v6 v9 v36 v37 h1 h6 h36 h37 r w
  · exact sim2 X T hT v1 v6 v9 v36 v37 h1 h6 h36 h37 r w
  · exact sim3 X T hT v1 v6 v9 v36 v37 h1 r w
  · exact sim4 X T hT v1 v6 v9 v36 v37 h1 r w
  · exact sim5 X T hT v1 v6 v9 v36 v37 h1 r w
  · exact sim6 X T hT v1 v6 v9 v36 v37 h1 h9 r w
  · exact sim7 X T hT v1 v6 v9 v36 v37 h1 h9 r w
  · exact sim8 X T hT v1 v6 v9 v36 v37 h1 h9 r w

end

end Cert.KV

end
-- ==== Proof.K.Ranks.lean ====
module

public import proofs.«01_k».proof.Proof.Gen.KernelIdeal.Skeleton
public import proofs.«01_k».proof.Proof.K.Spec

/-! The ranks one tile of the main call computes from its nine similarities. -/

@[expose] public section

set_option maxRecDepth 16384
set_option maxHeartbeats 4000000

noncomputable section

namespace Cert.KV

open Cert.KernelIdeal Cert.KernelIdeal.Gen Idealize.ShloMosaic

/-- A comparison bit read as a float. -/
theorem bit_at (p : Prop) [Decidable p] : FloatOps.sitofp (F := Ideal) FTy.f32 (BitVec.setWidth 32 (BitVec.ofBool (decide p))) = (((if p then 1 else 0 : ℕ) : ℝ) : EReal) := by
  by_cases h : p <;> simp [h, FloatOps.sitofp]

theorem one_sub_bit (p : Prop) [Decidable p] : (1 : EReal) - (((if p then 1 else 0 : ℕ) : ℝ) : EReal) = (((if p then 0 else 1 : ℕ) : ℝ) : EReal) := by
  have e : (1 : EReal) - 1 = 0 := by rw [← EReal.coe_one, ← EReal.coe_sub]; simp
  by_cases h : p <;> simp [h, e]

theorem coe_add' (a b : ℕ) : (((a : ℕ) : ℝ) : EReal) + ((b : ℕ) : ℝ) = (((a + b : ℕ) : ℝ) : EReal) := by push_cast; rfl

theorem sum9 {M : Type} [AddCommMonoid M] (f : Fin 9 → M) : ∑ l, f l = f 0 + f 1 + f 2 + f 3 + f 4 + f 5 + f 6 + f 7 + f 8 := by
  rw [Fin.sum_univ_castSucc, Fin.sum_univ_eight]; rfl

theorem rkL (s : Fin 9 → EReal) (l j : Fin 9) (h : l < j) : (if (s j < s l ∨ (s j = s l ∧ l < j)) then 1 else 0 : ℕ) = if s j ≤ s l then 1 else 0 := by
  simp [h, le_iff_lt_or_eq]

theorem rkE (s : Fin 9 → EReal) (j : Fin 9) : (if (s j < s j ∨ (s j = s j ∧ j < j)) then 1 else 0 : ℕ) = 0 := by simp

theorem rkG (s : Fin 9 → EReal) (l j : Fin 9) (h : j < l) : (if (s j < s l ∨ (s j = s l ∧ l < j)) then 1 else 0 : ℕ) = if s l ≤ s j then 0 else 1 := by
  have : ¬ l < j := by omega
  by_cases h' : s l ≤ s j
  · simp [h', this, not_lt.2 h']
  · simp [h', not_le.1 h']

theorem rankN_0 (s : Fin 9 → EReal) : rankN s 0 = (if s 1 ≤ s 0 then 0 else 1) + (if s 2 ≤ s 0 then 0 else 1) + (if s 3 ≤ s 0 then 0 else 1) + (if s 4 ≤ s 0 then 0 else 1) + (if s 5 ≤ s 0 then 0 else 1) + (if s 6 ≤ s 0 then 0 else 1) + (if s 7 ≤ s 0 then 0 else 1) + (if s 8 ≤ s 0 then 0 else 1) := by
  rw [rankN, sum9, rkE s 0, rkG s 1 0 (by decide), rkG s 2 0 (by decide), rkG s 3 0 (by decide), rkG s 4 0 (by decide), rkG s 5 0 (by decide), rkG s 6 0 (by decide), rkG s 7 0 (by decide), rkG s 8 0 (by decide)]
  simp only [add_zero, zero_add]

theorem rankN_1 (s : Fin 9 → EReal) : rankN s 1 = (if s 1 ≤ s 0 then 1 else 0) + (if s 2 ≤ s 1 then 0 else 1) + (if s 3 ≤ s 1 then 0 else 1) + (if s 4 ≤ s 1 then 0 else 1) + (if s 5 ≤ s 1 then 0 else 1) + (if s 6 ≤ s 1 then 0 else 1) + (if s 7 ≤ s 1 then 0 else 1) + (if s 8 ≤ s 1 then 0 else 1) := by
  rw [rankN, sum9, rkL s 0 1 (by decide), rkE s 1, rkG s 2 1 (by decide), rkG s 3 1 (by decide), rkG s 4 1 (by decide), rkG s 5 1 (by decide), rkG s 6 1 (by decide), rkG s 7 1 (by decide), rkG s 8 1 (by decide)]
  simp only [add_zero, zero_add]

theorem rankN_2 (s : Fin 9 → EReal) : rankN s 2 = (if s 2 ≤ s 0 then 1 else 0) + (if s 2 ≤ s 1 then 1 else 0) + (if s 3 ≤ s 2 then 0 else 1) + (if s 4 ≤ s 2 then 0 else 1) + (if s 5 ≤ s 2 then 0 else 1) + (if s 6 ≤ s 2 then 0 else 1) + (if s 7 ≤ s 2 then 0 else 1) + (if s 8 ≤ s 2 then 0 else 1) := by
  rw [rankN, sum9, rkL s 0 2 (by decide), rkL s 1 2 (by decide), rkE s 2, rkG s 3 2 (by decide), rkG s 4 2 (by decide), rkG s 5 2 (by decide), rkG s 6 2 (by decide), rkG s 7 2 (by decide), rkG s 8 2 (by decide)]
  simp only [add_zero, zero_add]

theorem rankN_3 (s : Fin 9 → EReal) : rankN s 3 = (if s 3 ≤ s 0 then 1 else 0) + (if s 3 ≤ s 1 then 1 else 0) + (if s 3 ≤ s 2 then 1 else 0) + (if s 4 ≤ s 3 then 0 else 1) + (if s 5 ≤ s 3 then 0 else 1) + (if s 6 ≤ s 3 then 0 else 1) + (if s 7 ≤ s 3 then 0 else 1) + (if s 8 ≤ s 3 then 0 else 1) := by
  rw [rankN, sum9, rkL s 0 3 (by decide), rkL s 1 3 (by decide), rkL s 2 3 (by decide), rkE s 3, rkG s 4 3 (by decide), rkG s 5 3 (by decide), rkG s 6 3 (by decide), rkG s 7 3 (by decide), rkG s 8 3 (by decide)]
  simp only [add_zero, zero_add]

theorem rankN_4 (s : Fin 9 → EReal) : rankN s 4 = (if s 4 ≤ s 0 then 1 else 0) + (if s 4 ≤ s 1 then 1 else 0) + (if s 4 ≤ s 2 then 1 else 0) + (if s 4 ≤ s 3 then 1 else 0) + (if s 5 ≤ s 4 then 0 else 1) + (if s 6 ≤ s 4 then 0 else 1) + (if s 7 ≤ s 4 then 0 else 1) + (if s 8 ≤ s 4 then 0 else 1) := by
  rw [rankN, sum9, rkL s 0 4 (by decide), rkL s 1 4 (by decide), rkL s 2 4 (by decide), rkL s 3 4 (by decide), rkE s 4, rkG s 5 4 (by decide), rkG s 6 4 (by decide), rkG s 7 4 (by decide), rkG s 8 4 (by decide)]
  simp only [add_zero, zero_add]

theorem rankN_5 (s : Fin 9 → EReal) : rankN s 5 = (if s 5 ≤ s 0 then 1 else 0) + (if s 5 ≤ s 1 then 1 else 0) + (if s 5 ≤ s 2 then 1 else 0) + (if s 5 ≤ s 3 then 1 else 0) + (if s 5 ≤ s 4 then 1 else 0) + (if s 6 ≤ s 5 then 0 else 1) + (if s 7 ≤ s 5 then 0 else 1) + (if s 8 ≤ s 5 then 0 else 1) := by
  rw [rankN, sum9, rkL s 0 5 (by decide), rkL s 1 5 (by decide), rkL s 2 5 (by decide), rkL s 3 5 (by decide), rkL s 4 5 (by decide), rkE s 5, rkG s 6 5 (by decide), rkG s 7 5 (by decide), rkG s 8 5 (by decide)]
  simp only [add_zero, zero_add]

theorem rankN_6 (s : Fin 9 → EReal) : rankN s 6 = (if s 6 ≤ s 0 then 1 else 0) + (if s 6 ≤ s 1 then 1 else 0) + (if s 6 ≤ s 2 then 1 else 0) + (if s 6 ≤ s 3 then 1 else 0) + (if s 6 ≤ s 4 then 1 else 0) + (if s 6 ≤ s 5 then 1 else 0) + (if s 7 ≤ s 6 then 0 else 1) + (if s 8 ≤ s 6 then 0 else 1) := by
  rw [rankN, sum9, rkL s 0 6 (by decide), rkL s 1 6 (by decide), rkL s 2 6 (by decide), rkL s 3 6 (by decide), rkL s 4 6 (by decide), rkL s 5 6 (by decide), rkE s 6, rkG s 7 6 (by decide), rkG s 8 6 (by decide)]
  simp only [add_zero, zero_add]

theorem rankN_7 (s : Fin 9 → EReal) : rankN s 7 = (if s 7 ≤ s 0 then 1 else 0) + (if s 7 ≤ s 1 then 1 else 0) + (if s 7 ≤ s 2 then 1 else 0) + (if s 7 ≤ s 3 then 1 else 0) + (if s 7 ≤ s 4 then 1 else 0) + (if s 7 ≤ s 5 then 1 else 0) + (if s 7 ≤ s 6 then 1 else 0) + (if s 8 ≤ s 7 then 0 else 1) := by
  rw [rankN, sum9, rkL s 0 7 (by decide), rkL s 1 7 (by decide), rkL s 2 7 (by decide), rkL s 3 7 (by decide), rkL s 4 7 (by decide), rkL s 5 7 (by decide), rkL s 6 7 (by decide), rkE s 7, rkG s 8 7 (by decide)]
  simp only [add_zero, zero_add]

theorem rankN_8 (s : Fin 9 → EReal) : rankN s 8 = (if s 8 ≤ s 0 then 1 else 0) + (if s 8 ≤ s 1 then 1 else 0) + (if s 8 ≤ s 2 then 1 else 0) + (if s 8 ≤ s 3 then 1 else 0) + (if s 8 ≤ s 4 then 1 else 0) + (if s 8 ≤ s 5 then 1 else 0) + (if s 8 ≤ s 6 then 1 else 0) + (if s 8 ≤ s 7 then 1 else 0) := by
  rw [rankN, sum9, rkL s 0 8 (by decide), rkL s 1 8 (by decide), rkL s 2 8 (by decide), rkL s 3 8 (by decide), rkL s 4 8 (by decide), rkL s 5 8 (by decide), rkL s 6 8 (by decide), rkL s 7 8 (by decide), rkE s 8]
  simp only [add_zero, zero_add]

/-- The rank of neighbour 0. -/
theorem rank0 (s : FVec Ideal S9x32x224 .f32) (r : Fin 32) (w : Fin 224) :
    (k1_pay54 s (k1_pay47 s (k1_pay28 (F := Ideal)) (k1_pay37 s)) (k1_pay48 s)) (ix2 r w) = ((rankN (fun k => s (ix3 k r w)) 0 : ℕ) : ℝ) := by
  pointwise [k1_pay28, k1_pay37, k1_pay39, k1_pay41, k1_pay43, k1_pay45, k1_pay47, k1_pay48, k1_pay50, k1_pay52, k1_pay54]
  simp only [bit_at, one_sub_bit, coe_add', zero_add]
  rw [rankN_0]

/-- The rank of neighbour 1. -/
theorem rank1 (s : FVec Ideal S9x32x224 .f32) (r : Fin 32) (w : Fin 224) :
    (k1_pay70 s (k1_pay59 s (k1_pay38 (k1_pay29 (F := Ideal)) (k1_pay37 s))) (k1_pay60 s)) (ix2 r w) = ((rankN (fun k => s (ix3 k r w)) 1 : ℕ) : ℝ) := by
  pointwise [k1_pay29, k1_pay37, k1_pay38, k1_pay55, k1_pay57, k1_pay59, k1_pay60, k1_pay62, k1_pay64, k1_pay66, k1_pay68, k1_pay70]
  simp only [bit_at, one_sub_bit, coe_add', zero_add]
  rw [rankN_1]

/-- The rank of neighbour 2. -/
theorem rank2 (s : FVec Ideal S9x32x224 .f32) (r : Fin 32) (w : Fin 224) :
    (k1_pay84 (k1_pay81 s (k1_pay56 s (k1_pay40 s (k1_pay30 (F := Ideal)))) (k1_pay71 s)) (k1_pay82 s)) (ix2 r w) = ((rankN (fun k => s (ix3 k r w)) 2 : ℕ) : ℝ) := by
  pointwise [k1_pay30, k1_pay39, k1_pay40, k1_pay55, k1_pay56, k1_pay71, k1_pay73, k1_pay75, k1_pay77, k1_pay79, k1_pay81, k1_pay82, k1_pay84]
  simp only [bit_at, one_sub_bit, coe_add', zero_add]
  rw [rankN_2]

/-- The rank of neighbour 3. -/
theorem rank3 (s : FVec Ideal S9x32x224 .f32) (r : Fin 32) (w : Fin 224) :
    (k1_pay95 (k1_pay93 s (k1_pay72 (k1_pay58 s (k1_pay42 s (k1_pay31 (F := Ideal)))) (k1_pay71 s))) (k1_pay94 s)) (ix2 r w) = ((rankN (fun k => s (ix3 k r w)) 3 : ℕ) : ℝ) := by
  pointwise [k1_pay31, k1_pay41, k1_pay42, k1_pay57, k1_pay58, k1_pay71, k1_pay72, k1_pay85, k1_pay87, k1_pay89, k1_pay91, k1_pay93, k1_pay94, k1_pay95]
  simp only [bit_at, one_sub_bit, coe_add', zero_add]
  rw [rankN_3]

/-- The rank of neighbour 4. -/
theorem rank4 (s : FVec Ideal S9x32x224 .f32) (r : Fin 32) (w : Fin 224) :
    (k1_pay104 s (k1_pay86 s (k1_pay74 s (k1_pay61 (k1_pay44 s (k1_pay32 (F := Ideal))) (k1_pay60 s))))) (ix2 r w) = ((rankN (fun k => s (ix3 k r w)) 4 : ℕ) : ℝ) := by
  pointwise [k1_pay32, k1_pay43, k1_pay44, k1_pay60, k1_pay61, k1_pay73, k1_pay74, k1_pay85, k1_pay86, k1_pay96, k1_pay98, k1_pay100, k1_pay102, k1_pay104]
  simp only [bit_at, one_sub_bit, coe_add', zero_add]
  rw [rankN_4]

/-- The rank of neighbour 5. -/
theorem rank5 (s : FVec Ideal S9x32x224 .f32) (r : Fin 32) (w : Fin 224) :
    (k1_pay108 s (k1_pay97 s (k1_pay88 s (k1_pay76 s (k1_pay63 s (k1_pay46 s (k1_pay33 (F := Ideal))))))) (k1_pay105 s)) (ix2 r w) = ((rankN (fun k => s (ix3 k r w)) 5 : ℕ) : ℝ) := by
  pointwise [k1_pay33, k1_pay45, k1_pay46, k1_pay62, k1_pay63, k1_pay75, k1_pay76, k1_pay87, k1_pay88, k1_pay96, k1_pay97, k1_pay105, k1_pay106, k1_pay107, k1_pay108]
  simp only [bit_at, one_sub_bit, coe_add', zero_add]
  rw [rankN_5]

/-- The rank of neighbour 6. -/
theorem rank6 (s : FVec Ideal S9x32x224 .f32) (r : Fin 32) (w : Fin 224) :
    (k1_pay113 s (k1_pay99 s (k1_pay90 s (k1_pay78 s (k1_pay65 s (k1_pay49 (k1_pay34 (F := Ideal)) (k1_pay48 s)))))) (k1_pay105 s)) (ix2 r w) = ((rankN (fun k => s (ix3 k r w)) 6 : ℕ) : ℝ) := by
  pointwise [k1_pay34, k1_pay48, k1_pay49, k1_pay64, k1_pay65, k1_pay77, k1_pay78, k1_pay89, k1_pay90, k1_pay98, k1_pay99, k1_pay105, k1_pay109, k1_pay111, k1_pay113]
  simp only [bit_at, one_sub_bit, coe_add', zero_add]
  rw [rankN_6]

/-- The rank of neighbour 7. -/
theorem rank7 (s : FVec Ideal S9x32x224 .f32) (r : Fin 32) (w : Fin 224) :
    (k1_pay110 s (k1_pay101 s (k1_pay92 s (k1_pay80 s (k1_pay67 s (k1_pay51 s (k1_pay35 (F := Ideal)))))))) (ix2 r w) + (1 - (k1_pay114 s) (ix2 r w)) = ((rankN (fun k => s (ix3 k r w)) 7 : ℕ) : ℝ) := by
  pointwise [k1_pay35, k1_pay50, k1_pay51, k1_pay66, k1_pay67, k1_pay79, k1_pay80, k1_pay91, k1_pay92, k1_pay100, k1_pay101, k1_pay106, k1_pay109, k1_pay110, k1_pay114]
  simp only [bit_at, one_sub_bit, coe_add', zero_add]
  rw [rankN_7]

/-- The rank of neighbour 8. -/
theorem rank8 (s : FVec Ideal S9x32x224 .f32) (r : Fin 32) (w : Fin 224) :
    (k1_pay112 s (k1_pay103 s (k1_pay83 (k1_pay69 s (k1_pay53 s (k1_pay36 (F := Ideal)))) (k1_pay82 s)) (k1_pay94 s))) (ix2 r w) + (k1_pay114 s) (ix2 r w) = ((rankN (fun k => s (ix3 k r w)) 8 : ℕ) : ℝ) := by
  pointwise [k1_pay36, k1_pay52, k1_pay53, k1_pay68, k1_pay69, k1_pay82, k1_pay83, k1_pay94, k1_pay102, k1_pay103, k1_pay107, k1_pay111, k1_pay112, k1_pay114]
  simp only [bit_at, one_sub_bit, coe_add', zero_add]
  rw [rankN_8]

end Cert.KV

end
-- ==== Proof.K.Tile1.lean ====
module

public import proofs.«01_k».proof.Proof.K.Sims
public import proofs.«01_k».proof.Proof.K.Ranks

/-! The tile the main call computes: weights, aggregation, normalisation and feed-forward at a pixel. -/

@[expose] public section

set_option maxRecDepth 16384
set_option maxHeartbeats 4000000

noncomputable section

namespace Cert.KV

open Cert.KernelIdeal Cert.KernelIdeal.Gen Idealize.ShloMosaic

/-- The normalised weights from the similarities and the counts, with a border column of zeros on either side. -/
def wtV (s : FVec Ideal S9x32x224 .f32) (cn : FVec Ideal S32x224 .f32) : FVec Ideal S9x32x226 .f32 :=
  k1_pay115 s cn (k1_pay54 s (k1_pay47 s (k1_pay28 (F := Ideal)) (k1_pay37 s)) (k1_pay48 s))
    (k1_pay70 s (k1_pay59 s (k1_pay38 (k1_pay29 (F := Ideal)) (k1_pay37 s))) (k1_pay60 s))
    (k1_pay84 (k1_pay81 s (k1_pay56 s (k1_pay40 s (k1_pay30 (F := Ideal)))) (k1_pay71 s)) (k1_pay82 s))
    (k1_pay95 (k1_pay93 s (k1_pay72 (k1_pay58 s (k1_pay42 s (k1_pay31 (F := Ideal)))) (k1_pay71 s))) (k1_pay94 s))
    (k1_pay104 s (k1_pay86 s (k1_pay74 s (k1_pay61 (k1_pay44 s (k1_pay32 (F := Ideal))) (k1_pay60 s)))))
    (k1_pay108 s (k1_pay97 s (k1_pay88 s (k1_pay76 s (k1_pay63 s (k1_pay46 s (k1_pay33 (F := Ideal))))))) (k1_pay105 s))
    (k1_pay110 s (k1_pay101 s (k1_pay92 s (k1_pay80 s (k1_pay67 s (k1_pay51 s (k1_pay35 (F := Ideal))))))))
    (k1_pay112 s (k1_pay103 s (k1_pay83 (k1_pay69 s (k1_pay53 s (k1_pay36 (F := Ideal)))) (k1_pay82 s)) (k1_pay94 s)))
    (k1_pay113 s (k1_pay99 s (k1_pay90 s (k1_pay78 s (k1_pay65 s (k1_pay49 (k1_pay34 (F := Ideal)) (k1_pay48 s)))))) (k1_pay105 s))
    (k1_pay114 s)

/-- A stack of nine read at a position. -/
theorem nest (f : Fin 9 → EReal) (x : Fin 9) : (if h : x.val < 1 then f 0 else if h : x.val - 1 < 1 then f 1 else if h : x.val - 1 - 1 < 1 then f 2 else if h : x.val - 1 - 1 - 1 < 1 then f 3 else if h : x.val - 1 - 1 - 1 - 1 < 1 then f 4 else if h : x.val - 1 - 1 - 1 - 1 - 1 < 1 then f 5 else if h : x.val - 1 - 1 - 1 - 1 - 1 - 1 < 1 then f 6 else if h : x.val - 1 - 1 - 1 - 1 - 1 - 1 - 1 < 1 then f 7 else f 8) = f x := by
  fin_cases x <;> rfl

theorem bit_ite (p : Prop) [i1 : Decidable p] [i2 : Decidable p] : FloatOps.sitofp (F := Ideal) FTy.f32 (BitVec.setWidth 32 (BitVec.ofBool (@decide p i1))) = (@ite _ p i2 1 0 : EReal) := by
  rw [bit_at]; by_cases h : p <;> simp [h]

/-- The tile's weight of neighbour `k` at a pixel. -/
theorem wtV_at (s : FVec Ideal S9x32x224 .f32) (cn : FVec Ideal S32x224 .f32) (k : Fin 9) (r : Fin 32) (w : Fin 224) :
    wtV s cn (ix3 k r (⟨1 + w, by omega⟩ : Fin 226)) = wtS (fun k => s (ix3 k r w)) (cn (ix2 r w)) k := by
  unfold wtV
  have hn := nest (fun j => (((rankN (fun k => s (ix3 k r w)) j : ℕ) : ℝ) : EReal))
  pointwise [k1_pay115]
  simp only [dif_neg (show ¬ 1 + (w : ℕ) < 1 by omega), dif_pos (show 1 + (w : ℕ) < 225 by omega), show 1 + (w : ℕ) - 1 = w by omega, Fin.eta]
  simp only [rank0, rank1, rank2, rank3, rank4, rank5, rank6, rank7, rank8]
  simp only [hn, bit_ite]
  rfl

theorem cnt_at (a b : EReal) (d : Vec Ideal S1x32x224 .f32) (r : Fin 32) (w : Fin 224) :
    k1_pay27 a b d (ix2 r w) = cntS (dpS a b (d (ix3 0 r w))) := by
  pointwise [k1_pay27]
  rw [bit_ite]
  rfl

/-- The nine neighbours of the tile's pixels added up by weight. -/
theorem agg_at (X : Img) (T : ℕ) (hT : T + 32 ≤ 224) (v1 v6 v9 : FVec Ideal S96x32x224 .f32) (W : FVec Ideal S9x32x226 .f32) (n : FVec Ideal S96x32x225 .f32)
    (h1 : ∀ c (r : Fin 32) (w : Fin 224), v1 (ix3 c r w) = X c ⟨T + r, ltT hT r⟩ w)
    (h6 : ∀ c (r : Fin 32) (w : Fin 224), v6 (ix3 c r w) = xp X c (T + r) (w + 1))
    (h9 : ∀ c (r : Fin 32) (w : Fin 224), v9 (ix3 c r w) = xp X c (T + r + 2) (w + 1))
    (hn : ∀ c (r : Fin 32) (w : Fin 225), n (ix3 c r w) = if h : (w : ℕ) < 1 then 0 else
      W (ix3 0 r ⟨2 + (w - 1), by omega⟩) * v6 (ix3 c r ⟨w - 1, by omega⟩) + W (ix3 3 r ⟨2 + (w - 1), by omega⟩) * v1 (ix3 c r ⟨w - 1, by omega⟩)
        + W (ix3 6 r ⟨2 + (w - 1), by omega⟩) * v9 (ix3 c r ⟨w - 1, by omega⟩))
    (c : Fin 96) (r : Fin 32) (w : Fin 224) :
    k1_pay118 v1 v6 v9 W (k1_pay116 (F := Ideal)) n (ix3 c r w) = aggS (fun k => W (ix3 k r (⟨1 + w, by omega⟩ : Fin 226))) (fun k => nbr X ⟨T + r, ltT hT r⟩ w k c) := by
  have hx := fun c (r : Fin 32) (w : Fin 224) => (h1 c r w).trans (xp_in X c ⟨T + r, ltT hT r⟩ w (T + r + 1) (w + 1) rfl rfl).symm
  have e0 : (if h : (w : ℕ) < 225 then n (ix3 c r ⟨w, h⟩) else k1_pay116 (F := Ideal)) = W (ix3 0 r ⟨1 + w, by omega⟩) * nbr X ⟨T + r, ltT hT r⟩ w 0 c + W (ix3 3 r ⟨1 + w, by omega⟩) * nbr X ⟨T + r, ltT hT r⟩ w 3 c
        + W (ix3 6 r ⟨1 + w, by omega⟩) * nbr X ⟨T + r, ltT hT r⟩ w 6 c := by
    rw [dif_pos (show (w : ℕ) < 225 by omega), hn]
    by_cases hw : (w : ℕ) < 1
    · have z : ∀ k : Fin 9, (k : ℕ) % 3 = 0 → nbr X ⟨T + r, ltT hT r⟩ w k c = 0 := fun k hk => xp_out X c _ _ (by omega)
      rw [dif_pos hw, z 0 rfl, z 3 rfl, z 6 rfl]; simp
    · have e : 2 + ((w : ℕ) - 1) = 1 + w := by omega
      have e2 : (w : ℕ) - 1 + 1 = w := by omega
      simp only [dif_neg hw, e, hx, h6, h9, e2]
      rfl
  pointwise [k1_pay118]
  rw [e0]
  simp only [aggS]
  congr 1
  · simp only [hx, h6, h9]
    rfl
  · by_cases hw : 2 + (w : ℕ) < 225
    · have e : 2 + (w : ℕ) - 1 = 1 + w := by omega
      have e2 : 1 + (w : ℕ) + 1 = w + 2 := by omega
      simp only [dif_pos hw, dif_neg (show ¬ 2 + (w : ℕ) < 1 by omega), hx, h6, h9, e, e2]
      rfl
    · have z : ∀ k : Fin 9, (k : ℕ) % 3 = 2 → nbr X ⟨T + r, ltT hT r⟩ w k c = 0 := fun k hk => xp_out X c _ _ (by omega)
      rw [dif_neg hw, z 2 rfl, z 5 rfl, z 8 rfl]; simp

theorem fin_at (v1 : FVec Ideal S96x32x224 .f32) (mu var : FVec Ideal S32 .f32) (o : FVec Ideal S96x32x224 .f32) (ga be : FVec Ideal S32x3 .f32) (w1 : Vec Ideal S192x96 .f32) (b1 : Vec Ideal S1x192 .f32) (w2 : Vec Ideal S96x192 .f32) (b2 : Vec Ideal S1x96 .f32)  (c : Fin 96) (r : Fin 32) (w : Fin 224) :
    k1_pay121 v1 mu var o ga be w1 b1 w2 b2 (ix4 (0 : Fin 1) c r w) = ffnS (fun c => o (ix3 c r w) + gnS (v1 (ix3 c r w)) (mu (ix1 ⟨c / 3, by omega⟩)) (var (ix1 ⟨c / 3, by omega⟩))
        (ga (ix2 ⟨c / 3, by omega⟩ ⟨c % 3, by omega⟩)) (be (ix2 ⟨c / 3, by omega⟩ ⟨c % 3, by omega⟩)))
      (fun o d => w1 (ix2 o d)) (fun o => b1 (ix2 0 o)) (fun c o => w2 (ix2 c o)) (fun c => b2 (ix2 0 c)) c := by
  pointwise [k1_pay121]
  rfl

end Cert.KV

end
-- ==== Proof.K.Tile0.lean ====
module

public import proofs.«01_k».proof.Proof.Gen.KernelIdeal.Skeleton
public import proofs.«01_k».proof.Proof.K.Spec

/-! The tile the statistics call computes: the detail map, its extremes, the group sums. -/

@[expose] public section

set_option maxRecDepth 16384
set_option maxHeartbeats 4000000

noncomputable section

namespace Cert.KV

open Cert.KernelIdeal Cert.KernelIdeal.Gen Idealize.ShloMosaic

/-- Row `p - 2` of the image, zero outside it. -/
def xrow (X : Img) (c : Fin 96) (p : ℕ) (x : Fin 224) : EReal := if h : 2 ≤ p ∧ p ≤ 225 then X c ⟨p - 2, by omega⟩ x else 0

/-- The weights of the five rows around row `h` in the row smoothing. -/
def cf0 (h : ℕ) : EReal := if h = 0 then 0 else if h % 2 = 0 then Ideal.ofBits .f32 0x3E000000#32 else 0
def cf1 (h : ℕ) : EReal := if h = 0 then 0 else if h = 223 then Ideal.ofBits .f32 0x3F000000#32 else if h % 2 = 0 then Ideal.ofBits .f32 0x3E000000#32 else Ideal.ofBits .f32 0x3EC00000#32
def cf2 (h : ℕ) : EReal := if h = 0 then Ideal.ofBits .f32 0x3F000000#32 else if h = 223 then Ideal.ofBits .f32 0x3F000000#32 else Ideal.ofBits .f32 0x3EC00000#32
def cf3 (h : ℕ) : EReal := if h = 0 then Ideal.ofBits .f32 0x3F000000#32 else if h = 223 then 0 else if h % 2 = 0 then Ideal.ofBits .f32 0x3EC00000#32 else Ideal.ofBits .f32 0x3E000000#32
def cf4 (h : ℕ) : EReal := if h = 223 then 0 else if h % 2 = 0 then 0 else Ideal.ofBits .f32 0x3E000000#32

/-- A row smoothed along its columns by the matrix `M`. -/
def xwS (X : Img) (M : Fin 224 → Fin 224 → EReal) (c : Fin 96) (p : ℕ) (w : Fin 224) : EReal := ∑ x, xrow X c p x * M x w

/-- The smoothed image as the kernel computes it. -/
def xduK (X : Img) (M : Fin 224 → Fin 224 → EReal) (c : Fin 96) (h : ℕ) (w : Fin 224) : EReal :=
  cf0 h * xwS X M c h w + cf1 h * xwS X M c (h + 1) w + cf2 h * xwS X M c (h + 2) w + cf3 h * xwS X M c (h + 3) w + cf4 h * xwS X M c (h + 4) w

/-- The detail map as the kernel computes it. -/
def dfK (X : Img) (M : Fin 224 → Fin 224 → EReal) (h w : Fin 224) : EReal := ∑ c, FloatOps.absf (F := Ideal) (φ := FTy.f32) (X c h w - xduK X M c h w)

theorem par_aux : ∀ (t : Fin 7) (r : Fin 32),
    IntOp.cmpi .eq (Scalar.select (IntOp.andi (IntOp.xori (IntOp.cmpi .slt (IntOp.remsi .vector (IntOp.addi (Scalar.muli (BitVec.ofNat 32 t) 32#32) (BitVec.ofNat 32 r)) (Scalar.select (Scalar.cmpi .eq 2#32 0#32) 1#32 2#32)) 0#32)
            (Scalar.cmpi .slt (Scalar.select (Scalar.cmpi .eq 2#32 0#32) 1#32 2#32) 0#32))
          (IntOp.cmpi .ne (IntOp.remsi .vector (IntOp.addi (Scalar.muli (BitVec.ofNat 32 t) 32#32) (BitVec.ofNat 32 r)) (Scalar.select (Scalar.cmpi .eq 2#32 0#32) 1#32 2#32)) 0#32))
        (IntOp.addi (IntOp.remsi .vector (IntOp.addi (Scalar.muli (BitVec.ofNat 32 t) 32#32) (BitVec.ofNat 32 r)) (Scalar.select (Scalar.cmpi .eq 2#32 0#32) 1#32 2#32)) (Scalar.select (Scalar.cmpi .eq 2#32 0#32) 1#32 2#32))
        (IntOp.remsi .vector (IntOp.addi (Scalar.muli (BitVec.ofNat 32 t) 32#32) (BitVec.ofNat 32 r)) (Scalar.select (Scalar.cmpi .eq 2#32 0#32) 1#32 2#32))) 0#32
      = BitVec.ofBool (decide ((32 * t.val + r.val) % 2 = 0)) := by decide +kernel

/-- The parity test of a row. -/
theorem par_at (i : grid0.Coords) (r : Fin 32) : k0_pay4 i (ix3 (0 : Fin 1) r (0 : Fin 1)) = BitVec.ofBool (decide ((32 * (i 1).val + r.val) % 2 = 0)) := by
  pointwise [k0_pay4, k0_pay3]
  exact par_aux (i 1) r

theorem row_aux : ∀ (t : Fin 7) (r : Fin 32), IntOp.addi (Scalar.muli (BitVec.ofNat 32 t) 32#32) (BitVec.ofNat 32 r) = BitVec.ofNat 32 (32 * t + r) := by decide +kernel

/-- The number of a row in the image. -/
theorem row_at (i : grid0.Coords) (r : Fin 32) : k0_pay3 i (ix3 (0 : Fin 1) r (0 : Fin 1)) = BitVec.ofNat 32 (32 * (i 1).val + r.val) := by
  pointwise [k0_pay3]
  exact row_aux (i 1) r

theorem cmp_row (h k : ℕ) (hh : h < 224) (hk : k < 224) : IntOp.cmpi .eq (BitVec.ofNat 32 h) (BitVec.ofNat 32 k) = BitVec.ofBool (decide (h = k)) := by
  have : (BitVec.ofNat 32 h == BitVec.ofNat 32 k) = decide (h = k) := by
    rw [Bool.eq_iff_iff]; simp only [beq_iff_eq, decide_eq_true_eq]
    constructor
    · intro e; have := congrArg BitVec.toNat e; simp only [BitVec.toNat_ofNat] at this; omega
    · rintro rfl; rfl
  simp only [IntOp.cmpi, this]

theorem sel_bool {α : Type} (p : Prop) [Decidable p] (a b : α) : Scalar.select (BitVec.ofBool (decide p)) a b = if p then a else b := by
  by_cases h : p <;> simp [Scalar.select, h]

theorem ite_mul' (p : Prop) [Decidable p] (a b z : EReal) : (if p then a else b) * z = if p then a * z else b * z := by split_ifs <;> rfl

/-- The rows of the tile and its halo smoothed along the columns. -/
theorem xw_at (X : Img) (T : ℕ) (hT : T + 32 ≤ 224) (v0 : Vec Ideal S1x96x32x224 .f32) (v2 : Vec Ideal S1x1x96x4x224 .f32) (m : Vec Ideal S224x224 .f32)
    (h0 : ∀ c (r : Fin 32) (w : Fin 224), v0 (ix4 0 c r w) = X c ⟨T + r, ltT hT r⟩ w)
    (h2 : ∀ c (r : Fin 4) (w : Fin 224), v2 (ix5 0 0 c r w) = xrow X c (if (r : ℕ) < 2 then T + r else T + 32 + r) w)
    (c : Fin 96) (r : Fin 36) (w : Fin 224) :
    k0_pay2 v0 v2 m (ix3 c r w) = xwS X (fun x w => m (ix2 x w)) c (T + r) w := by
  pointwise [k0_pay2, k0_pay1]
  refine Finset.sum_congr rfl fun x _ => ?_
  congr 1
  have a0 : ∀ (p : r.val - 2 < 32), ¬ r.val < 2 → v0 (ix4 0 c ⟨r.val - 2, p⟩ x) = xrow X c (T + r) x := fun p q => by
    rw [h0, xrow, dif_pos (by omega)]; congr 1; exact Fin.ext (by simp; omega)
  have a1 : ∀ (p : r.val < 4), r.val < 2 → v2 (ix5 0 0 c ⟨r.val, p⟩ x) = xrow X c (T + r) x := fun p q => by
    rw [h2, if_pos q]
  have a2 : ∀ (p : 2 + (r.val - 2 - 32) < 4), ¬ r.val < 2 → ¬ r.val - 2 < 32 → v2 (ix5 0 0 c ⟨2 + (r.val - 2 - 32), p⟩ x) = xrow X c (T + r) x := fun p q q' => by
    rw [h2, if_neg (show ¬ 2 + (r.val - 2 - 32) < 2 by omega)]; congr 1; show T + 32 + (2 + (r.val - 2 - 32)) = T + r; omega
  split_ifs
  all_goals first | exact a1 _ ‹_› | exact a0 _ ‹_› | exact a2 _ ‹_› ‹_›

/-- The detail map of the tile. -/
theorem df_at (X : Img) (M : Fin 224 → Fin 224 → EReal) (v1 : FVec Ideal S96x32x224 .f32) (v10 : FVec Ideal S96x36x224 .f32) (i : grid0.Coords)
    (h1 : ∀ c (r : Fin 32) (w : Fin 224), v1 (ix3 c r w) = X c ⟨32 * (i 1).val + r, by have : (i 1).val < 7 := (i 1).2; omega⟩ w)
    (h10 : ∀ c (r : Fin 36) (w : Fin 224), v10 (ix3 c r w) = xwS X M c (32 * (i 1).val + r) w) (r : Fin 32) (w : Fin 224) :
    k0_pay13 v1 v10 (k0_pay3 i) (k0_pay6 (F := Ideal) (k0_pay4 i)) (k0_pay7 (F := Ideal)) (k0_pay8 (k0_pay3 i) (k0_pay5 (F := Ideal) i)) (k0_pay9 (F := Ideal) (k0_pay3 i) (k0_pay4 i))
      (k0_pay10 (F := Ideal) (k0_pay3 i) (k0_pay4 i)) (k0_pay11 (F := Ideal) (k0_pay3 i) (k0_pay4 i)) k0_pay12 (ix2 r w)
      = dfK X M ⟨32 * (i 1).val + r, by have : (i 1).val < 7 := (i 1).2; omega⟩ w := by
  have hi : (i 1).val < 7 := (i 1).2
  pointwise [k0_pay13, k0_pay5, k0_pay6, k0_pay7, k0_pay8, k0_pay9, k0_pay10, k0_pay11, k0_pay12]
  refine Finset.sum_congr rfl fun x _ => ?_
  rw [row_at, par_at, cmp_row _ 0 (by omega) (by omega), cmp_row _ 223 (by omega) (by omega)]
  simp only [sel_bool, h1, h10, xduK, cf0, cf1, cf2, cf3, cf4, ite_mul', zero_mul]
  simp only [show ∀ k, 32 * (i 1).val + (k + r.val) = 32 * (i 1).val + r.val + k from fun k => by omega]

/-- A sum over one group's channels, the tile's rows and its columns. -/
theorem group_sum (v : S32x3x32x224.Idx → EReal) (g : Fin 32) :
    Ideal.reduceAdd reduces_S32x3x32x224_S32 v (ix1 g) = ∑ a : Fin 3, ∑ b : Fin 32, ∑ c : Fin 224, v (ix4 g a b c) := by
  have := Finset.sum_filter_eq_sum_of_fiber (fun i => reduces_S32x3x32x224_S32.drop i = ix1 g) (fun p : Fin 3 × Fin 32 × Fin 224 => (ix4 g p.1 p.2.1 p.2.2 : S32x3x32x224.Idx))
    (fun p q e => by
      have e1 := congrFun e 1; have e2 := congrFun e 2; have e3 := congrFun e 3
      exact Prod.ext e1 (Prod.ext e2 e3))
    (fun i => by
      constructor
      · intro e
        refine ⟨(i 1, i 2, i 3), ?_⟩
        funext b; apply Fin.ext
        match b with
        | ⟨0, _⟩ => exact (congrArg Fin.val (congrFun e 0)).symm
        | ⟨1, _⟩ => rfl
        | ⟨2, _⟩ => rfl
        | ⟨3, _⟩ => rfl
      · rintro ⟨p, rfl⟩
        funext b; apply Fin.ext
        match b with
        | ⟨0, _⟩ => rfl) v
  rw [Ideal.reduceAdd, this, Fintype.sum_prod_type]
  exact Finset.sum_congr rfl fun a _ => Fintype.sum_prod_type _

section
variable (v1 : FVec Ideal S96x32x224 .f32) (v10 : FVec Ideal S96x36x224 .f32) (a : IVec S1x32x1 32) (b d e f g h : FVec Ideal S1x32x1 .f32) (k : IVec S1x32x1 32)

/-- The least detail of the tile. -/
theorem st0_at : k0_pay15 v1 v10 a b d e f g h k (ix4 (0 : Fin 1) (0 : Fin 1) (0 : Fin 1) (0 : Fin 66)) =
    Finset.fold min (⊤ : EReal) (fun x : Fin 32 × Fin 224 => k0_pay13 v1 v10 a b d e f g h k (ix2 x.1 x.2)) Finset.univ := by
  pointwise [k0_pay15]
  rw [top_f32]

/-- The greatest detail of the tile. -/
theorem st1_at : k0_pay15 v1 v10 a b d e f g h k (ix4 (0 : Fin 1) (0 : Fin 1) (0 : Fin 1) (1 : Fin 66)) =
    Finset.fold max (⊥ : EReal) (fun x : Fin 32 × Fin 224 => k0_pay13 v1 v10 a b d e f g h k (ix2 x.1 x.2)) Finset.univ := by
  pointwise [k0_pay15]
  rw [bot_f32]

/-- The sum over a group's channels in the tile. -/
theorem st2_at (q : Fin 32) : k0_pay15 v1 v10 a b d e f g h k (ix4 (0 : Fin 1) (0 : Fin 1) (0 : Fin 1) (⟨2 + q, by omega⟩ : Fin 66)) =
    ∑ a : Fin 3, ∑ b : Fin 32, ∑ c : Fin 224, v1 (ix3 (⟨3 * q + a, by omega⟩ : Fin 96) b c) := by
  pointwise [k0_pay15]
  rw [dif_neg (by omega), dif_neg (by omega), dif_pos (by omega), group_sum]
  refine Finset.sum_congr rfl fun a _ => Finset.sum_congr rfl fun b _ => Finset.sum_congr rfl fun c _ => ?_
  have e : (2 + (q : ℕ) - 1 - 1) * 3 + a = 3 * q + a := by omega
  pointwise []
  simp only [e]

/-- The sum of squares over a group's channels in the tile. -/
theorem st3_at (q : Fin 32) : k0_pay15 v1 v10 a b d e f g h k (ix4 (0 : Fin 1) (0 : Fin 1) (0 : Fin 1) (⟨34 + q, by omega⟩ : Fin 66)) =
    ∑ a : Fin 3, ∑ b : Fin 32, ∑ c : Fin 224, v1 (ix3 (⟨3 * q + a, by omega⟩ : Fin 96) b c) * v1 (ix3 (⟨3 * q + a, by omega⟩ : Fin 96) b c) := by
  pointwise [k0_pay15]
  rw [dif_neg (by omega), dif_neg (by omega), dif_neg (by omega), group_sum]
  refine Finset.sum_congr rfl fun a _ => Finset.sum_congr rfl fun b _ => Finset.sum_congr rfl fun c _ => ?_
  have e : (34 + (q : ℕ) - 1 - 1 - 32) * 3 + a = 3 * q + a := by omega
  pointwise []
  simp only [e]

end

end Cert.KV

end
-- ==== Proof.K.Body1.lean ====
module

public import proofs.«01_k».proof.Proof.Gen.KernelIdeal.Frame
public import proofs.«01_k».proof.Proof.K.Tile1
public import proofs.«01_k».proof.Proof.K.Tile0
public import Idealize.ShloMosaic.Lib.Pipeline.ValueKit

/-! What one block of the main call holds. -/

@[expose] public section

set_option maxRecDepth 16384
set_option maxHeartbeats 4000000

noncomputable section

namespace Cert.KV

open Cert.KernelIdeal Cert.KernelIdeal.Gen Idealize.ShloMosaic Idealize.ShloMosaic.TcCoe Idealize.SL.Sem

/-- The least detail over the tiles. -/
def dminS (S : Fin 7 → Fin 66 → EReal) : EReal := Finset.fold min ⊤ (fun t => S t 0) Finset.univ
/-- The greatest detail over the tiles. -/
def dmaxS (S : Fin 7 → Fin 66 → EReal) : EReal := Finset.fold max ⊥ (fun t => S t 1) Finset.univ
/-- A group's mean from the tiles' sums. -/
def muS (S : Fin 7 → Fin 66 → EReal) (g : Fin 32) : EReal := Ideal.div (∑ t, S t ⟨2 + g, by omega⟩) (Ideal.ofBits .f32 0x48130000#32)
/-- A group's variance from the tiles' sums. -/
def varS (S : Fin 7 → Fin 66 → EReal) (g : Fin 32) : EReal := Ideal.div (∑ t, S t ⟨34 + g, by omega⟩) (Ideal.ofBits .f32 0x48130000#32) - muS S g * muS S g

/-- The aggregated and normalised column at a pixel. -/
def eS (X : Img) (cn : EReal) (mu var : Fin 32 → EReal) (ga be : Fin 96 → EReal) (h w : Fin 224) (c : Fin 96) : EReal :=
  aggS (wtS (sims X h w) cn) (fun k => nbr X h w k c) + gnS (X c h w) (mu ⟨c / 3, by omega⟩) (var ⟨c / 3, by omega⟩) (ga c) (be c)

/-- The result at a pixel from the image, its detail map and the tiles' reports. -/
def outS (X : Img) (D : Fin 224 → Fin 224 → EReal) (S : Fin 7 → Fin 66 → EReal) (ga be : Fin 96 → EReal) (w1 : Fin 192 → Fin 96 → EReal) (b1 : Fin 192 → EReal)
    (w2 : Fin 96 → Fin 192 → EReal) (b2 : Fin 96 → EReal) (c : Fin 96) (h w : Fin 224) : EReal :=
  ffnS (eS X (cntS (dpS (dminS S) (dmaxS S) (D h w))) (muS S) (varS S) ga be h w) w1 b1 w2 b2 c

theorem xrow_xp (X : Img) (c : Fin 96) (p : ℕ) (w : Fin 224) : xrow X c (p + 1) w = xp X c p (w + 1) := by
  simp only [xrow, xp]
  by_cases h : 1 ≤ p ∧ p ≤ 224
  · rw [dif_pos (by omega), dif_pos (by omega)]; rfl
  · rw [dif_neg (by omega), dif_neg (by omega)]

variable (x0 : Vec Ideal S1x96x32x224 .f32) (x1 : Vec Ideal S1x1x96x4x224 .f32) (x2 : Vec Ideal S1x32x224 .f32) (x3 : Vec Ideal S1x7x66 .f32)
  (x4 x5 : Vec Ideal S32x3 .f32) (x6 : Vec Ideal S192x96 .f32) (x7 : Vec Ideal S1x192 .f32) (x8 : Vec Ideal S96x192 .f32) (x9 : Vec Ideal S1x96 .f32)

theorem ld1_0 : View.ld x0 r1_0 = x0 := View.ld_unit_zero (by decide) _ _
theorem ld1_1 : View.ld x1 r1_1 = x1 := View.ld_unit_zero (by decide) _ _
theorem ld1_2 : View.ld x3 r1_2 = x3 := View.ld_unit_zero (by decide) _ _
theorem ld1_3 : View.ld x2 r1_3 = x2 := View.ld_unit_zero (by decide) _ _

section
variable (X : Img) (T : ℕ) (hT : T + 32 ≤ 224)
  (h0 : ∀ c (r : Fin 32) (w : Fin 224), x0 (ix4 0 c r w) = X c ⟨T + r, ltT hT r⟩ w)
  (h1 : ∀ c (r : Fin 4) (w : Fin 224), x1 (ix5 0 0 c r w) = xrow X c (if (r : ℕ) < 2 then T + r else T + 32 + r) w)
include h0 h1

omit h1 in
theorem p1_at (c : Fin 96) (r : Fin 32) (w : Fin 224) : k1_pay1 x0 (ix3 c r w) = X c ⟨T + r, ltT hT r⟩ w := by
  pointwise [k1_pay1]
  exact h0 c r w

/-- The rows above the tile's rows. -/
theorem p3_at (c : Fin 96) (r : Fin 32) (w : Fin 224) : k1_pay3 x0 x1 (ix3 c r w) = xp X c (T + r) (w + 1) := by
  pointwise [k1_pay3, k1_pay1, k1_pay2]
  by_cases hr : (r : ℕ) < 1
  · rw [dif_pos hr, h1, if_pos (show 1 + (r : ℕ) < 2 by omega), ← xrow_xp]; congr 1; show T + (1 + (r : ℕ)) = T + r + 1; omega
  · rw [dif_neg hr, h0]; exact (xp_in X c _ w (T + r) (w + 1) (by show T + (r : ℕ) = T + (r - 1) + 1; omega) rfl).symm

/-- The rows below the tile's rows. -/
theorem p4_at (c : Fin 96) (r : Fin 32) (w : Fin 224) : k1_pay4 x0 x1 (ix3 c r w) = xp X c (T + r + 2) (w + 1) := by
  pointwise [k1_pay4, k1_pay1, k1_pay2]
  by_cases hr : (r : ℕ) < 31
  · rw [dif_pos hr, h0]; exact (xp_in X c _ w (T + r + 2) (w + 1) (by show T + (r : ℕ) + 2 = T + (1 + r) + 1; omega) rfl).symm
  · rw [dif_neg hr, h1, if_neg (show ¬ 2 + ((r : ℕ) - 31) < 2 by omega), ← xrow_xp]; congr 1; show T + 32 + (2 + ((r : ℕ) - 31)) = T + r + 2 + 1; omega

end

section
variable (S : Fin 7 → Fin 66 → EReal) (h3 : ∀ t n, x3 (ix3 0 t n) = S t n)
include h3

theorem p6_at : k1_pay6 x3 = dminS S := by
  pointwise [k1_pay6, k1_pay5]
  rw [top_f32]; exact congrArg (fun f => Finset.fold min ⊤ f Finset.univ) (funext fun t => h3 t 0)

theorem p7_at : k1_pay7 x3 = dmaxS S := by
  pointwise [k1_pay7, k1_pay5]
  rw [bot_f32]; exact congrArg (fun f => Finset.fold max ⊥ f Finset.univ) (funext fun t => h3 t 1)

theorem p8_at (g : Fin 32) : k1_pay8 x3 (ix1 g) = muS S g := by
  pointwise [k1_pay8, k1_pay5]
  simp only [h3]; rfl

theorem p9_at (g : Fin 32) : k1_pay9 x3 (ix1 g) = varS S g := by
  have h8 := p8_at x3 S h3
  pointwise [k1_pay9, k1_pay5]
  simp only [h3, h8]; rfl
end

end Cert.KV

end
-- ==== Proof.K.Body1b.lean ====
module

public import proofs.«01_k».proof.Proof.K.Body1

/-! One block of the main call put together. -/

@[expose] public section

set_option maxRecDepth 16384
set_option maxHeartbeats 4000000

noncomputable section

namespace Cert.KV

open Cert.KernelIdeal Cert.KernelIdeal.Gen Idealize.ShloMosaic Idealize.ShloMosaic.TcCoe Idealize.SL.Sem

variable (x0 : Vec Ideal S1x96x32x224 .f32) (x1 : Vec Ideal S1x1x96x4x224 .f32) (x2 : Vec Ideal S1x32x224 .f32) (x3 : Vec Ideal S1x7x66 .f32)
  (x4 x5 : Vec Ideal S32x3 .f32) (x6 : Vec Ideal S192x96 .f32) (x7 : Vec Ideal S1x192 .f32) (x8 : Vec Ideal S96x192 .f32) (x9 : Vec Ideal S1x96 .f32)

theorem pay131_eq : k1_pay131 x0 x1 x2 x3 x4 x5 x6 x7 x8 x9 = simV (k1_pay1 x0) (k1_pay3 x0 x1) (k1_pay4 x0 x1) (k1_pay10 x0 x1) (k1_pay11 (F := Ideal)) := by
  simp only [k1_pay131, k1_pay130, k1_pay129, k1_pay128, k1_pay127, k1_pay126, k1_pay125, k1_pay124, k1_pay123, k1_pay122, ld1_0, ld1_1]
  rfl

theorem pay115_eq : k1_pay115 (k1_pay131 x0 x1 x2 x3 x4 x5 x6 x7 x8 x9) (k1_pay132 x0 x1 x2 x3 x4 x5 x6 x7 x8 x9) (k1_pay135 x0 x1 x2 x3 x4 x5 x6 x7 x8 x9) (k1_pay137 x0 x1 x2 x3 x4 x5 x6 x7 x8 x9) (k1_pay140 x0 x1 x2 x3 x4 x5 x6 x7 x8 x9) (k1_pay142 x0 x1 x2 x3 x4 x5 x6 x7 x8 x9) (k1_pay143 x0 x1 x2 x3 x4 x5 x6 x7 x8 x9) (k1_pay145 x0 x1 x2 x3 x4 x5 x6 x7 x8 x9) (k1_pay146 x0 x1 x2 x3 x4 x5 x6 x7 x8 x9) (k1_pay147 x0 x1 x2 x3 x4 x5 x6 x7 x8 x9) (k1_pay148 x0 x1 x2 x3 x4 x5 x6 x7 x8 x9) (k1_pay149 x0 x1 x2 x3 x4 x5 x6 x7 x8 x9)
    = wtV (simV (k1_pay1 x0) (k1_pay3 x0 x1) (k1_pay4 x0 x1) (k1_pay10 x0 x1) (k1_pay11 (F := Ideal))) (k1_pay27 (k1_pay6 x3) (k1_pay7 x3) x2) := by
  simp only [k1_pay149, k1_pay148, k1_pay147, k1_pay146, k1_pay145, k1_pay144, k1_pay143, k1_pay142, k1_pay141, k1_pay140, k1_pay139, k1_pay138, k1_pay137, k1_pay136, k1_pay135, k1_pay134, k1_pay133, k1_pay132, pay131_eq, ld1_2, ld1_3]
  rfl

/-- The left column of the window, one column to the left of where it is used. -/
theorem p117_at (v1 v6 v9 : FVec Ideal S96x32x224 .f32) (s : FVec Ideal S9x32x224 .f32) (a b d e f g h k l o p : FVec Ideal S32x224 .f32) (c : Fin 96) (r : Fin 32) (w : Fin 225) :
    k1_pay117 v1 v6 v9 s a b d e f g h k l o p (ix3 c r w) = if hw : (w : ℕ) < 1 then 0 else
      k1_pay115 s a b d e f g h k l o p (ix3 0 r ⟨2 + (w - 1), by omega⟩) * v6 (ix3 c r ⟨w - 1, by omega⟩)
      + k1_pay115 s a b d e f g h k l o p (ix3 3 r ⟨2 + (w - 1), by omega⟩) * v1 (ix3 c r ⟨w - 1, by omega⟩)
      + k1_pay115 s a b d e f g h k l o p (ix3 6 r ⟨2 + (w - 1), by omega⟩) * v9 (ix3 c r ⟨w - 1, by omega⟩) := by
  have z : k1_pay116 (F := Ideal) = 0 := by
    show (((0#32 : BitVec 32).toInt : ℝ) : EReal) = 0
    exact zw
  pointwise [k1_pay117]
  rw [z]

/-- The block of the result. -/
theorem body1 (X : Img) (T : ℕ) (hT : T + 32 ≤ 224) (D : Fin 224 → Fin 224 → EReal) (S : Fin 7 → Fin 66 → EReal) (ga be : Fin 96 → EReal)
    (w1 : Fin 192 → Fin 96 → EReal) (b1 : Fin 192 → EReal) (w2 : Fin 96 → Fin 192 → EReal) (b2 : Fin 96 → EReal)
    (h0 : ∀ c (r : Fin 32) (w : Fin 224), x0 (ix4 0 c r w) = X c ⟨T + r, ltT hT r⟩ w)
    (h1 : ∀ c (r : Fin 4) (w : Fin 224), x1 (ix5 0 0 c r w) = xrow X c (if (r : ℕ) < 2 then T + r else T + 32 + r) w)
    (h2 : ∀ (r : Fin 32) (w : Fin 224), x2 (ix3 0 r w) = D ⟨T + r, ltT hT r⟩ w)
    (h3 : ∀ t n, x3 (ix3 0 t n) = S t n)
    (h4 : ∀ (g : Fin 32) (a : Fin 3), x4 (ix2 g a) = ga ⟨3 * g + a, by omega⟩)
    (h5 : ∀ (g : Fin 32) (a : Fin 3), x5 (ix2 g a) = be ⟨3 * g + a, by omega⟩)
    (h6 : ∀ o d, x6 (ix2 o d) = w1 o d) (h7 : ∀ o, x7 (ix2 0 o) = b1 o) (h8 : ∀ c o, x8 (ix2 c o) = w2 c o) (h9 : ∀ c, x9 (ix2 0 c) = b2 c)
    (c : Fin 96) (r : Fin 32) (w : Fin 224) :
    k1_pay121 (k1_pay122 x0 x1 x2 x3 x4 x5 x6 x7 x8 x9) (k1_pay8 x3) (k1_pay9 x3) (k1_pay118 (k1_pay122 x0 x1 x2 x3 x4 x5 x6 x7 x8 x9) (k1_pay123 x0 x1 x2 x3 x4 x5 x6 x7 x8 x9) (k1_pay124 x0 x1 x2 x3 x4 x5 x6 x7 x8 x9) (k1_pay115 (k1_pay131 x0 x1 x2 x3 x4 x5 x6 x7 x8 x9) (k1_pay132 x0 x1 x2 x3 x4 x5 x6 x7 x8 x9) (k1_pay135 x0 x1 x2 x3 x4 x5 x6 x7 x8 x9) (k1_pay137 x0 x1 x2 x3 x4 x5 x6 x7 x8 x9) (k1_pay140 x0 x1 x2 x3 x4 x5 x6 x7 x8 x9) (k1_pay142 x0 x1 x2 x3 x4 x5 x6 x7 x8 x9) (k1_pay143 x0 x1 x2 x3 x4 x5 x6 x7 x8 x9) (k1_pay145 x0 x1 x2 x3 x4 x5 x6 x7 x8 x9) (k1_pay146 x0 x1 x2 x3 x4 x5 x6 x7 x8 x9) (k1_pay147 x0 x1 x2 x3 x4 x5 x6 x7 x8 x9) (k1_pay148 x0 x1 x2 x3 x4 x5 x6 x7 x8 x9) (k1_pay149 x0 x1 x2 x3 x4 x5 x6 x7 x8 x9)) (k1_pay116 (F := Ideal)) (k1_pay117 (k1_pay122 x0 x1 x2 x3 x4 x5 x6 x7 x8 x9) (k1_pay123 x0 x1 x2 x3 x4 x5 x6 x7 x8 x9) (k1_pay124 x0 x1 x2 x3 x4 x5 x6 x7 x8 x9) (k1_pay131 x0 x1 x2 x3 x4 x5 x6 x7 x8 x9) (k1_pay132 x0 x1 x2 x3 x4 x5 x6 x7 x8 x9) (k1_pay135 x0 x1 x2 x3 x4 x5 x6 x7 x8 x9) (k1_pay137 x0 x1 x2 x3 x4 x5 x6 x7 x8 x9) (k1_pay140 x0 x1 x2 x3 x4 x5 x6 x7 x8 x9) (k1_pay142 x0 x1 x2 x3 x4 x5 x6 x7 x8 x9) (k1_pay143 x0 x1 x2 x3 x4 x5 x6 x7 x8 x9) (k1_pay145 x0 x1 x2 x3 x4 x5 x6 x7 x8 x9) (k1_pay146 x0 x1 x2 x3 x4 x5 x6 x7 x8 x9) (k1_pay147 x0 x1 x2 x3 x4 x5 x6 x7 x8 x9) (k1_pay148 x0 x1 x2 x3 x4 x5 x6 x7 x8 x9) (k1_pay149 x0 x1 x2 x3 x4 x5 x6 x7 x8 x9))) (k1_pay119 x4) (k1_pay120 x5) x6 x7 x8 x9 (ix4 0 c r w)
      = outS X D S ga be w1 b1 w2 b2 c ⟨T + r, ltT hT r⟩ w := by
  have e1 := p1_at x0 X T hT h0
  have e3 := p3_at x0 x1 X T hT h0 h1
  have e4 := p4_at x0 x1 X T hT h0 h1
  have e10 : ∀ (r : Fin 32) (w : Fin 224), k1_pay10 x0 x1 (ix2 r w) = Ideal.sqrt (∑ c, k1_pay3 x0 x1 (ix3 c r w) * k1_pay3 x0 x1 (ix3 c r w)) := fun r w => by
    pointwise [k1_pay10]
  have e11 : ∀ (r : Fin 32) (w : Fin 224), k1_pay11 (F := Ideal) (ix2 r w) = Ideal.ofBits .f32 0x2B8CBCCC#32 := fun r w => by
    pointwise [k1_pay11]
  have es := simV_at X T hT (k1_pay1 x0) (k1_pay3 x0 x1) (k1_pay4 x0 x1) (k1_pay10 x0 x1) (k1_pay11 (F := Ideal)) e1 e3 e4 e10 e11
  have g4 : ∀ (g : Fin 32) (a : Fin 3), k1_pay119 x4 (ix2 g a) = ga ⟨3 * g + a, by omega⟩ := fun g a => by
    pointwise [k1_pay119]; exact h4 g a
  have g5 : ∀ (g : Fin 32) (a : Fin 3), k1_pay120 x5 (ix2 g a) = be ⟨3 * g + a, by omega⟩ := fun g a => by
    pointwise [k1_pay120]; exact h5 g a
  have v1 : (k1_pay122 x0 x1 x2 x3 x4 x5 x6 x7 x8 x9) = k1_pay1 x0 := by simp only [k1_pay122, ld1_0]
  have v6 : (k1_pay123 x0 x1 x2 x3 x4 x5 x6 x7 x8 x9) = k1_pay3 x0 x1 := by simp only [k1_pay123, ld1_0, ld1_1]
  have v9 : (k1_pay124 x0 x1 x2 x3 x4 x5 x6 x7 x8 x9) = k1_pay4 x0 x1 := by simp only [k1_pay124, ld1_0, ld1_1]
  have hn := p117_at (k1_pay122 x0 x1 x2 x3 x4 x5 x6 x7 x8 x9) (k1_pay123 x0 x1 x2 x3 x4 x5 x6 x7 x8 x9) (k1_pay124 x0 x1 x2 x3 x4 x5 x6 x7 x8 x9) (k1_pay131 x0 x1 x2 x3 x4 x5 x6 x7 x8 x9) (k1_pay132 x0 x1 x2 x3 x4 x5 x6 x7 x8 x9) (k1_pay135 x0 x1 x2 x3 x4 x5 x6 x7 x8 x9) (k1_pay137 x0 x1 x2 x3 x4 x5 x6 x7 x8 x9) (k1_pay140 x0 x1 x2 x3 x4 x5 x6 x7 x8 x9) (k1_pay142 x0 x1 x2 x3 x4 x5 x6 x7 x8 x9) (k1_pay143 x0 x1 x2 x3 x4 x5 x6 x7 x8 x9) (k1_pay145 x0 x1 x2 x3 x4 x5 x6 x7 x8 x9) (k1_pay146 x0 x1 x2 x3 x4 x5 x6 x7 x8 x9) (k1_pay147 x0 x1 x2 x3 x4 x5 x6 x7 x8 x9) (k1_pay148 x0 x1 x2 x3 x4 x5 x6 x7 x8 x9) (k1_pay149 x0 x1 x2 x3 x4 x5 x6 x7 x8 x9)
  rw [fin_at]
  generalize hG : k1_pay117 (k1_pay122 x0 x1 x2 x3 x4 x5 x6 x7 x8 x9) (k1_pay123 x0 x1 x2 x3 x4 x5 x6 x7 x8 x9) (k1_pay124 x0 x1 x2 x3 x4 x5 x6 x7 x8 x9) (k1_pay131 x0 x1 x2 x3 x4 x5 x6 x7 x8 x9) (k1_pay132 x0 x1 x2 x3 x4 x5 x6 x7 x8 x9) (k1_pay135 x0 x1 x2 x3 x4 x5 x6 x7 x8 x9) (k1_pay137 x0 x1 x2 x3 x4 x5 x6 x7 x8 x9) (k1_pay140 x0 x1 x2 x3 x4 x5 x6 x7 x8 x9) (k1_pay142 x0 x1 x2 x3 x4 x5 x6 x7 x8 x9) (k1_pay143 x0 x1 x2 x3 x4 x5 x6 x7 x8 x9) (k1_pay145 x0 x1 x2 x3 x4 x5 x6 x7 x8 x9) (k1_pay146 x0 x1 x2 x3 x4 x5 x6 x7 x8 x9) (k1_pay147 x0 x1 x2 x3 x4 x5 x6 x7 x8 x9) (k1_pay148 x0 x1 x2 x3 x4 x5 x6 x7 x8 x9) (k1_pay149 x0 x1 x2 x3 x4 x5 x6 x7 x8 x9) = n at hn ⊢
  rw [pay115_eq, v1, v6, v9] at hn ⊢
  unfold outS
  have ee : (fun c => k1_pay118 (k1_pay1 x0) (k1_pay3 x0 x1) (k1_pay4 x0 x1) (wtV (simV (k1_pay1 x0) (k1_pay3 x0 x1) (k1_pay4 x0 x1) (k1_pay10 x0 x1) (k1_pay11 (F := Ideal))) (k1_pay27 (k1_pay6 x3) (k1_pay7 x3) x2)) (k1_pay116 (F := Ideal)) n (ix3 c r w)
      + gnS (k1_pay1 x0 (ix3 c r w)) (k1_pay8 x3 (ix1 ⟨c / 3, by omega⟩)) (k1_pay9 x3 (ix1 ⟨c / 3, by omega⟩)) (k1_pay119 x4 (ix2 ⟨c / 3, by omega⟩ ⟨c % 3, by omega⟩)) (k1_pay120 x5 (ix2 ⟨c / 3, by omega⟩ ⟨c % 3, by omega⟩)))
      = eS X (cntS (dpS (dminS S) (dmaxS S) (D ⟨T + r, ltT hT r⟩ w))) (muS S) (varS S) ga be ⟨T + r, ltT hT r⟩ w := by
    funext c
    rw [agg_at X T hT _ _ _ _ n e1 e3 e4 hn c r w, g4, g5, e1, p8_at x3 S h3, p9_at x3 S h3]
    unfold eS
    have hc : ∀ h, (⟨3 * (c.val / 3) + c.val % 3, h⟩ : Fin 96) = c := fun h => Fin.ext (by simp; omega)
    simp only [hc, wtV_at, es, cnt_at, h2, p6_at x3 S h3, p7_at x3 S h3]
  rw [ee]
  simp only [h6, h7, h8, h9]

end Cert.KV

end
-- ==== Proof.K.Region0.lean ====
module

public import proofs.«01_k».proof.Proof.Gen.KernelIdeal.Frame
public import proofs.«01_k».proof.Proof.K.Tile0
public import Idealize.ShloMosaic.Lib.Pipeline.ValueKit

/-! What the statistics call leaves in its two arrays. -/

@[expose] public section

set_option maxRecDepth 16384
set_option maxHeartbeats 2000000

noncomputable section

namespace Cert.KV

open Cert.KernelIdeal Cert.KernelIdeal.Gen Idealize.ShloMosaic Idealize.ShloMosaic.TcCoe Idealize.SL.Sem
open Idealize.ShloMosaic.Pipeline (Dat)

/-- One image of the batch. -/
def img (A : FVec Ideal S2x96x224x224 .f32) (b : Fin 2) : Img := fun c h w => A (ix4 b c h w)

/-- The least detail of a tile of rows. -/
def tmin (D : Fin 224 → Fin 224 → EReal) (t : Fin 7) : EReal := Finset.fold min ⊤ (fun x : Fin 32 × Fin 224 => D ⟨32 * t + x.1, by omega⟩ x.2) Finset.univ
/-- The greatest detail of a tile of rows. -/
def tmax (D : Fin 224 → Fin 224 → EReal) (t : Fin 7) : EReal := Finset.fold max ⊥ (fun x : Fin 32 × Fin 224 => D ⟨32 * t + x.1, by omega⟩ x.2) Finset.univ
/-- The sum of a group's values in a tile of rows. -/
def tsum (X : Img) (g : Fin 32) (t : Fin 7) : EReal := ∑ a : Fin 3, ∑ r : Fin 32, ∑ w : Fin 224, X ⟨3 * g + a, by omega⟩ ⟨32 * t + r, by omega⟩ w
/-- The square of an image, element by element. -/
def sqI (X : Img) : Img := fun c h w => X c h w * X c h w
/-- What one tile reports: the extremes of the detail, then each group's sum and sum of squares. -/
def stS (X : Img) (D : Fin 224 → Fin 224 → EReal) (t : Fin 7) (n : Fin 66) : EReal :=
  if n.val = 0 then tmin D t else if n.val = 1 then tmax D t else if h : n.val < 34 then tsum X ⟨n - 2, by omega⟩ t else tsum (sqI X) ⟨n - 34, by omega⟩ t

theorem idx0 : ∀ t : Fin cfg0.N, win0_0.index t = ![(grid0.coords t 0).val, 0, (grid0.coords t 1).val, 0]
    ∧ win0_1.index t = ![(grid0.coords t 0).val, (grid0.coords t 1).val, 0, 0, 0] ∧ win0_2.index t = ![0, 0]
    ∧ win0_3.index t = ![(grid0.coords t 0).val, (grid0.coords t 1).val, 0] ∧ win0_4.index t = ![(grid0.coords t 0).val, (grid0.coords t 1).val, 0, 0] :=
  (by decide +kernel : ∀ t : Fin grid0.N, _)

section
variable (X : Img) (M : Fin 224 → Fin 224 → EReal) (i : grid0.Coords) (x0 : Vec Ideal S1x96x32x224 .f32) (x1 : Vec Ideal S1x1x96x4x224 .f32) (x2 : Vec Ideal S224x224 .f32)

theorem lt66a (q : Fin 32) : 2 + q.val < 66 := by omega
theorem lt66b (q : Fin 32) : 34 + q.val < 66 := by omega
theorem lt7 : (i 1).val < 7 := (i 1).2

theorem ld0_0 : View.ld x0 r0_0 = x0 := View.ld_unit_zero (by decide) _ _
theorem ld0_1 : View.ld x1 r0_1 = x1 := View.ld_unit_zero (by decide) _ _
theorem ld0_2 : View.ld x2 r0_2 = x2 := View.ld_unit_zero (by decide) _ _

/-- The detail map of one block. -/
theorem body0_df
    (h0 : ∀ ch (r : Fin 32) (w : Fin 224), x0 (ix4 0 ch r w) = X ch ⟨32 * (i 1).val + r, by have := lt7 i; omega⟩ w)
    (h1 : ∀ ch (r : Fin 4) (w : Fin 224), x1 (ix5 0 0 ch r w) = xrow X ch (if (r : ℕ) < 2 then 32 * (i 1).val + r else 32 * (i 1).val + 32 + r) w)
    (h2 : ∀ x w, x2 (ix2 x w) = M x w) (r : Fin 32) (w : Fin 224) :
    k0_pay13 (k0_pay16 i x0 x1 x2) (k0_pay17 i x0 x1 x2) (k0_pay18 i x0 x1 x2) (k0_pay20 i x0 x1 x2) (k0_pay21 i x0 x1 x2) (k0_pay22 i x0 x1 x2)
      (k0_pay23 i x0 x1 x2) (k0_pay24 i x0 x1 x2) (k0_pay25 i x0 x1 x2) (k0_pay26 i x0 x1 x2) (ix2 r w) = dfK X M ⟨32 * (i 1).val + r, by have := lt7 i; omega⟩ w := by
  have hM : (fun x w => x2 (ix2 x w)) = M := funext fun x => funext fun w => h2 x w
  simp only [k0_pay26, k0_pay25, k0_pay24, k0_pay23, k0_pay22, k0_pay21, k0_pay20, k0_pay19, k0_pay18, k0_pay17, k0_pay16, ld0_0, ld0_1, ld0_2]
  refine df_at X M _ _ i (fun c r w => ?_) (fun c r w => ?_) r w
  · pointwise [k0_pay1]; exact h0 c r w
  · rw [xw_at X (32 * (i 1).val) (by have := lt7 i; omega) x0 x1 x2 h0 h1 c r w, hM]

/-- What one tile reports. -/
theorem body0_st
    (h0 : ∀ ch (r : Fin 32) (w : Fin 224), x0 (ix4 0 ch r w) = X ch ⟨32 * (i 1).val + r, by have := lt7 i; omega⟩ w)
    (h1 : ∀ ch (r : Fin 4) (w : Fin 224), x1 (ix5 0 0 ch r w) = xrow X ch (if (r : ℕ) < 2 then 32 * (i 1).val + r else 32 * (i 1).val + 32 + r) w)
    (h2 : ∀ x w, x2 (ix2 x w) = M x w) (a b e : Fin 1) (n : Fin 66) :
    k0_pay15 (k0_pay16 i x0 x1 x2) (k0_pay17 i x0 x1 x2) (k0_pay18 i x0 x1 x2) (k0_pay20 i x0 x1 x2) (k0_pay21 i x0 x1 x2) (k0_pay22 i x0 x1 x2)
      (k0_pay23 i x0 x1 x2) (k0_pay24 i x0 x1 x2) (k0_pay25 i x0 x1 x2) (k0_pay26 i x0 x1 x2) (ix4 a b e n) = stS X (dfK X M) (i 1) n := by
  obtain rfl := Subsingleton.elim a 0
  obtain rfl := Subsingleton.elim b 0
  obtain rfl := Subsingleton.elim e 0
  have hx : ∀ ch (r : Fin 32) (w : Fin 224), k0_pay16 i x0 x1 x2 (ix3 ch r w) = X ch ⟨32 * (i 1).val + r, by have := lt7 i; omega⟩ w := fun ch r w => by
    simp only [k0_pay16, ld0_0]; pointwise [k0_pay1]; exact h0 ch r w
  have hd := body0_df X M i x0 x1 x2 h0 h1 h2
  unfold stS
  split_ifs with e0 e1 e2
  · obtain rfl : n = 0 := Fin.ext e0
    rw [st0_at]; exact congrArg (fun f => Finset.fold min ⊤ f Finset.univ) (funext fun x => hd x.1 x.2)
  · obtain rfl : n = 1 := Fin.ext e1
    rw [st1_at]; exact congrArg (fun f => Finset.fold max ⊥ f Finset.univ) (funext fun x => hd x.1 x.2)
  · obtain ⟨q, rfl⟩ : ∃ q : Fin 32, n = ⟨2 + q, lt66a q⟩ := ⟨⟨n - 2, by omega⟩, Fin.ext (by simp; omega)⟩
    rw [st2_at]
    refine Finset.sum_congr rfl fun a _ => Finset.sum_congr rfl fun r _ => Finset.sum_congr rfl fun w _ => ?_
    rw [hx]; congr 1; exact Fin.ext (by simp)
  · obtain ⟨q, rfl⟩ : ∃ q : Fin 32, n = ⟨34 + q, lt66b q⟩ := ⟨⟨n - 34, by omega⟩, Fin.ext (by simp; omega)⟩
    rw [st3_at]
    refine Finset.sum_congr rfl fun a _ => Finset.sum_congr rfl fun r _ => Finset.sum_congr rfl fun w _ => ?_
    have e : (⟨3 * (⟨34 + q.val - 34, by omega⟩ : Fin 32).val + a.val, by simp; omega⟩ : Fin 96) = ⟨3 * q + a, by omega⟩ := Fin.ext (by simp)
    simp only [hx, sqI]; rw [e]
end

variable (V : (c : Dev nD) → (b : Ref sig .tc) → Buf (Elt Ideal) ((c : Thread nD τ).loc b)) (c : Dev nD)

/-- The detail map after the statistics call. -/
theorem arr0_3 (A : FVec Ideal S2x96x224x224 .f32) (hA : V c main_arg0 = A) (Hl : FVec Ideal S2x7x96x4x224 .f32) (hHl : V c main_v27 = Hl)
    (M : FVec Ideal S224x224 .f32) (hM : V c main_cst = M)
    (hh : ∀ b (t : Fin 7) ch (r : Fin 4) w, Hl (ix5 b t ch r w) = xrow (img A b) ch (if (r : ℕ) < 2 then 32 * t + r else 32 * t + 32 + r) w) :
    (dat0 V c).arrAt 3 cfg0.N = (fun j : S2x224x224.Idx => dfK (img A (j 0)) (fun x w => M (ix2 x w)) (j 1) (j 2)) := by
  refine (dat0 V c).arrAt_eq_of_covers 3 _ (by decide +kernel) fun t _ y => ?_
  blk_simp
  rw [after0_3]
  frame_out
  have h0 : ∀ ch (r : Fin 32) (w : Fin 224), iblk0 V c 0 t (ix4 0 ch r w) = img A (grid0.coords t 0) ch ⟨32 * (grid0.coords t 1).val + r, by have := lt7 (grid0.coords t); omega⟩ w := fun ch r w => by
    subst hA; unfold img; blk_ext [iblk0, idx0 t]
  have h1 : ∀ ch (r : Fin 4) (w : Fin 224), iblk0 V c 1 t (ix5 0 0 ch r w) = Hl (ix5 (grid0.coords t 0) (grid0.coords t 1) ch r w) := fun ch r w => by
    subst hHl; blk_ext [iblk0, idx0 t]
  have h2 : ∀ (x w : Fin 224), iblk0 V c 2 t (ix2 x w) = M (ix2 x w) := fun x w => by
    subst hM; blk_ext [iblk0, idx0 t]
  idx_vars y
  pointwise [k0_pay14]
  refine (body0_df (img A (grid0.coords t 0)) (fun x w => M (ix2 x w)) (grid0.coords t) _ _ _ h0 (fun ch r w => (h1 ch r w).trans (hh _ _ ch r w)) h2 _ _).trans ?_
  have key : (((View.whole main_v28_0).slice (win0_3.rect t)).emb (ix3 y0 y1 y2) : S2x224x224.Idx) = ix3 (grid0.coords t 0) ⟨32 * (grid0.coords t 1).val + y1, by have := lt7 (grid0.coords t); omega⟩ y2 := by
    blk_ext [idx0 t]
  rw [key]
  rfl

/-- What the tiles report after the statistics call. -/
theorem arr0_4 (A : FVec Ideal S2x96x224x224 .f32) (hA : V c main_arg0 = A) (Hl : FVec Ideal S2x7x96x4x224 .f32) (hHl : V c main_v27 = Hl)
    (M : FVec Ideal S224x224 .f32) (hM : V c main_cst = M)
    (hh : ∀ b (t : Fin 7) ch (r : Fin 4) w, Hl (ix5 b t ch r w) = xrow (img A b) ch (if (r : ℕ) < 2 then 32 * t + r else 32 * t + 32 + r) w) :
    (dat0 V c).arrAt 4 cfg0.N = (fun j : S2x7x1x66.Idx => stS (img A (j 0)) (dfK (img A (j 0)) (fun x w => M (ix2 x w))) (j 1) (j 3)) := by
  refine (dat0 V c).arrAt_eq_of_covers 4 _ (by decide +kernel) fun t _ y => ?_
  blk_simp
  rw [after0_4]
  frame_out
  have h0 : ∀ ch (r : Fin 32) (w : Fin 224), iblk0 V c 0 t (ix4 0 ch r w) = img A (grid0.coords t 0) ch ⟨32 * (grid0.coords t 1).val + r, by have := lt7 (grid0.coords t); omega⟩ w := fun ch r w => by
    subst hA; unfold img; blk_ext [iblk0, idx0 t]
  have h1 : ∀ ch (r : Fin 4) (w : Fin 224), iblk0 V c 1 t (ix5 0 0 ch r w) = Hl (ix5 (grid0.coords t 0) (grid0.coords t 1) ch r w) := fun ch r w => by
    subst hHl; blk_ext [iblk0, idx0 t]
  have h2 : ∀ (x w : Fin 224), iblk0 V c 2 t (ix2 x w) = M (ix2 x w) := fun x w => by
    subst hM; blk_ext [iblk0, idx0 t]
  idx_vars y
  refine (body0_st (img A (grid0.coords t 0)) (fun x w => M (ix2 x w)) (grid0.coords t) _ _ _ h0 (fun ch r w => (h1 ch r w).trans (hh _ _ ch r w)) h2 _ _ _ _).trans ?_
  have key : (((View.whole main_v28_1).slice (win0_4.rect t)).emb (ix4 y0 y1 y2 y3) : S2x7x1x66.Idx) = ix4 (grid0.coords t 0) (grid0.coords t 1) 0 y3 := by
    blk_ext [idx0 t]
  rw [key]
  rfl

end Cert.KV

end
-- ==== Proof.K.Region1.lean ====
module

public import proofs.«01_k».proof.Proof.K.Body1b
public import proofs.«01_k».proof.Proof.K.Region0

/-! What the main call leaves in the result's array. -/

@[expose] public section

set_option maxRecDepth 16384
set_option maxHeartbeats 2000000

noncomputable section

namespace Cert.KV

open Cert.KernelIdeal Cert.KernelIdeal.Gen Idealize.ShloMosaic Idealize.ShloMosaic.TcCoe Idealize.SL.Sem
open Idealize.ShloMosaic.Pipeline (Dat)

theorem idx1 : ∀ t : Fin cfg1.N, win1_0.index t = ![(grid1.coords t 0).val, 0, (grid1.coords t 1).val, 0]
    ∧ win1_1.index t = ![(grid1.coords t 0).val, (grid1.coords t 1).val, 0, 0, 0] ∧ win1_2.index t = ![(grid1.coords t 0).val, (grid1.coords t 1).val, 0]
    ∧ win1_3.index t = ![(grid1.coords t 0).val, 0, 0] ∧ win1_4.index t = ![0, 0] ∧ win1_5.index t = ![0, 0] ∧ win1_6.index t = ![0, 0]
    ∧ win1_7.index t = ![0, 0] ∧ win1_8.index t = ![0, 0] ∧ win1_9.index t = ![0, 0]
    ∧ win1_10.index t = ![(grid1.coords t 0).val, 0, (grid1.coords t 1).val, 0] :=
  (by decide +kernel : ∀ t : Fin grid1.N, _)

theorem lt7' (i : grid1.Coords) : 32 * (i 1).val + 32 ≤ 224 := by have : (i 1).val < 7 := (i 1).2; omega

theorem ld1_4 (x : Vec Ideal S32x3 .f32) : View.ld x r1_4 = x := View.ld_unit_zero (by decide) _ _
theorem ld1_5 (x : Vec Ideal S192x96 .f32) : View.ld x r1_5 = x := View.ld_unit_zero (by decide) _ _
theorem ld1_6 (x : Vec Ideal S1x192 .f32) : View.ld x r1_6 = x := View.ld_unit_zero (by decide) _ _
theorem ld1_7 (x : Vec Ideal S96x192 .f32) : View.ld x r1_7 = x := View.ld_unit_zero (by decide) _ _
theorem ld1_8 (x : Vec Ideal S1x96 .f32) : View.ld x r1_8 = x := View.ld_unit_zero (by decide) _ _

variable (V : (c : Dev nD) → (b : Ref sig .tc) → Buf (Elt Ideal) ((c : Thread nD τ).loc b)) (c : Dev nD)

/-- The result after the main call. -/
theorem arr1_10 (A : FVec Ideal S2x96x224x224 .f32) (hA : V c main_arg0 = A) (Hl : FVec Ideal S2x7x96x4x224 .f32) (hHl : V c main_v27 = Hl)
    (D : FVec Ideal S2x224x224 .f32) (hD : V c main_v28_0 = D) (S : FVec Ideal S2x7x66 .f32) (hS : V c main_v29 = S)
    (ga be : FVec Ideal S32x3 .f32) (hga : V c main_v30 = ga) (hbe : V c main_v31 = be)
    (w1 : FVec Ideal S192x96 .f32) (hw1 : V c main_arg3 = w1) (b1 : FVec Ideal S1x192 .f32) (hb1 : V c main_v32 = b1)
    (w2 : FVec Ideal S96x192 .f32) (hw2 : V c main_arg5 = w2) (b2 : FVec Ideal S1x96 .f32) (hb2 : V c main_v33 = b2)
    (gam bet : Fin 96 → EReal) (hgam : ∀ (g : Fin 32) (a : Fin 3), ga (ix2 g a) = gam ⟨3 * g + a, by omega⟩) (hbet : ∀ (g : Fin 32) (a : Fin 3), be (ix2 g a) = bet ⟨3 * g + a, by omega⟩)
    (hh : ∀ b (t : Fin 7) ch (r : Fin 4) w, Hl (ix5 b t ch r w) = xrow (img A b) ch (if (r : ℕ) < 2 then 32 * t + r else 32 * t + 32 + r) w) :
    (dat1 V c).arrAt 10 cfg1.N = (fun j : S2x96x224x224.Idx => outS (img A (j 0)) (fun h w => D (ix3 (j 0) h w)) (fun t n => S (ix3 (j 0) t n)) gam bet
      (fun o d => w1 (ix2 o d)) (fun o => b1 (ix2 0 o)) (fun k o => w2 (ix2 k o)) (fun k => b2 (ix2 0 k)) (j 1) (j 2) (j 3)) := by
  refine (dat1 V c).arrAt_eq_of_covers 10 _ (by decide +kernel) fun t _ y => ?_
  blk_simp
  rw [after1_10]
  frame_out
  have h0 : ∀ ch (r : Fin 32) (w : Fin 224), iblk1 V c 0 t (ix4 0 ch r w) = img A (grid1.coords t 0) ch ⟨32 * (grid1.coords t 1).val + r, ltT (lt7' (grid1.coords t)) r⟩ w := fun ch r w => by
    subst hA; unfold img; blk_ext [iblk1, idx1 t]
  have h1 : ∀ ch (r : Fin 4) (w : Fin 224), iblk1 V c 1 t (ix5 0 0 ch r w) = Hl (ix5 (grid1.coords t 0) (grid1.coords t 1) ch r w) := fun ch r w => by
    subst hHl; blk_ext [iblk1, idx1 t]
  have h2 : ∀ (r : Fin 32) (w : Fin 224), iblk1 V c 2 t (ix3 0 r w) = D (ix3 (grid1.coords t 0) ⟨32 * (grid1.coords t 1).val + r, ltT (lt7' (grid1.coords t)) r⟩ w) := fun r w => by
    subst hD; blk_ext [iblk1, idx1 t]
  have h3 : ∀ (q : Fin 7) (n : Fin 66), iblk1 V c 3 t (ix3 0 q n) = S (ix3 (grid1.coords t 0) q n) := fun q n => by
    subst hS; blk_ext [iblk1, idx1 t]
  have h4 : ∀ (g : Fin 32) (a : Fin 3), iblk1 V c 4 t (ix2 g a) = ga (ix2 g a) := fun g a => by
    subst hga; blk_ext [iblk1, idx1 t]
  have h5 : ∀ (g : Fin 32) (a : Fin 3), iblk1 V c 5 t (ix2 g a) = be (ix2 g a) := fun g a => by
    subst hbe; blk_ext [iblk1, idx1 t]
  have h6 : ∀ (o : Fin 192) (d : Fin 96), iblk1 V c 6 t (ix2 o d) = w1 (ix2 o d) := fun o d => by
    subst hw1; blk_ext [iblk1, idx1 t]
  have h7 : ∀ (o : Fin 192), iblk1 V c 7 t (ix2 0 o) = b1 (ix2 0 o) := fun o => by
    subst hb1; blk_ext [iblk1, idx1 t]
  have h8 : ∀ (k : Fin 96) (o : Fin 192), iblk1 V c 8 t (ix2 k o) = w2 (ix2 k o) := fun k o => by
    subst hw2; blk_ext [iblk1, idx1 t]
  have h9 : ∀ (k : Fin 96), iblk1 V c 9 t (ix2 0 k) = b2 (ix2 0 k) := fun k => by
    subst hb2; blk_ext [iblk1, idx1 t]
  idx_vars y
  obtain rfl : y0 = 0 := Subsingleton.elim _ _
  refine (body1 _ _ _ _ _ _ _ _ _ _ (img A (grid1.coords t 0)) (32 * (grid1.coords t 1).val) (lt7' _) (fun h w => D (ix3 (grid1.coords t 0) h w)) (fun q n => S (ix3 (grid1.coords t 0) q n)) gam bet
    _ _ _ _ h0 (fun ch r w => (h1 ch r w).trans (hh _ _ ch r w)) h2 h3 (fun g a => (h4 g a).trans (hgam g a)) (fun g a => (h5 g a).trans (hbet g a)) h6 h7 h8 h9 y1 y2 y3).trans ?_
  have key : (((View.whole main_v34).slice (win1_10.rect t)).emb (ix4 0 y1 y2 y3) : S2x96x224x224.Idx) = ix4 (grid1.coords t 0) y1 ⟨32 * (grid1.coords t 1).val + y2, ltT (lt7' (grid1.coords t)) y2⟩ y3 := by
    blk_ext [idx1 t]
  rw [key]
  rfl

end Cert.KV

end
-- ==== Proof.K.KHost.lean ====
module

public import proofs.«01_k».proof.Proof.K.Region1
public import Idealize.ShloMosaic.Lib.Claim
public import Idealize.ShloMosaic.Lib.StableHlo.RunRead

/-! What the host prepares for the two calls: the rows around each tile, the smoothing matrix, the reshaped arguments. -/

@[expose] public section

set_option maxRecDepth 16384
set_option maxHeartbeats 4000000

noncomputable section

namespace Cert.KV

open Cert.KernelIdeal Cert.KernelIdeal.Gen Idealize.ShloMosaic Idealize.ShloMosaic.TcCoe Idealize.SL.Sem

variable (σ : Valuation τ sig (Elt Ideal))

/-- The smoothing matrix the host writes. -/
def Mk (x w : Fin 224) : EReal := Ideal.ofBits .f32 (lit0 (S224x224.rowMajor (ix2 x w)))

theorem mw_at (x w : Fin 224) : (StableHlo.after hostOps0 σ (Proc.devRef .tc main_cst) : FVec Ideal S224x224 .f32) (ix2 x w) = Mk x w := by
  entry_read
  rfl

theorem cat7 (u0 u1 u2 u3 u4 u5 u6 : FVec Ideal S2x1x96x4x224 .f32) (h) (b : Fin 2) (t : Fin 7) (ch : Fin 96) (r : Fin 4) (w : Fin 224) :
    concatenate (α := EReal) S2x7x96x4x224 1 [⟨S2x1x96x4x224, u0⟩, ⟨S2x1x96x4x224, u1⟩, ⟨S2x1x96x4x224, u2⟩, ⟨S2x1x96x4x224, u3⟩, ⟨S2x1x96x4x224, u4⟩, ⟨S2x1x96x4x224, u5⟩, ⟨S2x1x96x4x224, u6⟩] h (ix5 b t ch r w)
      = (![u0 (ix5 b 0 ch r w), u1 (ix5 b 0 ch r w), u2 (ix5 b 0 ch r w), u3 (ix5 b 0 ch r w), u4 (ix5 b 0 ch r w), u5 (ix5 b 0 ch r w), u6 (ix5 b 0 ch r w)] : Fin 7 → EReal) t := by
  pointwise []
  fin_cases t <;> rfl

theorem cat2 (u v : FVec Ideal S2x96x2x224 .f32) (h) (b : Fin 2) (t : Fin 1) (ch : Fin 96) (r : Fin 4) (w : Fin 224) :
    broadcastInDim S2x1x96x4x224 ![0, 2, 3, 4] bcast_S2x96x4x224_S2x1x96x4x224_0_2_3_4
      (concatenate (α := EReal) S2x96x4x224 2 [⟨S2x96x2x224, u⟩, ⟨S2x96x2x224, v⟩] h) (ix5 b t ch r w)
      = if hr : (r : ℕ) < 2 then u (ix4 b ch ⟨r, hr⟩ w) else v (ix4 b ch ⟨(r : ℕ) - 2, by omega⟩ w) := by
  pointwise []

theorem rd (X : Img) (ch : Fin 96) (p : ℕ) (h : 2 ≤ p ∧ p ≤ 225) (w : Fin 224) :
    xrow X ch p w = X ch ⟨p - 2, by omega⟩ w := by
  unfold xrow; rw [dif_pos h]

theorem rd0 (X : Img) (ch : Fin 96) (p : ℕ) (h : ¬ (2 ≤ p ∧ p ≤ 225)) (w : Fin 224) :
    xrow X ch p w = 0 := by
  unfold xrow; rw [dif_neg h]

theorem halo_at (b : Fin 2) (t : Fin 7) (ch : Fin 96) (r : Fin 4) (w : Fin 224) :
    (StableHlo.after hostOps0 σ (Proc.devRef .tc main_v27) : FVec Ideal S2x7x96x4x224 .f32) (ix5 b t ch r w)
      = xrow (img (σ (Proc.devRef .tc main_arg0)) b) ch (if (r : ℕ) < 2 then 32 * t + r else 32 * t + 32 + r) w := by
  after_reads_simp
  refine (cat7 _ _ _ _ _ _ _ _ b t ch r w).trans ?_
  by_cases hr : (r : ℕ) < 2
  · rw [if_pos hr]
    fin_cases t
    · show (StableHlo.upto hostOps0 σ 29 (Proc.devRef .tc main_v20) : FVec Ideal S2x1x96x4x224 .f32) (ix5 b 0 ch r w) = _
      after_reads_simp
      refine (cat2 _ _ _ b 0 ch r w).trans ?_
      rw [dif_pos hr, rd0 _ _ _ (by simp; omega)]
      after_reads_simp
      pointwise []
    · show (StableHlo.upto hostOps0 σ 29 (Proc.devRef .tc main_v21) : FVec Ideal S2x1x96x4x224 .f32) (ix5 b 0 ch r w) = _
      after_reads_simp
      refine (cat2 _ _ _ b 0 ch r w).trans ?_
      rw [dif_pos hr, rd _ _ _ (by simp; omega)]
      after_reads_simp
      pointwise []
      unfold img
      congr 2; ext; simp; omega
    · show (StableHlo.upto hostOps0 σ 29 (Proc.devRef .tc main_v22) : FVec Ideal S2x1x96x4x224 .f32) (ix5 b 0 ch r w) = _
      after_reads_simp
      refine (cat2 _ _ _ b 0 ch r w).trans ?_
      rw [dif_pos hr, rd _ _ _ (by simp; omega)]
      after_reads_simp
      pointwise []
      unfold img
      congr 2; ext; simp; omega
    · show (StableHlo.upto hostOps0 σ 29 (Proc.devRef .tc main_v23) : FVec Ideal S2x1x96x4x224 .f32) (ix5 b 0 ch r w) = _
      after_reads_simp
      refine (cat2 _ _ _ b 0 ch r w).trans ?_
      rw [dif_pos hr, rd _ _ _ (by simp; omega)]
      after_reads_simp
      pointwise []
      unfold img
      congr 2; ext; simp; omega
    · show (StableHlo.upto hostOps0 σ 29 (Proc.devRef .tc main_v24) : FVec Ideal S2x1x96x4x224 .f32) (ix5 b 0 ch r w) = _
      after_reads_simp
      refine (cat2 _ _ _ b 0 ch r w).trans ?_
      rw [dif_pos hr, rd _ _ _ (by simp; omega)]
      after_reads_simp
      pointwise []
      unfold img
      congr 2; ext; simp; omega
    · show (StableHlo.upto hostOps0 σ 29 (Proc.devRef .tc main_v25) : FVec Ideal S2x1x96x4x224 .f32) (ix5 b 0 ch r w) = _
      after_reads_simp
      refine (cat2 _ _ _ b 0 ch r w).trans ?_
      rw [dif_pos hr, rd _ _ _ (by simp; omega)]
      after_reads_simp
      pointwise []
      unfold img
      congr 2; ext; simp; omega
    · show (StableHlo.upto hostOps0 σ 29 (Proc.devRef .tc main_v26) : FVec Ideal S2x1x96x4x224 .f32) (ix5 b 0 ch r w) = _
      after_reads_simp
      refine (cat2 _ _ _ b 0 ch r w).trans ?_
      rw [dif_pos hr, rd _ _ _ (by simp; omega)]
      after_reads_simp
      pointwise []
      unfold img
      congr 2; ext; simp; omega
  · rw [if_neg hr]
    have h4 := r.2
    fin_cases t
    · show (StableHlo.upto hostOps0 σ 29 (Proc.devRef .tc main_v20) : FVec Ideal S2x1x96x4x224 .f32) (ix5 b 0 ch r w) = _
      after_reads_simp
      refine (cat2 _ _ _ b 0 ch r w).trans ?_
      rw [dif_neg hr, rd _ _ _ (by simp; omega)]
      after_reads_simp
      pointwise []
      unfold img
      congr 2; ext; simp; omega
    · show (StableHlo.upto hostOps0 σ 29 (Proc.devRef .tc main_v21) : FVec Ideal S2x1x96x4x224 .f32) (ix5 b 0 ch r w) = _
      after_reads_simp
      refine (cat2 _ _ _ b 0 ch r w).trans ?_
      rw [dif_neg hr, rd _ _ _ (by simp; omega)]
      after_reads_simp
      pointwise []
      unfold img
      congr 2; ext; simp; omega
    · show (StableHlo.upto hostOps0 σ 29 (Proc.devRef .tc main_v22) : FVec Ideal S2x1x96x4x224 .f32) (ix5 b 0 ch r w) = _
      after_reads_simp
      refine (cat2 _ _ _ b 0 ch r w).trans ?_
      rw [dif_neg hr, rd _ _ _ (by simp; omega)]
      after_reads_simp
      pointwise []
      unfold img
      congr 2; ext; simp; omega
    · show (StableHlo.upto hostOps0 σ 29 (Proc.devRef .tc main_v23) : FVec Ideal S2x1x96x4x224 .f32) (ix5 b 0 ch r w) = _
      after_reads_simp
      refine (cat2 _ _ _ b 0 ch r w).trans ?_
      rw [dif_neg hr, rd _ _ _ (by simp; omega)]
      after_reads_simp
      pointwise []
      unfold img
      congr 2; ext; simp; omega
    · show (StableHlo.upto hostOps0 σ 29 (Proc.devRef .tc main_v24) : FVec Ideal S2x1x96x4x224 .f32) (ix5 b 0 ch r w) = _
      after_reads_simp
      refine (cat2 _ _ _ b 0 ch r w).trans ?_
      rw [dif_neg hr, rd _ _ _ (by simp; omega)]
      after_reads_simp
      pointwise []
      unfold img
      congr 2; ext; simp; omega
    · show (StableHlo.upto hostOps0 σ 29 (Proc.devRef .tc main_v25) : FVec Ideal S2x1x96x4x224 .f32) (ix5 b 0 ch r w) = _
      after_reads_simp
      refine (cat2 _ _ _ b 0 ch r w).trans ?_
      rw [dif_neg hr, rd _ _ _ (by simp; omega)]
      after_reads_simp
      pointwise []
      unfold img
      congr 2; ext; simp; omega
    · show (StableHlo.upto hostOps0 σ 29 (Proc.devRef .tc main_v26) : FVec Ideal S2x1x96x4x224 .f32) (ix5 b 0 ch r w) = _
      after_reads_simp
      refine (cat2 _ _ _ b 0 ch r w).trans ?_
      rw [dif_neg hr, rd0 _ _ _ (by simp; omega)]
      after_reads_simp
      pointwise []

theorem v29_at (b : Fin 2) (t : Fin 7) (n : Fin 66) :
    (StableHlo.after hostOps1 σ (Proc.devRef .tc main_v29) : FVec Ideal S2x7x66 .f32) (ix3 b t n) = (σ (Proc.devRef .tc main_v28_1) : FVec Ideal S2x7x1x66 .f32) (ix4 b t 0 n) := by
  entry_read
  pointwise []

theorem v30_at (g : Fin 32) (a : Fin 3) :
    (StableHlo.after hostOps1 σ (Proc.devRef .tc main_v30) : FVec Ideal S32x3 .f32) (ix2 g a) = (σ (Proc.devRef .tc main_arg1) : FVec Ideal S96 .f32) (ix1 ⟨(g : ℕ) * 3 + a, by omega⟩) := by
  entry_read
  pointwise []

theorem v31_at (g : Fin 32) (a : Fin 3) :
    (StableHlo.after hostOps1 σ (Proc.devRef .tc main_v31) : FVec Ideal S32x3 .f32) (ix2 g a) = (σ (Proc.devRef .tc main_arg2) : FVec Ideal S96 .f32) (ix1 ⟨(g : ℕ) * 3 + a, by omega⟩) := by
  entry_read
  pointwise []

theorem v32_at (o : Fin 192) :
    (StableHlo.after hostOps1 σ (Proc.devRef .tc main_v32) : FVec Ideal S1x192 .f32) (ix2 0 o) = (σ (Proc.devRef .tc main_arg4) : FVec Ideal S192 .f32) (ix1 o) := by
  entry_read
  pointwise []

theorem v33_at (o : Fin 96) :
    (StableHlo.after hostOps1 σ (Proc.devRef .tc main_v33) : FVec Ideal S1x96 .f32) (ix2 0 o) = (σ (Proc.devRef .tc main_arg6) : FVec Ideal S96 .f32) (ix1 o) := by
  entry_read
  pointwise []

end Cert.KV

end
-- ==== Proof.K.KVal.lean ====
module

public import proofs.«01_k».proof.Proof.K.KHost

/-! The result array after both calls, as a function of the arguments. -/

@[expose] public section

set_option maxRecDepth 16384
set_option maxHeartbeats 4000000

noncomputable section

namespace Cert.KV

open Cert.KernelIdeal Cert.KernelIdeal.Gen Idealize.ShloMosaic Idealize.ShloMosaic.TcCoe Idealize.SL.Sem

/-- What the kernel computes for one image. -/
def kerS (X : Img) (ga be : Fin 96 → EReal) (w1 : Fin 192 → Fin 96 → EReal) (b1 : Fin 192 → EReal) (w2 : Fin 96 → Fin 192 → EReal) (b2 : Fin 96 → EReal) : Img :=
  outS X (dfK X Mk) (stS X (dfK X Mk)) ga be w1 b1 w2 b2

variable (m : (ℓ : Loc nD τ sig) → Buf (Elt Ideal) ℓ) (ρ : Dev nD → PrngReg) (c : Dev nD)

theorem v1_arg (a : Ref sig .tc) (ha : a ∈ argRefs) : V1 m ρ c a = m ((c : Thread nD τ).loc a) := W1_args m ρ c a ha
theorem v3_arg (a : Ref sig .tc) (ha : a ∈ argRefs) : V3 m ρ c a = m ((c : Thread nD τ).loc a) := W3_args m ρ c a ha

theorem v1_halo (b : Fin 2) (t : Fin 7) (ch : Fin 96) (r : Fin 4) (w : Fin 224) :
    (V1 m ρ c main_v27 : FVec Ideal S2x7x96x4x224 .f32) (ix5 b t ch r w)
      = xrow (img (m ((c : Thread nD τ).loc main_arg0)) b) ch (if (r : ℕ) < 2 then 32 * t + r else 32 * t + 32 + r) w :=
  halo_at (W0 m ρ c) b t ch r w

theorem v3_v27 : V3 m ρ c main_v27 = V1 m ρ c main_v27 :=
  (W3_of m ρ c main_v27 (by decide)).trans (W2_of m ρ c main_v27 (by decide))

theorem v1_mw (x w : Fin 224) : (V1 m ρ c main_cst : FVec Ideal S224x224 .f32) (ix2 x w) = Mk x w := mw_at (W0 m ρ c) x w

theorem v3_df : V3 m ρ c main_v28_0 = (fun j : S2x224x224.Idx => dfK (img (m ((c : Thread nD τ).loc main_arg0)) (j 0)) Mk (j 1) (j 2)) := by
  refine (W3_of m ρ c main_v28_0 (by decide)).trans ((W2_arr m ρ c 3).trans ?_)
  refine (arr0_3 (V1 m ρ) c _ (v1_arg m ρ c main_arg0 (by decide)) _ rfl _ rfl (v1_halo m ρ c)).trans ?_
  funext j
  have e : (fun x w => (V1 m ρ c main_cst : FVec Ideal S224x224 .f32) (ix2 x w)) = Mk := by
    funext x w; exact v1_mw m ρ c x w
  show dfK _ (fun x w => (V1 m ρ c main_cst : FVec Ideal S224x224 .f32) (ix2 x w)) _ _ = _
  rw [e]

theorem v3_st : V3 m ρ c main_v29 = (fun j : S2x7x66.Idx => stS (img (m ((c : Thread nD τ).loc main_arg0)) (j 0)) (dfK (img (m ((c : Thread nD τ).loc main_arg0)) (j 0)) Mk) (j 1) (j 2)) := by
  funext j
  idx_vars j
  refine (v29_at (W2 m ρ c) j0 j1 j2).trans ?_
  have h := (W2_arr m ρ c 4).trans (arr0_4 (V1 m ρ) c _ (v1_arg m ρ c main_arg0 (by decide)) _ rfl _ rfl (v1_halo m ρ c))
  refine (congrFun h (ix4 j0 j1 0 j2)).trans ?_
  show stS _ (dfK _ (fun x w => (V1 m ρ c main_cst : FVec Ideal S224x224 .f32) (ix2 x w))) j1 j2 = _
  have e : (fun x w => (V1 m ρ c main_cst : FVec Ideal S224x224 .f32) (ix2 x w)) = Mk := by
    funext x w; exact v1_mw m ρ c x w
  rw [e]
  rfl

/-- The kernel's result array. -/
theorem kernel_value : W4 m ρ c (Proc.devRef .tc main_v34) = (fun j : S2x96x224x224.Idx =>
    kerS (img (m ((c : Thread nD τ).loc main_arg0)) (j 0))
      (fun k => (m ((c : Thread nD τ).loc main_arg1) : FVec Ideal S96 .f32) (ix1 k))
      (fun k => (m ((c : Thread nD τ).loc main_arg2) : FVec Ideal S96 .f32) (ix1 k))
      (fun o d => (m ((c : Thread nD τ).loc main_arg3) : FVec Ideal S192x96 .f32) (ix2 o d))
      (fun o => (m ((c : Thread nD τ).loc main_arg4) : FVec Ideal S192 .f32) (ix1 o))
      (fun k o => (m ((c : Thread nD τ).loc main_arg5) : FVec Ideal S96x192 .f32) (ix2 k o))
      (fun k => (m ((c : Thread nD τ).loc main_arg6) : FVec Ideal S96 .f32) (ix1 k)) (j 1) (j 2) (j 3)) := by
  refine (W4_arr m ρ c 10).trans ?_
  have ea : ∀ a ∈ argRefs, W2 m ρ c (Proc.devRef .tc a) = m ((c : Thread nD τ).loc a) := W2_args m ρ c
  refine (arr1_10 (V3 m ρ) c _ (v3_arg m ρ c main_arg0 (by decide)) _ (v3_v27 m ρ c) _ (v3_df m ρ c) _ (v3_st m ρ c) _ _ rfl rfl
    _ (v3_arg m ρ c main_arg3 (by decide)) _ rfl _ (v3_arg m ρ c main_arg5 (by decide)) _ rfl
    (fun k => (m ((c : Thread nD τ).loc main_arg1) : FVec Ideal S96 .f32) (ix1 k))
    (fun k => (m ((c : Thread nD τ).loc main_arg2) : FVec Ideal S96 .f32) (ix1 k))
    (fun g a => (v30_at (W2 m ρ c) g a).trans ?_) (fun g a => (v31_at (W2 m ρ c) g a).trans ?_) (v1_halo m ρ c)).trans ?_
  · rw [ea main_arg1 (by decide)]; congr 2; ext; simp; omega
  · rw [ea main_arg2 (by decide)]; congr 2; ext; simp; omega
  · have e1 : (fun o => (V3 m ρ c main_v32 : FVec Ideal S1x192 .f32) (ix2 0 o)) = fun o => (m ((c : Thread nD τ).loc main_arg4) : FVec Ideal S192 .f32) (ix1 o) := by
      funext o
      refine (v32_at (W2 m ρ c) o).trans ?_
      rw [ea main_arg4 (by decide)]
    have e2 : (fun o => (V3 m ρ c main_v33 : FVec Ideal S1x96 .f32) (ix2 0 o)) = fun o => (m ((c : Thread nD τ).loc main_arg6) : FVec Ideal S96 .f32) (ix1 o) := by
      funext o
      refine (v33_at (W2 m ρ c) o).trans ?_
      rw [ea main_arg6 (by decide)]
    funext j
    unfold kerS
    rw [← e1, ← e2]
    rfl

end Cert.KV

end
-- ==== Proof.K.KRun.lean ====
module

public import proofs.«01_k».proof.Proof.K.KVal

/-! The kernel's run: the launch of its segments, read at the result and at the arguments. -/

@[expose] public section

set_option maxRecDepth 16384

noncomputable section

namespace Cert.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run of the kernel ends with its result as computed and its arguments as launched. -/
theorem kernel_run : θ_run defs (onTc (τ := τ) (main (F := F))) ⟨m, fun _ => 0, ρ⟩ (fun r => (∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

end Cert.KV

end
-- ==== Proof.K.RGather.lean ====
module

public import proofs.«01_k».proof.ReferenceIdeal
public import Idealize.ShloMosaic.Lib.Pointwise
public import Idealize.ShloMosaic.Lib.SortFacts

/-! The reference's indexed reads: each one read at an index whose start is in range. -/

@[expose] public section

set_option maxRecDepth 16384
set_option maxHeartbeats 2000000

noncomputable section

namespace Cert.KV

open Cert.ReferenceIdeal Idealize.ShloMosaic

variable [Cert.ReferenceIdeal.Facts]

/-- An indexed read is the operand at the index whose coordinates are start, batch and offset summed. -/
theorem gather_of {α : Type} {s si t : Shape} (d : GatherDims s si t) (x : s.Idx → α) (idx : IVec si 32) (j : t.Idx) (k : s.Idx)
    (hk : ∀ a, d.start j idx a + d.batchCoord j a + d.offCoord j a = (k a).val) : Host.gather d x idx j = x k := by
  unfold Host.gather
  congr 1
  funext a
  exact Fin.ext (hk a)

theorem gr_down {α : Type} (x : S2x96x224x224.Idx → α) (idx : IVec S112x1 32) (b : Fin 2) (c : Fin 96) (h : Fin 112) (w : Fin 224) (p : Fin 224)
    (hp : (idx (ix2 h 0)).toInt = (p : ℕ)) :
    Host.gather gather_S2x96x224x224_S112x1_S2x96x112x224_013_2_n_n_2_1_2961224 x idx (ix4 b c h w) = x (ix4 b c p w) := by
  refine gather_of _ x idx _ _ fun a => ?_
  have hsi : ∀ q, (gather_S2x96x224x224_S112x1_S2x96x112x224_013_2_n_n_2_1_2961224).siIdx (ix4 b c h w) q = ix2 h 0 := by
    intro q; funext e; refine Fin.ext ?_
    match e with
    | ⟨0, _⟩ => rfl
    | ⟨1, _⟩ => exact Nat.lt_one_iff.1 q.2
  match a with
  | ⟨0, _⟩ => show 0 + 0 + (b : ℕ) = b; omega
  | ⟨1, _⟩ => show 0 + 0 + (c : ℕ) = c; omega
  | ⟨2, _⟩ =>
    show min (idx ((gather_S2x96x224x224_S112x1_S2x96x112x224_013_2_n_n_2_1_2961224).siIdx (ix4 b c h w) _)).toInt.toNat (224 - 1) + 0 + 0 = (p : ℕ)
    rw [hsi, hp]; have := p.2; omega
  | ⟨3, _⟩ => show 0 + 0 + (w : ℕ) = w; omega

theorem gc_down {α : Type} (x : S2x96x112x224.Idx → α) (idx : IVec S112x1 32) (b : Fin 2) (c : Fin 96) (h : Fin 112) (w : Fin 112) (p : Fin 224)
    (hp : (idx (ix2 w 0)).toInt = (p : ℕ)) :
    Host.gather gather_S2x96x112x224_S112x1_S2x96x112x112_012_3_n_n_3_1_2961121 x idx (ix4 b c h w) = x (ix4 b c h p) := by
  refine gather_of _ x idx _ _ fun a => ?_
  have hsi : ∀ q, (gather_S2x96x112x224_S112x1_S2x96x112x112_012_3_n_n_3_1_2961121).siIdx (ix4 b c h w) q = ix2 w 0 := by
    intro q; funext e; refine Fin.ext ?_
    match e with
    | ⟨0, _⟩ => rfl
    | ⟨1, _⟩ => exact Nat.lt_one_iff.1 q.2
  match a with
  | ⟨0, _⟩ => show 0 + 0 + (b : ℕ) = b; omega
  | ⟨1, _⟩ => show 0 + 0 + (c : ℕ) = c; omega
  | ⟨2, _⟩ => show 0 + 0 + (h : ℕ) = h; omega
  | ⟨3, _⟩ =>
    show min (idx ((gather_S2x96x112x224_S112x1_S2x96x112x112_012_3_n_n_3_1_2961121).siIdx (ix4 b c h w) _)).toInt.toNat (224 - 1) + 0 + 0 = (p : ℕ)
    rw [hsi, hp]; have := p.2; omega

theorem gr_up {α : Type} (x : S2x96x112x112.Idx → α) (idx : IVec S224x1 32) (b : Fin 2) (c : Fin 96) (h : Fin 224) (w : Fin 112) (p : Fin 112)
    (hp : (idx (ix2 h 0)).toInt = (p : ℕ)) :
    Host.gather gather_S2x96x112x112_S224x1_S2x96x224x112_013_2_n_n_2_1_2961112 x idx (ix4 b c h w) = x (ix4 b c p w) := by
  refine gather_of _ x idx _ _ fun a => ?_
  have hsi : ∀ q, (gather_S2x96x112x112_S224x1_S2x96x224x112_013_2_n_n_2_1_2961112).siIdx (ix4 b c h w) q = ix2 h 0 := by
    intro q; funext e; refine Fin.ext ?_
    match e with
    | ⟨0, _⟩ => rfl
    | ⟨1, _⟩ => exact Nat.lt_one_iff.1 q.2
  match a with
  | ⟨0, _⟩ => show 0 + 0 + (b : ℕ) = b; omega
  | ⟨1, _⟩ => show 0 + 0 + (c : ℕ) = c; omega
  | ⟨2, _⟩ =>
    show min (idx ((gather_S2x96x112x112_S224x1_S2x96x224x112_013_2_n_n_2_1_2961112).siIdx (ix4 b c h w) _)).toInt.toNat (112 - 1) + 0 + 0 = (p : ℕ)
    rw [hsi, hp]; have := p.2; omega
  | ⟨3, _⟩ => show 0 + 0 + (w : ℕ) = w; omega

theorem gc_up {α : Type} (x : S2x96x224x112.Idx → α) (idx : IVec S224x1 32) (b : Fin 2) (c : Fin 96) (h : Fin 224) (w : Fin 224) (p : Fin 112)
    (hp : (idx (ix2 w 0)).toInt = (p : ℕ)) :
    Host.gather gather_S2x96x224x112_S224x1_S2x96x224x224_012_3_n_n_3_1_2962241 x idx (ix4 b c h w) = x (ix4 b c h p) := by
  refine gather_of _ x idx _ _ fun a => ?_
  have hsi : ∀ q, (gather_S2x96x224x112_S224x1_S2x96x224x224_012_3_n_n_3_1_2962241).siIdx (ix4 b c h w) q = ix2 w 0 := by
    intro q; funext e; refine Fin.ext ?_
    match e with
    | ⟨0, _⟩ => rfl
    | ⟨1, _⟩ => exact Nat.lt_one_iff.1 q.2
  match a with
  | ⟨0, _⟩ => show 0 + 0 + (b : ℕ) = b; omega
  | ⟨1, _⟩ => show 0 + 0 + (c : ℕ) = c; omega
  | ⟨2, _⟩ => show 0 + 0 + (h : ℕ) = h; omega
  | ⟨3, _⟩ =>
    show min (idx ((gather_S2x96x224x112_S224x1_S2x96x224x224_012_3_n_n_3_1_2962241).siIdx (ix4 b c h w) _)).toInt.toNat (112 - 1) + 0 + 0 = (p : ℕ)
    rw [hsi, hp]; have := p.2; omega

theorem g_sim {α : Type} (x : S2x50176x9.Idx → α) (idx : IVec S2x50176x9x1 32) (b : Fin 2) (n : Fin 50176) (i : Fin 9) (p : Fin 9)
    (hp : (idx (ix4 b n i 0)).toInt = (p : ℕ)) :
    Host.gather gather_S2x50176x9_S2x50176x9x1_S2x50176x9_n_2_01_01_2_3_111 x idx (ix3 b n i) = x (ix3 b n p) := by
  refine gather_of _ x idx _ _ fun a => ?_
  have hsi : ∀ q, (gather_S2x50176x9_S2x50176x9x1_S2x50176x9_n_2_01_01_2_3_111).siIdx (ix3 b n i) q = ix4 b n i 0 := by
    intro q; funext e; refine Fin.ext ?_
    match e with
    | ⟨0, _⟩ => rfl
    | ⟨1, _⟩ => rfl
    | ⟨2, _⟩ => rfl
    | ⟨3, _⟩ => exact Nat.lt_one_iff.1 q.2
  match a with
  | ⟨0, _⟩ => show 0 + (b : ℕ) + 0 = b; omega
  | ⟨1, _⟩ => show 0 + (n : ℕ) + 0 = n; omega
  | ⟨2, _⟩ =>
    show min (idx ((gather_S2x50176x9_S2x50176x9x1_S2x50176x9_n_2_01_01_2_3_111).siIdx (ix3 b n i) _)).toInt.toNat (9 - 1) + 0 + 0 = (p : ℕ)
    rw [hsi, hp]; have := p.2; omega

theorem g_pat {α : Type} (x : S2x50176x9x96.Idx → α) (idx : IVec S2x50176x9x1 32) (b : Fin 2) (n : Fin 50176) (i : Fin 9) (c : Fin 96) (p : Fin 9)
    (hp : (idx (ix4 b n i 0)).toInt = (p : ℕ)) :
    Host.gather gather_S2x50176x9x96_S2x50176x9x1_S2x50176x9x96_3_2_01_01_2_3_11196 x idx (ix4 b n i c) = x (ix4 b n p c) := by
  refine gather_of _ x idx _ _ fun a => ?_
  have hsi : ∀ q, (gather_S2x50176x9x96_S2x50176x9x1_S2x50176x9x96_3_2_01_01_2_3_11196).siIdx (ix4 b n i c) q = ix4 b n i 0 := by
    intro q; funext e; refine Fin.ext ?_
    match e with
    | ⟨0, _⟩ => rfl
    | ⟨1, _⟩ => rfl
    | ⟨2, _⟩ => rfl
    | ⟨3, _⟩ => exact Nat.lt_one_iff.1 q.2
  match a with
  | ⟨0, _⟩ => show 0 + (b : ℕ) + 0 = b; omega
  | ⟨1, _⟩ => show 0 + (n : ℕ) + 0 = n; omega
  | ⟨2, _⟩ =>
    show min (idx ((gather_S2x50176x9x96_S2x50176x9x1_S2x50176x9x96_3_2_01_01_2_3_11196).siIdx (ix4 b n i c) _)).toInt.toNat (9 - 1) + 0 + 0 = (p : ℕ)
    rw [hsi, hp]; have := p.2; omega
  | ⟨3, _⟩ => show 0 + 0 + (c : ℕ) = c; omega

end Cert.KV

end
-- ==== Proof.K.RSort.lean ====
module

public import proofs.«01_k».proof.Proof.K.Spec
public import proofs.«01_k».proof.Proof.K.RGather

/-! A stable sort of nine similarities downwards puts every neighbour at its rank. -/

@[expose] public section

set_option maxRecDepth 16384
set_option maxHeartbeats 2000000

noncomputable section

namespace Cert.KV

open Idealize.ShloMosaic

/-- Neighbour `l` comes before neighbour `j`. -/
def ahead (s : Fin 9 → EReal) (l j : Fin 9) : Bool := decide (s j < s l ∨ (s j = s l ∧ l < j))

theorem stableSort_of_increasing (R R' : Fin 9 → Fin 9 → Bool) (h : ∀ a b, a < b → R b a = R' b a) (l : List (Fin 9))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b (hl.1 b ?_)
    exact (perm_stableSort R' l).mem_iff.1 hb

theorem sortedFrom_ahead (s : Fin 9 → EReal) :
    sortedFrom (fun k k' : Fin 9 => decide (s k' < s k)) = sortedFrom (ahead s) := by
  have e : sortPositions 9 (fun k k' : Fin 9 => decide (s k' < s k)) = sortPositions 9 (ahead s) := by
    refine stableSort_of_increasing _ _ (fun a b hab => ?_) _ (List.pairwise_lt_finRange 9)
    unfold ahead
    have : ¬ b < a := not_lt.2 hab.le
    simp [this]
  funext k
  unfold sortedFrom
  rw [List.get_of_eq e]
  rfl

theorem ahead_order (s : Fin 9 → EReal) (i j : Fin 9) (hij : i < j) :
    ahead s (sortedFrom (ahead s) j) (sortedFrom (ahead s) i) = false := by
  refine sortedFrom_noInversion (ahead s) (ahead s) (fun a b h => ?_) (fun a b h => h) (fun a b c h1 h2 => ?_) i j hij
  · unfold ahead at h ⊢
    rw [decide_eq_true_eq] at h
    rw [decide_eq_false_iff_not]
    rintro (h' | h')
    · rcases h with h | h
      · exact lt_asymm h h'
      · exact h'.ne h.1.symm
    · rcases h with h | h
      · exact h.ne h'.1.symm
      · exact lt_asymm h.2 h'.2
  · unfold ahead at h1 h2 ⊢
    rw [decide_eq_false_iff_not, not_or, not_and, not_lt, not_lt] at h1 h2 ⊢
    refine ⟨h1.1.trans h2.1, fun e => ?_⟩
    have e1 : s a = s b := le_antisymm h1.1 (h2.1.trans e.le)
    have e2 : s b = s c := e1.symm.trans e.symm
    exact (h2.2 e2.symm).trans (h1.2 e1.symm)

/-- The neighbour at sorted position `i` has rank `i`. -/
theorem rank_sorted (s : Fin 9 → EReal) (i : Fin 9) :
    rankN s (sortedFrom (fun k k' : Fin 9 => decide (s k' < s k)) i) = i := by
  rw [sortedFrom_ahead]
  have hb : Function.Bijective (sortedFrom (ahead s)) := ⟨sortedFrom_injective _, sortedFrom_surjective _⟩
  set p := sortedFrom (ahead s) with hp
  have h1 : rankN s (p i) = ∑ l : Fin 9, if ahead s l (p i) = true then 1 else 0 := by
    unfold rankN ahead
    exact Finset.sum_congr rfl fun l _ => by simp only [decide_eq_true_eq]
  rw [h1, ← (Equiv.ofBijective p hb).sum_comp]
  have h2 : ∀ k : Fin 9, (ahead s ((Equiv.ofBijective p hb) k) (p i) = true) = (k < i) := by
    intro k
    show (ahead s (p k) (p i) = true) = (k < i)
    rw [eq_iff_iff]
    constructor
    · intro h
      by_contra hk
      rcases (not_lt.1 hk).eq_or_lt with e | e
      · subst e
        unfold ahead at h
        simp at h
      · have := ahead_order s i k e
        rw [← hp] at this
        rw [this] at h
        exact absurd h (by decide)
    · intro h
      have h3 := ahead_order s k i h
      rw [← hp] at h3
      have hne : p i ≠ p k := fun e => h.ne' (hb.1 e)
      unfold ahead at h3 ⊢
      rw [decide_eq_false_iff_not, not_or, not_and, not_lt, not_lt] at h3
      rw [decide_eq_true_eq]
      rcases h3.1.eq_or_lt with e | e
      · right
        exact ⟨e, lt_of_le_of_ne (h3.2 e.symm) hne.symm⟩
      · left; exact e
  simp only [h2]
  rw [Finset.sum_boole]
  have h5 : Finset.univ.filter (fun k : Fin 9 => k < i) = Finset.Iio i := by ext; simp
  rw [h5, Fin.card_Iio]
  rfl

/-- A sum over sorted positions is a sum over neighbours, each at its rank. -/
theorem sum_sorted (s : Fin 9 → EReal) (G : Fin 9 → ℕ → EReal) :
    ∑ i : Fin 9, G (sortedFrom (fun k k' : Fin 9 => decide (s k' < s k)) i) i = ∑ j : Fin 9, G j (rankN s j) := by
  have hb : Function.Bijective (sortedFrom (fun k k' : Fin 9 => decide (s k' < s k))) := ⟨sortedFrom_injective _, sortedFrom_surjective _⟩
  rw [← (Equiv.ofBijective _ hb).sum_comp (fun j => G j (rankN s j))]
  refine Finset.sum_congr rfl fun i _ => ?_
  show _ = G (sortedFrom _ i) (rankN s (sortedFrom _ i))
  rw [rank_sorted]

theorem rankN_lt (s : Fin 9 → EReal) (j : Fin 9) : rankN s j < 9 := by
  have hb : Function.Surjective (sortedFrom (fun k k' : Fin 9 => decide (s k' < s k))) := sortedFrom_surjective _
  obtain ⟨i, rfl⟩ := hb j
  rw [rank_sorted]; exact i.2

end Cert.KV

end
-- ==== Proof.K.ROrder.lean ====
module

public import proofs.«01_k».proof.Proof.K.RSort

/-! The reference's order, read at an index. -/

@[expose] public section

set_option maxRecDepth 16384
set_option maxHeartbeats 2000000

noncomputable section

namespace Cert.KV

open Idealize.ShloMosaic

section
variable [Cert.ReferenceIdeal.Facts]
open Cert.ReferenceIdeal

theorem comp_at (x y : EReal) (a b : BitVec 32) :
    (comparator_f32_i32_d2 (F := Ideal) (x, a) (y, b) == 1#1) = decide (x < y) := by
  have ez : Ideal.ofBits .f32 0x00000000#32 = 0 := by simp [Ideal.ofBits, Ideal.ieee]
  unfold comparator_f32_i32_d2
  have e1 : ∀ z : EReal, Scalar.select (FloatOps.cmpf (F := Ideal) (φ := .f32) .oeq z (FloatOps.ofBits .f32 0x00000000#32)) (FloatOps.ofBits (F := Ideal) .f32 0x00000000#32) z = z := by
    intro z
    show (if Ideal.cmp .oeq z (Ideal.ofBits .f32 0x00000000#32) = 1#1 then Ideal.ofBits .f32 0x00000000#32 else z) = z
    rw [ez]
    by_cases h : z = 0
    · subst h; simp
    · simp [Ideal.cmp, h]
  have e2 : ∀ (z w : EReal), Scalar.select (FloatOps.cmpf (F := Ideal) (φ := .f32) .une z z) (FloatOps.ofBits (F := Ideal) .f32 0x7FC00000#32) w = w := by
    intro z w
    show (if Ideal.cmp .une z z = 1#1 then Ideal.ofBits .f32 0x7FC00000#32 else w) = w
    simp [Ideal.cmp]
  dsimp only
  rw [e1, e1, e2, e2]
  show (Ideal.cmp .olt x y == 1#1) = _
  unfold Ideal.cmp
  by_cases h : x < y <;> simp [h]

/-- The reference's order: sorted position `i` holds the neighbour that the sort takes from. -/
theorem order_at (v : FVec Ideal S2x50176x9 .f32) (b : Fin 2) (n : Fin 50176) (i : Fin 9) (s : Fin 9 → EReal)
    (hv : ∀ k, v (ix3 b n k) = - s k) :
    (Host.sort2 S2x50176x9 2 comparator_f32_i32_d2 v (iotaInDim S2x50176x9 32 2)).2 (ix3 b n i)
      = BitVec.ofNat 32 (sortedFrom (fun k k' : Fin 9 => decide (s k' < s k)) i) := by
  unfold Host.sort2
  have hal : ∀ k : Fin 9, Shape.Idx.along (s := S2x50176x9) (ix3 b n i) (2 : Fin 3) k = ix3 b n k := by
    intro k
    funext a
    match a with
    | ⟨0, _⟩ => rfl
    | ⟨1, _⟩ => rfl
    | ⟨2, _⟩ => rfl
  have hbef : ∀ k k' : Fin 9, (comparator_f32_i32_d2 (F := Ideal) (v (Shape.Idx.along (s := S2x50176x9) (ix3 b n i) (2 : Fin 3) k), iotaInDim S2x50176x9 32 2 (Shape.Idx.along (s := S2x50176x9) (ix3 b n i) (2 : Fin 3) k))
      (v (Shape.Idx.along (s := S2x50176x9) (ix3 b n i) (2 : Fin 3) k'), iotaInDim S2x50176x9 32 2 (Shape.Idx.along (s := S2x50176x9) (ix3 b n i) (2 : Fin 3) k')) == 1#1) = decide (s k' < s k) := by
    intro k k'
    rw [hal, hal, comp_at, hv, hv]
    simp only [EReal.neg_lt_neg_iff]
  show iotaInDim S2x50176x9 32 2 (Shape.Idx.along (s := S2x50176x9) (ix3 b n i) (2 : Fin 3) (sortedFrom (n := 9) _ i)) = _
  rw [hal]
  show BitVec.ofNat 32 (sortedFrom (n := 9) _ i : Fin 9).val = _
  congr 3
  funext k k'
  exact hbef k k'
end

end Cert.KV

end
-- ==== Proof.K.RGrid.lean ====
module

public import proofs.«01_k».proof.Proof.Gen.ReferenceIdeal.Run
public import proofs.«01_k».proof.Proof.K.ROrder

/-! The two sampling grids of the reference, entry by entry. -/

@[expose] public section

set_option maxRecDepth 16384
set_option maxHeartbeats 2000000

noncomputable section

namespace Cert.KV

open Cert.ReferenceIdeal Cert.ReferenceIdeal.Value Idealize.ShloMosaic Idealize.ShloMosaic.TcCoe Idealize.SL.Sem

theorem c223_f32 : Ideal.ofBits .f32 0x435F0000#32 = ((223 : ℝ) : EReal) := by
  simp [Ideal.ofBits, Ideal.ieee]; rw [← EReal.coe_mul]; norm_num
theorem c111_f32 : Ideal.ofBits .f32 0x42DE0000#32 = ((111 : ℝ) : EReal) := by
  simp [Ideal.ofBits, Ideal.ieee]; rw [← EReal.coe_mul]; norm_num
theorem c2_f32 : Ideal.ofBits .f32 0x40000000#32 = ((2 : ℝ) : EReal) := by
  simp [Ideal.ofBits, Ideal.ieee]; rw [← EReal.coe_mul]; norm_num
theorem c0_f32 : Ideal.ofBits .f32 0x00000000#32 = ((0 : ℝ) : EReal) := by
  simp [Ideal.ofBits, Ideal.ieee]
theorem c1_f32 : Ideal.ofBits .f32 0x3F800000#32 = ((1 : ℝ) : EReal) := by
  simp [Ideal.ofBits, Ideal.ieee]; rw [← EReal.coe_mul]; norm_num

/-- A small natural number as a word is itself again when read with sign. -/
theorem small_toInt (n : ℕ) (hn : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem small_float (n : ℕ) (hn : n < 2 ^ 31) : FloatOps.sitofp (F := Ideal) .f32 (BitVec.ofNat 32 n) = ((n : ℝ) : EReal) := by
  show (((BitVec.ofNat 32 n).toInt : ℝ) : EReal) = _
  rw [small_toInt n hn]; simp

/-- Rounding `n + f` down to a word gives `n`. -/
theorem floor_word (n : ℕ) (f : ℝ) (h0 : 0 ≤ f) (h1 : f < 1) (hn : n < 2 ^ 31 - 1) :
    FloatOps.fptosi (F := Ideal) (φ := FTy.f32) 32 (Ideal.liftRound Int.floor (((n : ℝ) + f : ℝ) : EReal)) = BitVec.ofNat 32 n := by
  have hfl : ⌊((n : ℝ) + f)⌋ = (n : ℤ) := by
    rw [Int.floor_eq_iff]; push_cast; constructor <;> linarith
  rw [Ideal.liftRound_coe, hfl]
  show BitVec.ofInt 32 (Ideal.toIntClamped _ _ _) = _
  have : Ideal.toIntClamped (-(2 ^ (32 - 1) : ℕ)) ((2 ^ (32 - 1) : ℕ) - 1) (((n : ℤ) : ℝ) : EReal) = (n : ℤ) := by
    show max _ (min _ (if (0 : ℝ) ≤ ((n : ℤ) : ℝ) then ⌊((n : ℤ) : ℝ)⌋ else _)) = _
    rw [if_pos (by simp), Int.floor_intCast]
    have : (n : ℤ) < 2 ^ 31 - 1 := by omega
    omega
  rw [this]; exact BitVec.ofInt_natCast 32 n

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

theorem sub_coe (a b c : ℝ) (h : a - b = c) : (a : EReal) - (b : EReal) = (c : EReal) := by rw [← EReal.coe_sub, h]

/-- The coarse row left of a fine row. -/
def i0 (w : ℕ) : ℕ := (w - 1) / 2
/-- The coarse row right of a fine row. -/
def i1 (w : ℕ) : ℕ := min (i0 w + 1) 111
/-- The share of the coarse row on the right. -/
def fr (w : ℕ) : ℝ := if w = 0 ∨ w = 223 then 0 else if w % 2 = 0 then 3 / 4 else 1 / 4

theorem fr_bounds (w : ℕ) : 0 ≤ fr w ∧ fr w < 1 := by
  unfold fr; split_ifs <;> norm_num

theorem i0_lt (w : Fin 224) : i0 w < 112 := by unfold i0; omega
theorem i1_lt (w : Fin 224) : i1 w < 112 := by unfold i1; omega
theorem dn_lt0 (i : Fin 112) : 2 * i.val < 224 := by omega
theorem dn_lt1 (i : Fin 112) : 2 * i.val + 1 < 224 := by omega

theorem up_src (w : Fin 224) : min 111 (max 0 (((w : ℕ) + 1 / 2 : ℝ) * (1 / 2) - 1 / 2)) = (i0 w : ℝ) + fr w := by
  have hw := w.2
  unfold fr i0
  split_ifs with h h'
  · rcases h with h | h <;> rw [h] <;> norm_num
  · obtain ⟨k, hk⟩ : ∃ k, (w : ℕ) = 2 * k + 2 := ⟨(w - 2) / 2, by omega⟩
    rw [hk, show (2 * k + 2 - 1) / 2 = k by omega]; push_cast
    have : (k : ℝ) ≤ 110 := by exact_mod_cast (by omega : k ≤ 110)
    have h0 : (0 : ℝ) ≤ k := by positivity
    rw [max_eq_right (by linarith), min_eq_right (by linarith)]; ring
  · obtain ⟨k, hk⟩ : ∃ k, (w : ℕ) = 2 * k + 1 := ⟨w / 2, by omega⟩
    rw [hk, show (2 * k + 1 - 1) / 2 = k by omega]; push_cast
    have : (k : ℝ) ≤ 110 := by exact_mod_cast (by omega : k ≤ 110)
    have h0 : (0 : ℝ) ≤ k := by positivity
    rw [max_eq_right (by linarith), min_eq_right (by linarith)]; ring

variable (V : Valuation τ sig (Elt Ideal))

theorem dn_scal (i : Fin 112) : min (Ideal.ofBits .f32 1130299392#32) (max (Ideal.ofBits .f32 0#32)
    ((FloatOps.sitofp (F := Ideal) .f32 (BitVec.ofNat 32 (i : ℕ)) + Ideal.ofBits .f32 1056964608#32) * Ideal.ofBits .f32 1073741824#32 - Ideal.ofBits .f32 1056964608#32))
    = ((((2 * i : ℕ) : ℝ) + 1/2 : ℝ) : EReal) := by
  rw [small_float _ (by omega), c223_f32, c0_f32, half_f32, c2_f32]
  rw [← EReal.coe_add, ← EReal.coe_mul, ← EReal.coe_sub, ← coe_max', ← coe_min']
  congr 1
  have h1 : (i : ℝ) ≤ 111 := by exact_mod_cast (by omega : (i : ℕ) ≤ 111)
  have h0 : (0 : ℝ) ≤ ((i : ℕ) : ℝ) := by positivity
  rw [max_eq_right (by linarith), min_eq_right (by linarith)]; push_cast; ring

theorem up_scal (w : Fin 224) : min (Ideal.ofBits .f32 0x42DE0000#32) (max (Ideal.ofBits .f32 0#32)
    ((FloatOps.sitofp (F := Ideal) .f32 (BitVec.ofNat 32 (w : ℕ)) + Ideal.ofBits .f32 1056964608#32) * Ideal.ofBits .f32 1056964608#32 - Ideal.ofBits .f32 1056964608#32))
    = (((i0 w : ℝ) + fr w : ℝ) : EReal) := by
  rw [small_float _ (by omega), c111_f32, c0_f32, half_f32]
  rw [← EReal.coe_add, ← EReal.coe_mul, ← EReal.coe_sub, ← coe_max', ← coe_min', up_src]

theorem v7_at (i : Fin 112) : (res_main_v7 V : FVec Ideal S112 .f32) (ix1 i) = ((((2 * i : ℕ) : ℝ) + 1/2 : ℝ) : EReal) := by
  pointwise [res_main_v7]
  exact dn_scal i
theorem v23_at (i : Fin 112) : (res_main_v23 V : FVec Ideal S112 .f32) (ix1 i) = ((((2 * i : ℕ) : ℝ) + 1/2 : ℝ) : EReal) := by
  pointwise [res_main_v23]
  exact dn_scal i
theorem v85_at (w : Fin 224) : (res_main_v85 V : FVec Ideal S224 .f32) (ix1 w) = (((i0 w : ℝ) + fr w : ℝ) : EReal) := by
  pointwise [res_main_v85]
  exact up_scal w
theorem v101_at (w : Fin 224) : (res_main_v101 V : FVec Ideal S224 .f32) (ix1 w) = (((i0 w : ℝ) + fr w : ℝ) : EReal) := by
  pointwise [res_main_v101]
  exact up_scal w

theorem v9_at (i : Fin 112) : (res_main_v9 V : IVec S112 32) (ix1 i) = BitVec.ofNat 32 (2 * i) := by
  pointwise [res_main_v9]
  rw [v7_at]; exact floor_word _ _ (by norm_num) (by norm_num) (by omega)
theorem v25_at (i : Fin 112) : (res_main_v25 V : IVec S112 32) (ix1 i) = BitVec.ofNat 32 (2 * i) := by
  pointwise [res_main_v25]
  rw [v23_at]; exact floor_word _ _ (by norm_num) (by norm_num) (by omega)
theorem v87_at (w : Fin 224) : (res_main_v87 V : IVec S224 32) (ix1 w) = BitVec.ofNat 32 (i0 w) := by
  pointwise [res_main_v87]
  have := i0_lt w
  rw [v85_at]; exact floor_word _ _ (fr_bounds w).1 (fr_bounds w).2 (by omega)
theorem v103_at (w : Fin 224) : (res_main_v103 V : IVec S224 32) (ix1 w) = BitVec.ofNat 32 (i0 w) := by
  pointwise [res_main_v103]
  have := i0_lt w
  rw [v101_at]; exact floor_word _ _ (fr_bounds w).1 (fr_bounds w).2 (by omega)

/-- One more, at most `M`, as words. -/
theorem next_word (n M : ℕ) (hn : n < 1000) (hM : M < 1000) :
    IntOp.minsi (IntOp.addi (BitVec.ofNat 32 n) 1#32) (BitVec.ofNat 32 M) = BitVec.ofNat 32 (min (n + 1) M) := by
  have e : IntOp.addi (BitVec.ofNat 32 n) 1#32 = BitVec.ofNat 32 (n + 1) := by
    show BitVec.ofNat 32 n + BitVec.ofNat 32 1 = _
    rw [← BitVec.ofNat_add]
  rw [e]
  show (if (BitVec.ofNat 32 (n + 1)).slt (BitVec.ofNat 32 M) then _ else _) = _
  have hs : (BitVec.ofNat 32 (n + 1)).slt (BitVec.ofNat 32 M) = decide (n + 1 < M) := by
    rw [BitVec.slt_eq_decide, small_toInt _ (by omega), small_toInt _ (by omega)]; simp; omega
  rw [hs]; by_cases h : n + 1 < M
  · simp [h, min_eq_left (le_of_lt h)]
  · simp [h, min_eq_right (not_lt.mp h)]

theorem v13_at (i : Fin 112) : (res_main_v13 V : IVec S112 32) (ix1 i) = BitVec.ofNat 32 (2 * i + 1) := by
  pointwise [res_main_v13]
  rw [v9_at, next_word (2 * i) 223 (by omega) (by omega)]; congr 1; omega
theorem v29_at' (i : Fin 112) : (res_main_v29 V : IVec S112 32) (ix1 i) = BitVec.ofNat 32 (2 * i + 1) := by
  pointwise [res_main_v29]
  rw [v25_at, next_word (2 * i) 223 (by omega) (by omega)]; congr 1; omega
theorem v91_at (w : Fin 224) : (res_main_v91 V : IVec S224 32) (ix1 w) = BitVec.ofNat 32 (i1 w) := by
  have := i0_lt w
  pointwise [res_main_v91]
  rw [v87_at, next_word (i0 w) 111 (by omega) (by omega)]; rfl
theorem v107_at (w : Fin 224) : (res_main_v107 V : IVec S224 32) (ix1 w) = BitVec.ofNat 32 (i1 w) := by
  have := i0_lt w
  pointwise [res_main_v107]
  rw [v103_at, next_word (i0 w) 111 (by omega) (by omega)]; rfl

theorem v15_at (i : Fin 112) : (res_main_v15 V : FVec Ideal S112 .f32) (ix1 i) = ((1/2 : ℝ) : EReal) := by
  pointwise [res_main_v15]
  rw [v7_at, v9_at, small_float _ (by omega)]; exact sub_coe _ _ _ (by ring)
theorem v31_at' (i : Fin 112) : (res_main_v31 V : FVec Ideal S112 .f32) (ix1 i) = ((1/2 : ℝ) : EReal) := by
  pointwise [res_main_v31]
  rw [v23_at, v25_at, small_float _ (by omega)]; exact sub_coe _ _ _ (by ring)
theorem v93_at (w : Fin 224) : (res_main_v93 V : FVec Ideal S224 .f32) (ix1 w) = ((fr w : ℝ) : EReal) := by
  have := i0_lt w
  pointwise [res_main_v93]
  rw [v85_at, v87_at, small_float _ (by omega)]; exact sub_coe _ _ _ (by ring)
theorem v109_at (w : Fin 224) : (res_main_v109 V : FVec Ideal S224 .f32) (ix1 w) = ((fr w : ℝ) : EReal) := by
  have := i0_lt w
  pointwise [res_main_v109]
  rw [v101_at, v103_at, small_float _ (by omega)]; exact sub_coe _ _ _ (by ring)

end Cert.KV

end
-- ==== Proof.K.RResize.lean ====
module

public import proofs.«01_k».proof.Proof.K.RGrid

/-! The reference's resized image, entry by entry. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

theorem wrap_word (n : ℕ) (k : BitVec 32) (hn : n < 2 ^ 31) :
    (Scalar.select (IntOp.cmpi .slt (BitVec.ofNat 32 n) 0#32) (IntOp.addi (BitVec.ofNat 32 n) k) (BitVec.ofNat 32 n)).toInt = (n : ℤ) := by
  have hs : (BitVec.ofNat 32 n).slt 0#32 = false := by rw [BitVec.slt_eq_decide, small_toInt n hn]; simp
  have hc : IntOp.cmpi .slt (BitVec.ofNat 32 n) 0#32 = 0#1 := by
    show BitVec.ofBool ((BitVec.ofNat 32 n).slt 0#32) = _
    rw [hs]; rfl
  rw [hc]; exact small_toInt n hn

theorem one_sub_coe (f : ℝ) : (1 : EReal) - (f : EReal) = ((1 - f : ℝ) : EReal) := sub_coe 1 f _ rfl

theorem wrap112 (v : IVec S112 32) (k : BitVec 32) (h : Fin 112) (n : ℕ) (hn : n < 2 ^ 31) (hv : v (ix1 h) = BitVec.ofNat 32 n) :
    (broadcastInDim S112x1 ![0] bcast_S112_S112x1_0 (select (cmpi .slt v (broadcastInDim S112 ![] bcast_S_S112 (constantI S_ 32 0#32))) (addi v (broadcastInDim S112 ![] bcast_S_S112 (constantI S_ 32 k))) v) (ix2 h 0)).toInt = (n : ℕ) := by
  pointwise
  rw [hv]
  exact wrap_word n k hn

theorem wrap224 (v : IVec S224 32) (k : BitVec 32) (h : Fin 224) (n : ℕ) (hn : n < 2 ^ 31) (hv : v (ix1 h) = BitVec.ofNat 32 n) :
    (broadcastInDim S224x1 ![0] bcast_S224_S224x1_0 (select (cmpi .slt v (broadcastInDim S224 ![] bcast_S_S224 (constantI S_ 32 0#32))) (addi v (broadcastInDim S224 ![] bcast_S_S224 (constantI S_ 32 k))) v) (ix2 h 0)).toInt = (n : ℕ) := by
  pointwise
  rw [hv]
  exact wrap_word n k hn

variable (V : Valuation τ sig (Elt Ideal))

/-- The input image of batch entry `b`. -/
def rA (b : Fin 2) : Img := fun c h w => (V (Proc.devRef .tc main_arg0) : S2x96x224x224.Idx → EReal) (ix4 b c h w)
/-- The rows halved. -/
def r54 (b : Fin 2) (c : Fin 96) (h : Fin 112) (w : Fin 224) : EReal := (res_main_v54 V : S2x96x112x224.Idx → EReal) (ix4 b c h w)
/-- Rows and columns halved. -/
def r77 (b : Fin 2) (c : Fin 96) (h : Fin 112) (w : Fin 112) : EReal := (res_main_v77 V : S2x96x112x112.Idx → EReal) (ix4 b c h w)
/-- The rows doubled again. -/
def r132 (b : Fin 2) (c : Fin 96) (h : Fin 224) (w : Fin 112) : EReal := (res_main_v132 V : S2x96x224x112.Idx → EReal) (ix4 b c h w)
/-- The detail of a pixel. -/
def r159 (b : Fin 2) (h w : Fin 224) : EReal := (res_main_v159 V : S2x1x224x224.Idx → EReal) (ix4 b 0 h w)

theorem r54_eq (b : Fin 2) (c : Fin 96) (h : Fin 112) (w : Fin 224) : r54 V b c h w =
    rA V b c ⟨2 * h.val, dn_lt0 h⟩ w * ((1 - 1 / 2 : ℝ) : EReal) + rA V b c ⟨2 * h.val + 1, dn_lt1 h⟩ w * ((1 / 2 : ℝ) : EReal) := by
  unfold r54
  pointwise [res_main_v54]
  rw [gr_down _ _ b c h w ⟨2 * h.val, dn_lt0 h⟩ (wrap112 _ _ h _ (by omega) (v9_at V h)),
    gr_down _ _ b c h w ⟨2 * h.val + 1, dn_lt1 h⟩ (wrap112 _ _ h _ (by omega) (v13_at V h)), v15_at, one_sub_coe]
  rfl

theorem r77_eq (b : Fin 2) (c : Fin 96) (h : Fin 112) (w : Fin 112) : r77 V b c h w =
    r54 V b c h ⟨2 * w.val, dn_lt0 w⟩ * ((1 - 1 / 2 : ℝ) : EReal) + r54 V b c h ⟨2 * w.val + 1, dn_lt1 w⟩ * ((1 / 2 : ℝ) : EReal) := by
  unfold r77
  pointwise [res_main_v77]
  rw [gc_down _ _ b c h w ⟨2 * w.val, dn_lt0 w⟩ (wrap112 _ _ w _ (by omega) (v25_at V w)),
    gc_down _ _ b c h w ⟨2 * w.val + 1, dn_lt1 w⟩ (wrap112 _ _ w _ (by omega) (v29_at' V w)), v31_at', one_sub_coe]
  rfl

theorem r132_eq (b : Fin 2) (c : Fin 96) (h : Fin 224) (w : Fin 112) : r132 V b c h w =
    r77 V b c ⟨i0 h, i0_lt h⟩ w * ((1 - fr h : ℝ) : EReal) + r77 V b c ⟨i1 h, i1_lt h⟩ w * ((fr h : ℝ) : EReal) := by
  have a0 := i0_lt h
  have a1 := i1_lt h
  unfold r132
  pointwise [res_main_v132]
  rw [gr_up _ _ b c h w ⟨i0 h, i0_lt h⟩ (wrap224 _ _ h _ (by omega) (v87_at V h)),
    gr_up _ _ b c h w ⟨i1 h, i1_lt h⟩ (wrap224 _ _ h _ (by omega) (v91_at V h)), v93_at, one_sub_coe]
  rfl

theorem r159_eq (b : Fin 2) (h w : Fin 224) : r159 V b h w =
    ∑ c : Fin 96, FloatOps.absf (F := Ideal) (φ := FTy.f32) (rA V b c h w
      - (r132 V b c h ⟨i0 w, i0_lt w⟩ * ((1 - fr w : ℝ) : EReal) + r132 V b c h ⟨i1 w, i1_lt w⟩ * ((fr w : ℝ) : EReal))) := by
  have a0 := i0_lt w
  have a1 := i1_lt w
  unfold r159
  pointwise [res_main_v159]
  refine Finset.sum_congr rfl fun c _ => ?_
  rw [gc_up _ _ b c h w ⟨i0 w, i0_lt w⟩ (wrap224 _ _ w _ (by omega) (v103_at V w)),
    gc_up _ _ b c h w ⟨i1 w, i1_lt w⟩ (wrap224 _ _ w _ (by omega) (v107_at V w)), v109_at]
  rw [show (1 : EReal) - ((fr w : ℝ) : EReal) = ((1 - fr w : ℝ) : EReal) from sub_coe 1 _ _ rfl]
  rfl

end Cert.KV

end
-- ==== Proof.K.TabBits.lean ====
module

public import proofs.«01_k».proof.Proof.K.KVal

/-! The bits of the smoothing matrix. -/

@[expose] public section

set_option maxRecDepth 16384
set_option maxHeartbeats 4000000

namespace Cert.KV

open Cert.KernelIdeal Idealize.ShloMosaic

/-- The entry's bits for source column `x` and column `w`: half of the coarse column's share. -/
def mwBits (x w : ℕ) : BitVec 32 :=
  if w = 0 then (if x / 2 = 0 then 0x3F000000#32 else 0#32)
  else if w = 223 then (if x / 2 = 111 then 0x3F000000#32 else 0#32)
  else if w % 2 = 0 then (if x / 2 = (w - 1) / 2 then 0x3E000000#32 else if x / 2 = (w - 1) / 2 + 1 then 0x3EC00000#32 else 0#32)
  else (if x / 2 = (w - 1) / 2 then 0x3EC00000#32 else if x / 2 = (w - 1) / 2 + 1 then 0x3E000000#32 else 0#32)

end Cert.KV
-- ==== Proof.K.Tab0.lean ====
module

public import proofs.«01_k».proof.Proof.K.TabBits

/-! Rows 0 to 27 of the smoothing matrix. -/

@[expose] public section

set_option maxRecDepth 16384
set_option maxHeartbeats 4000000

namespace Cert.KV

open Cert.KernelIdeal Idealize.ShloMosaic

theorem tab0 : ∀ w : Fin 224, lit0t (0 * 224 + w.val) = mwBits 0 w.val := by decide +kernel
theorem tab1 : ∀ w : Fin 224, lit0t (1 * 224 + w.val) = mwBits 1 w.val := by decide +kernel
theorem tab2 : ∀ w : Fin 224, lit0t (2 * 224 + w.val) = mwBits 2 w.val := by decide +kernel
theorem tab3 : ∀ w : Fin 224, lit0t (3 * 224 + w.val) = mwBits 3 w.val := by decide +kernel
theorem tab4 : ∀ w : Fin 224, lit0t (4 * 224 + w.val) = mwBits 4 w.val := by decide +kernel
theorem tab5 : ∀ w : Fin 224, lit0t (5 * 224 + w.val) = mwBits 5 w.val := by decide +kernel
theorem tab6 : ∀ w : Fin 224, lit0t (6 * 224 + w.val) = mwBits 6 w.val := by decide +kernel
theorem tab7 : ∀ w : Fin 224, lit0t (7 * 224 + w.val) = mwBits 7 w.val := by decide +kernel
theorem tab8 : ∀ w : Fin 224, lit0t (8 * 224 + w.val) = mwBits 8 w.val := by decide +kernel
theorem tab9 : ∀ w : Fin 224, lit0t (9 * 224 + w.val) = mwBits 9 w.val := by decide +kernel
theorem tab10 : ∀ w : Fin 224, lit0t (10 * 224 + w.val) = mwBits 10 w.val := by decide +kernel
theorem tab11 : ∀ w : Fin 224, lit0t (11 * 224 + w.val) = mwBits 11 w.val := by decide +kernel
theorem tab12 : ∀ w : Fin 224, lit0t (12 * 224 + w.val) = mwBits 12 w.val := by decide +kernel
theorem tab13 : ∀ w : Fin 224, lit0t (13 * 224 + w.val) = mwBits 13 w.val := by decide +kernel
theorem tab14 : ∀ w : Fin 224, lit0t (14 * 224 + w.val) = mwBits 14 w.val := by decide +kernel
theorem tab15 : ∀ w : Fin 224, lit0t (15 * 224 + w.val) = mwBits 15 w.val := by decide +kernel
theorem tab16 : ∀ w : Fin 224, lit0t (16 * 224 + w.val) = mwBits 16 w.val := by decide +kernel
theorem tab17 : ∀ w : Fin 224, lit0t (17 * 224 + w.val) = mwBits 17 w.val := by decide +kernel
theorem tab18 : ∀ w : Fin 224, lit0t (18 * 224 + w.val) = mwBits 18 w.val := by decide +kernel
theorem tab19 : ∀ w : Fin 224, lit0t (19 * 224 + w.val) = mwBits 19 w.val := by decide +kernel
theorem tab20 : ∀ w : Fin 224, lit0t (20 * 224 + w.val) = mwBits 20 w.val := by decide +kernel
theorem tab21 : ∀ w : Fin 224, lit0t (21 * 224 + w.val) = mwBits 21 w.val := by decide +kernel
theorem tab22 : ∀ w : Fin 224, lit0t (22 * 224 + w.val) = mwBits 22 w.val := by decide +kernel
theorem tab23 : ∀ w : Fin 224, lit0t (23 * 224 + w.val) = mwBits 23 w.val := by decide +kernel
theorem tab24 : ∀ w : Fin 224, lit0t (24 * 224 + w.val) = mwBits 24 w.val := by decide +kernel
theorem tab25 : ∀ w : Fin 224, lit0t (25 * 224 + w.val) = mwBits 25 w.val := by decide +kernel
theorem tab26 : ∀ w : Fin 224, lit0t (26 * 224 + w.val) = mwBits 26 w.val := by decide +kernel
theorem tab27 : ∀ w : Fin 224, lit0t (27 * 224 + w.val) = mwBits 27 w.val := by decide +kernel

/-- These rows together. -/
theorem tabs0 (x : Fin 28) (w : Fin 224) : lit0t ((0 + x.val) * 224 + w.val) = mwBits (0 + x.val) w.val := by
  fin_cases x
  · exact tab0 w
  · exact tab1 w
  · exact tab2 w
  · exact tab3 w
  · exact tab4 w
  · exact tab5 w
  · exact tab6 w
  · exact tab7 w
  · exact tab8 w
  · exact tab9 w
  · exact tab10 w
  · exact tab11 w
  · exact tab12 w
  · exact tab13 w
  · exact tab14 w
  · exact tab15 w
  · exact tab16 w
  · exact tab17 w
  · exact tab18 w
  · exact tab19 w
  · exact tab20 w
  · exact tab21 w
  · exact tab22 w
  · exact tab23 w
  · exact tab24 w
  · exact tab25 w
  · exact tab26 w
  · exact tab27 w

end Cert.KV
-- ==== Proof.K.Tab1.lean ====
module

public import proofs.«01_k».proof.Proof.K.TabBits

/-! Rows 28 to 55 of the smoothing matrix. -/

@[expose] public section

set_option maxRecDepth 16384
set_option maxHeartbeats 4000000

namespace Cert.KV

open Cert.KernelIdeal Idealize.ShloMosaic

theorem tab28 : ∀ w : Fin 224, lit0t (28 * 224 + w.val) = mwBits 28 w.val := by decide +kernel
theorem tab29 : ∀ w : Fin 224, lit0t (29 * 224 + w.val) = mwBits 29 w.val := by decide +kernel
theorem tab30 : ∀ w : Fin 224, lit0t (30 * 224 + w.val) = mwBits 30 w.val := by decide +kernel
theorem tab31 : ∀ w : Fin 224, lit0t (31 * 224 + w.val) = mwBits 31 w.val := by decide +kernel
theorem tab32 : ∀ w : Fin 224, lit0t (32 * 224 + w.val) = mwBits 32 w.val := by decide +kernel
theorem tab33 : ∀ w : Fin 224, lit0t (33 * 224 + w.val) = mwBits 33 w.val := by decide +kernel
theorem tab34 : ∀ w : Fin 224, lit0t (34 * 224 + w.val) = mwBits 34 w.val := by decide +kernel
theorem tab35 : ∀ w : Fin 224, lit0t (35 * 224 + w.val) = mwBits 35 w.val := by decide +kernel
theorem tab36 : ∀ w : Fin 224, lit0t (36 * 224 + w.val) = mwBits 36 w.val := by decide +kernel
theorem tab37 : ∀ w : Fin 224, lit0t (37 * 224 + w.val) = mwBits 37 w.val := by decide +kernel
theorem tab38 : ∀ w : Fin 224, lit0t (38 * 224 + w.val) = mwBits 38 w.val := by decide +kernel
theorem tab39 : ∀ w : Fin 224, lit0t (39 * 224 + w.val) = mwBits 39 w.val := by decide +kernel
theorem tab40 : ∀ w : Fin 224, lit0t (40 * 224 + w.val) = mwBits 40 w.val := by decide +kernel
theorem tab41 : ∀ w : Fin 224, lit0t (41 * 224 + w.val) = mwBits 41 w.val := by decide +kernel
theorem tab42 : ∀ w : Fin 224, lit0t (42 * 224 + w.val) = mwBits 42 w.val := by decide +kernel
theorem tab43 : ∀ w : Fin 224, lit0t (43 * 224 + w.val) = mwBits 43 w.val := by decide +kernel
theorem tab44 : ∀ w : Fin 224, lit0t (44 * 224 + w.val) = mwBits 44 w.val := by decide +kernel
theorem tab45 : ∀ w : Fin 224, lit0t (45 * 224 + w.val) = mwBits 45 w.val := by decide +kernel
theorem tab46 : ∀ w : Fin 224, lit0t (46 * 224 + w.val) = mwBits 46 w.val := by decide +kernel
theorem tab47 : ∀ w : Fin 224, lit0t (47 * 224 + w.val) = mwBits 47 w.val := by decide +kernel
theorem tab48 : ∀ w : Fin 224, lit0t (48 * 224 + w.val) = mwBits 48 w.val := by decide +kernel
theorem tab49 : ∀ w : Fin 224, lit0t (49 * 224 + w.val) = mwBits 49 w.val := by decide +kernel
theorem tab50 : ∀ w : Fin 224, lit0t (50 * 224 + w.val) = mwBits 50 w.val := by decide +kernel
theorem tab51 : ∀ w : Fin 224, lit0t (51 * 224 + w.val) = mwBits 51 w.val := by decide +kernel
theorem tab52 : ∀ w : Fin 224, lit0t (52 * 224 + w.val) = mwBits 52 w.val := by decide +kernel
theorem tab53 : ∀ w : Fin 224, lit0t (53 * 224 + w.val) = mwBits 53 w.val := by decide +kernel
theorem tab54 : ∀ w : Fin 224, lit0t (54 * 224 + w.val) = mwBits 54 w.val := by decide +kernel
theorem tab55 : ∀ w : Fin 224, lit0t (55 * 224 + w.val) = mwBits 55 w.val := by decide +kernel

/-- These rows together. -/
theorem tabs1 (x : Fin 28) (w : Fin 224) : lit0t ((28 + x.val) * 224 + w.val) = mwBits (28 + x.val) w.val := by
  fin_cases x
  · exact tab28 w
  · exact tab29 w
  · exact tab30 w
  · exact tab31 w
  · exact tab32 w
  · exact tab33 w
  · exact tab34 w
  · exact tab35 w
  · exact tab36 w
  · exact tab37 w
  · exact tab38 w
  · exact tab39 w
  · exact tab40 w
  · exact tab41 w
  · exact tab42 w
  · exact tab43 w
  · exact tab44 w
  · exact tab45 w
  · exact tab46 w
  · exact tab47 w
  · exact tab48 w
  · exact tab49 w
  · exact tab50 w
  · exact tab51 w
  · exact tab52 w
  · exact tab53 w
  · exact tab54 w
  · exact tab55 w

end Cert.KV
-- ==== Proof.K.Tab2.lean ====
module

public import proofs.«01_k».proof.Proof.K.TabBits

/-! Rows 56 to 83 of the smoothing matrix. -/

@[expose] public section

set_option maxRecDepth 16384
set_option maxHeartbeats 4000000

namespace Cert.KV

open Cert.KernelIdeal Idealize.ShloMosaic

theorem tab56 : ∀ w : Fin 224, lit0t (56 * 224 + w.val) = mwBits 56 w.val := by decide +kernel
theorem tab57 : ∀ w : Fin 224, lit0t (57 * 224 + w.val) = mwBits 57 w.val := by decide +kernel
theorem tab58 : ∀ w : Fin 224, lit0t (58 * 224 + w.val) = mwBits 58 w.val := by decide +kernel
theorem tab59 : ∀ w : Fin 224, lit0t (59 * 224 + w.val) = mwBits 59 w.val := by decide +kernel
theorem tab60 : ∀ w : Fin 224, lit0t (60 * 224 + w.val) = mwBits 60 w.val := by decide +kernel
theorem tab61 : ∀ w : Fin 224, lit0t (61 * 224 + w.val) = mwBits 61 w.val := by decide +kernel
theorem tab62 : ∀ w : Fin 224, lit0t (62 * 224 + w.val) = mwBits 62 w.val := by decide +kernel
theorem tab63 : ∀ w : Fin 224, lit0t (63 * 224 + w.val) = mwBits 63 w.val := by decide +kernel
theorem tab64 : ∀ w : Fin 224, lit0t (64 * 224 + w.val) = mwBits 64 w.val := by decide +kernel
theorem tab65 : ∀ w : Fin 224, lit0t (65 * 224 + w.val) = mwBits 65 w.val := by decide +kernel
theorem tab66 : ∀ w : Fin 224, lit0t (66 * 224 + w.val) = mwBits 66 w.val := by decide +kernel
theorem tab67 : ∀ w : Fin 224, lit0t (67 * 224 + w.val) = mwBits 67 w.val := by decide +kernel
theorem tab68 : ∀ w : Fin 224, lit0t (68 * 224 + w.val) = mwBits 68 w.val := by decide +kernel
theorem tab69 : ∀ w : Fin 224, lit0t (69 * 224 + w.val) = mwBits 69 w.val := by decide +kernel
theorem tab70 : ∀ w : Fin 224, lit0t (70 * 224 + w.val) = mwBits 70 w.val := by decide +kernel
theorem tab71 : ∀ w : Fin 224, lit0t (71 * 224 + w.val) = mwBits 71 w.val := by decide +kernel
theorem tab72 : ∀ w : Fin 224, lit0t (72 * 224 + w.val) = mwBits 72 w.val := by decide +kernel
theorem tab73 : ∀ w : Fin 224, lit0t (73 * 224 + w.val) = mwBits 73 w.val := by decide +kernel
theorem tab74 : ∀ w : Fin 224, lit0t (74 * 224 + w.val) = mwBits 74 w.val := by decide +kernel
theorem tab75 : ∀ w : Fin 224, lit0t (75 * 224 + w.val) = mwBits 75 w.val := by decide +kernel
theorem tab76 : ∀ w : Fin 224, lit0t (76 * 224 + w.val) = mwBits 76 w.val := by decide +kernel
theorem tab77 : ∀ w : Fin 224, lit0t (77 * 224 + w.val) = mwBits 77 w.val := by decide +kernel
theorem tab78 : ∀ w : Fin 224, lit0t (78 * 224 + w.val) = mwBits 78 w.val := by decide +kernel
theorem tab79 : ∀ w : Fin 224, lit0t (79 * 224 + w.val) = mwBits 79 w.val := by decide +kernel
theorem tab80 : ∀ w : Fin 224, lit0t (80 * 224 + w.val) = mwBits 80 w.val := by decide +kernel
theorem tab81 : ∀ w : Fin 224, lit0t (81 * 224 + w.val) = mwBits 81 w.val := by decide +kernel
theorem tab82 : ∀ w : Fin 224, lit0t (82 * 224 + w.val) = mwBits 82 w.val := by decide +kernel
theorem tab83 : ∀ w : Fin 224, lit0t (83 * 224 + w.val) = mwBits 83 w.val := by decide +kernel

/-- These rows together. -/
theorem tabs2 (x : Fin 28) (w : Fin 224) : lit0t ((56 + x.val) * 224 + w.val) = mwBits (56 + x.val) w.val := by
  fin_cases x
  · exact tab56 w
  · exact tab57 w
  · exact tab58 w
  · exact tab59 w
  · exact tab60 w
  · exact tab61 w
  · exact tab62 w
  · exact tab63 w
  · exact tab64 w
  · exact tab65 w
  · exact tab66 w
  · exact tab67 w
  · exact tab68 w
  · exact tab69 w
  · exact tab70 w
  · exact tab71 w
  · exact tab72 w
  · exact tab73 w
  · exact tab74 w
  · exact tab75 w
  · exact tab76 w
  · exact tab77 w
  · exact tab78 w
  · exact tab79 w
  · exact tab80 w
  · exact tab81 w
  · exact tab82 w
  · exact tab83 w

end Cert.KV
-- ==== Proof.K.Tab3.lean ====
module

public import proofs.«01_k».proof.Proof.K.TabBits

/-! Rows 84 to 111 of the smoothing matrix. -/

@[expose] public section

set_option maxRecDepth 16384
set_option maxHeartbeats 4000000

namespace Cert.KV

open Cert.KernelIdeal Idealize.ShloMosaic

theorem tab84 : ∀ w : Fin 224, lit0t (84 * 224 + w.val) = mwBits 84 w.val := by decide +kernel
theorem tab85 : ∀ w : Fin 224, lit0t (85 * 224 + w.val) = mwBits 85 w.val := by decide +kernel
theorem tab86 : ∀ w : Fin 224, lit0t (86 * 224 + w.val) = mwBits 86 w.val := by decide +kernel
theorem tab87 : ∀ w : Fin 224, lit0t (87 * 224 + w.val) = mwBits 87 w.val := by decide +kernel
theorem tab88 : ∀ w : Fin 224, lit0t (88 * 224 + w.val) = mwBits 88 w.val := by decide +kernel
theorem tab89 : ∀ w : Fin 224, lit0t (89 * 224 + w.val) = mwBits 89 w.val := by decide +kernel
theorem tab90 : ∀ w : Fin 224, lit0t (90 * 224 + w.val) = mwBits 90 w.val := by decide +kernel
theorem tab91 : ∀ w : Fin 224, lit0t (91 * 224 + w.val) = mwBits 91 w.val := by decide +kernel
theorem tab92 : ∀ w : Fin 224, lit0t (92 * 224 + w.val) = mwBits 92 w.val := by decide +kernel
theorem tab93 : ∀ w : Fin 224, lit0t (93 * 224 + w.val) = mwBits 93 w.val := by decide +kernel
theorem tab94 : ∀ w : Fin 224, lit0t (94 * 224 + w.val) = mwBits 94 w.val := by decide +kernel
theorem tab95 : ∀ w : Fin 224, lit0t (95 * 224 + w.val) = mwBits 95 w.val := by decide +kernel
theorem tab96 : ∀ w : Fin 224, lit0t (96 * 224 + w.val) = mwBits 96 w.val := by decide +kernel
theorem tab97 : ∀ w : Fin 224, lit0t (97 * 224 + w.val) = mwBits 97 w.val := by decide +kernel
theorem tab98 : ∀ w : Fin 224, lit0t (98 * 224 + w.val) = mwBits 98 w.val := by decide +kernel
theorem tab99 : ∀ w : Fin 224, lit0t (99 * 224 + w.val) = mwBits 99 w.val := by decide +kernel
theorem tab100 : ∀ w : Fin 224, lit0t (100 * 224 + w.val) = mwBits 100 w.val := by decide +kernel
theorem tab101 : ∀ w : Fin 224, lit0t (101 * 224 + w.val) = mwBits 101 w.val := by decide +kernel
theorem tab102 : ∀ w : Fin 224, lit0t (102 * 224 + w.val) = mwBits 102 w.val := by decide +kernel
theorem tab103 : ∀ w : Fin 224, lit0t (103 * 224 + w.val) = mwBits 103 w.val := by decide +kernel
theorem tab104 : ∀ w : Fin 224, lit0t (104 * 224 + w.val) = mwBits 104 w.val := by decide +kernel
theorem tab105 : ∀ w : Fin 224, lit0t (105 * 224 + w.val) = mwBits 105 w.val := by decide +kernel
theorem tab106 : ∀ w : Fin 224, lit0t (106 * 224 + w.val) = mwBits 106 w.val := by decide +kernel
theorem tab107 : ∀ w : Fin 224, lit0t (107 * 224 + w.val) = mwBits 107 w.val := by decide +kernel
theorem tab108 : ∀ w : Fin 224, lit0t (108 * 224 + w.val) = mwBits 108 w.val := by decide +kernel
theorem tab109 : ∀ w : Fin 224, lit0t (109 * 224 + w.val) = mwBits 109 w.val := by decide +kernel
theorem tab110 : ∀ w : Fin 224, lit0t (110 * 224 + w.val) = mwBits 110 w.val := by decide +kernel
theorem tab111 : ∀ w : Fin 224, lit0t (111 * 224 + w.val) = mwBits 111 w.val := by decide +kernel

/-- These rows together. -/
theorem tabs3 (x : Fin 28) (w : Fin 224) : lit0t ((84 + x.val) * 224 + w.val) = mwBits (84 + x.val) w.val := by
  fin_cases x
  · exact tab84 w
  · exact tab85 w
  · exact tab86 w
  · exact tab87 w
  · exact tab88 w
  · exact tab89 w
  · exact tab90 w
  · exact tab91 w
  · exact tab92 w
  · exact tab93 w
  · exact tab94 w
  · exact tab95 w
  · exact tab96 w
  · exact tab97 w
  · exact tab98 w
  · exact tab99 w
  · exact tab100 w
  · exact tab101 w
  · exact tab102 w
  · exact tab103 w
  · exact tab104 w
  · exact tab105 w
  · exact tab106 w
  · exact tab107 w
  · exact tab108 w
  · exact tab109 w
  · exact tab110 w
  · exact tab111 w

end Cert.KV
-- ==== Proof.K.Tab4.lean ====
module

public import proofs.«01_k».proof.Proof.K.TabBits

/-! Rows 112 to 139 of the smoothing matrix. -/

@[expose] public section

set_option maxRecDepth 16384
set_option maxHeartbeats 4000000

namespace Cert.KV

open Cert.KernelIdeal Idealize.ShloMosaic

theorem tab112 : ∀ w : Fin 224, lit0t (112 * 224 + w.val) = mwBits 112 w.val := by decide +kernel
theorem tab113 : ∀ w : Fin 224, lit0t (113 * 224 + w.val) = mwBits 113 w.val := by decide +kernel
theorem tab114 : ∀ w : Fin 224, lit0t (114 * 224 + w.val) = mwBits 114 w.val := by decide +kernel
theorem tab115 : ∀ w : Fin 224, lit0t (115 * 224 + w.val) = mwBits 115 w.val := by decide +kernel
theorem tab116 : ∀ w : Fin 224, lit0t (116 * 224 + w.val) = mwBits 116 w.val := by decide +kernel
theorem tab117 : ∀ w : Fin 224, lit0t (117 * 224 + w.val) = mwBits 117 w.val := by decide +kernel
theorem tab118 : ∀ w : Fin 224, lit0t (118 * 224 + w.val) = mwBits 118 w.val := by decide +kernel
theorem tab119 : ∀ w : Fin 224, lit0t (119 * 224 + w.val) = mwBits 119 w.val := by decide +kernel
theorem tab120 : ∀ w : Fin 224, lit0t (120 * 224 + w.val) = mwBits 120 w.val := by decide +kernel
theorem tab121 : ∀ w : Fin 224, lit0t (121 * 224 + w.val) = mwBits 121 w.val := by decide +kernel
theorem tab122 : ∀ w : Fin 224, lit0t (122 * 224 + w.val) = mwBits 122 w.val := by decide +kernel
theorem tab123 : ∀ w : Fin 224, lit0t (123 * 224 + w.val) = mwBits 123 w.val := by decide +kernel
theorem tab124 : ∀ w : Fin 224, lit0t (124 * 224 + w.val) = mwBits 124 w.val := by decide +kernel
theorem tab125 : ∀ w : Fin 224, lit0t (125 * 224 + w.val) = mwBits 125 w.val := by decide +kernel
theorem tab126 : ∀ w : Fin 224, lit0t (126 * 224 + w.val) = mwBits 126 w.val := by decide +kernel
theorem tab127 : ∀ w : Fin 224, lit0t (127 * 224 + w.val) = mwBits 127 w.val := by decide +kernel
theorem tab128 : ∀ w : Fin 224, lit0t (128 * 224 + w.val) = mwBits 128 w.val := by decide +kernel
theorem tab129 : ∀ w : Fin 224, lit0t (129 * 224 + w.val) = mwBits 129 w.val := by decide +kernel
theorem tab130 : ∀ w : Fin 224, lit0t (130 * 224 + w.val) = mwBits 130 w.val := by decide +kernel
theorem tab131 : ∀ w : Fin 224, lit0t (131 * 224 + w.val) = mwBits 131 w.val := by decide +kernel
theorem tab132 : ∀ w : Fin 224, lit0t (132 * 224 + w.val) = mwBits 132 w.val := by decide +kernel
theorem tab133 : ∀ w : Fin 224, lit0t (133 * 224 + w.val) = mwBits 133 w.val := by decide +kernel
theorem tab134 : ∀ w : Fin 224, lit0t (134 * 224 + w.val) = mwBits 134 w.val := by decide +kernel
theorem tab135 : ∀ w : Fin 224, lit0t (135 * 224 + w.val) = mwBits 135 w.val := by decide +kernel
theorem tab136 : ∀ w : Fin 224, lit0t (136 * 224 + w.val) = mwBits 136 w.val := by decide +kernel
theorem tab137 : ∀ w : Fin 224, lit0t (137 * 224 + w.val) = mwBits 137 w.val := by decide +kernel
theorem tab138 : ∀ w : Fin 224, lit0t (138 * 224 + w.val) = mwBits 138 w.val := by decide +kernel
theorem tab139 : ∀ w : Fin 224, lit0t (139 * 224 + w.val) = mwBits 139 w.val := by decide +kernel

/-- These rows together. -/
theorem tabs4 (x : Fin 28) (w : Fin 224) : lit0t ((112 + x.val) * 224 + w.val) = mwBits (112 + x.val) w.val := by
  fin_cases x
  · exact tab112 w
  · exact tab113 w
  · exact tab114 w
  · exact tab115 w
  · exact tab116 w
  · exact tab117 w
  · exact tab118 w
  · exact tab119 w
  · exact tab120 w
  · exact tab121 w
  · exact tab122 w
  · exact tab123 w
  · exact tab124 w
  · exact tab125 w
  · exact tab126 w
  · exact tab127 w
  · exact tab128 w
  · exact tab129 w
  · exact tab130 w
  · exact tab131 w
  · exact tab132 w
  · exact tab133 w
  · exact tab134 w
  · exact tab135 w
  · exact tab136 w
  · exact tab137 w
  · exact tab138 w
  · exact tab139 w

end Cert.KV
-- ==== Proof.K.Tab5.lean ====
module

public import proofs.«01_k».proof.Proof.K.TabBits

/-! Rows 140 to 167 of the smoothing matrix. -/

@[expose] public section

set_option maxRecDepth 16384
set_option maxHeartbeats 4000000

namespace Cert.KV

open Cert.KernelIdeal Idealize.ShloMosaic

theorem tab140 : ∀ w : Fin 224, lit0t (140 * 224 + w.val) = mwBits 140 w.val := by decide +kernel
theorem tab141 : ∀ w : Fin 224, lit0t (141 * 224 + w.val) = mwBits 141 w.val := by decide +kernel
theorem tab142 : ∀ w : Fin 224, lit0t (142 * 224 + w.val) = mwBits 142 w.val := by decide +kernel
theorem tab143 : ∀ w : Fin 224, lit0t (143 * 224 + w.val) = mwBits 143 w.val := by decide +kernel
theorem tab144 : ∀ w : Fin 224, lit0t (144 * 224 + w.val) = mwBits 144 w.val := by decide +kernel
theorem tab145 : ∀ w : Fin 224, lit0t (145 * 224 + w.val) = mwBits 145 w.val := by decide +kernel
theorem tab146 : ∀ w : Fin 224, lit0t (146 * 224 + w.val) = mwBits 146 w.val := by decide +kernel
theorem tab147 : ∀ w : Fin 224, lit0t (147 * 224 + w.val) = mwBits 147 w.val := by decide +kernel
theorem tab148 : ∀ w : Fin 224, lit0t (148 * 224 + w.val) = mwBits 148 w.val := by decide +kernel
theorem tab149 : ∀ w : Fin 224, lit0t (149 * 224 + w.val) = mwBits 149 w.val := by decide +kernel
theorem tab150 : ∀ w : Fin 224, lit0t (150 * 224 + w.val) = mwBits 150 w.val := by decide +kernel
theorem tab151 : ∀ w : Fin 224, lit0t (151 * 224 + w.val) = mwBits 151 w.val := by decide +kernel
theorem tab152 : ∀ w : Fin 224, lit0t (152 * 224 + w.val) = mwBits 152 w.val := by decide +kernel
theorem tab153 : ∀ w : Fin 224, lit0t (153 * 224 + w.val) = mwBits 153 w.val := by decide +kernel
theorem tab154 : ∀ w : Fin 224, lit0t (154 * 224 + w.val) = mwBits 154 w.val := by decide +kernel
theorem tab155 : ∀ w : Fin 224, lit0t (155 * 224 + w.val) = mwBits 155 w.val := by decide +kernel
theorem tab156 : ∀ w : Fin 224, lit0t (156 * 224 + w.val) = mwBits 156 w.val := by decide +kernel
theorem tab157 : ∀ w : Fin 224, lit0t (157 * 224 + w.val) = mwBits 157 w.val := by decide +kernel
theorem tab158 : ∀ w : Fin 224, lit0t (158 * 224 + w.val) = mwBits 158 w.val := by decide +kernel
theorem tab159 : ∀ w : Fin 224, lit0t (159 * 224 + w.val) = mwBits 159 w.val := by decide +kernel
theorem tab160 : ∀ w : Fin 224, lit0t (160 * 224 + w.val) = mwBits 160 w.val := by decide +kernel
theorem tab161 : ∀ w : Fin 224, lit0t (161 * 224 + w.val) = mwBits 161 w.val := by decide +kernel
theorem tab162 : ∀ w : Fin 224, lit0t (162 * 224 + w.val) = mwBits 162 w.val := by decide +kernel
theorem tab163 : ∀ w : Fin 224, lit0t (163 * 224 + w.val) = mwBits 163 w.val := by decide +kernel
theorem tab164 : ∀ w : Fin 224, lit0t (164 * 224 + w.val) = mwBits 164 w.val := by decide +kernel
theorem tab165 : ∀ w : Fin 224, lit0t (165 * 224 + w.val) = mwBits 165 w.val := by decide +kernel
theorem tab166 : ∀ w : Fin 224, lit0t (166 * 224 + w.val) = mwBits 166 w.val := by decide +kernel
theorem tab167 : ∀ w : Fin 224, lit0t (167 * 224 + w.val) = mwBits 167 w.val := by decide +kernel

/-- These rows together. -/
theorem tabs5 (x : Fin 28) (w : Fin 224) : lit0t ((140 + x.val) * 224 + w.val) = mwBits (140 + x.val) w.val := by
  fin_cases x
  · exact tab140 w
  · exact tab141 w
  · exact tab142 w
  · exact tab143 w
  · exact tab144 w
  · exact tab145 w
  · exact tab146 w
  · exact tab147 w
  · exact tab148 w
  · exact tab149 w
  · exact tab150 w
  · exact tab151 w
  · exact tab152 w
  · exact tab153 w
  · exact tab154 w
  · exact tab155 w
  · exact tab156 w
  · exact tab157 w
  · exact tab158 w
  · exact tab159 w
  · exact tab160 w
  · exact tab161 w
  · exact tab162 w
  · exact tab163 w
  · exact tab164 w
  · exact tab165 w
  · exact tab166 w
  · exact tab167 w

end Cert.KV
-- ==== Proof.K.Tab6.lean ====
module

public import proofs.«01_k».proof.Proof.K.TabBits

/-! Rows 168 to 195 of the smoothing matrix. -/

@[expose] public section

set_option maxRecDepth 16384
set_option maxHeartbeats 4000000

namespace Cert.KV

open Cert.KernelIdeal Idealize.ShloMosaic

theorem tab168 : ∀ w : Fin 224, lit0t (168 * 224 + w.val) = mwBits 168 w.val := by decide +kernel
theorem tab169 : ∀ w : Fin 224, lit0t (169 * 224 + w.val) = mwBits 169 w.val := by decide +kernel
theorem tab170 : ∀ w : Fin 224, lit0t (170 * 224 + w.val) = mwBits 170 w.val := by decide +kernel
theorem tab171 : ∀ w : Fin 224, lit0t (171 * 224 + w.val) = mwBits 171 w.val := by decide +kernel
theorem tab172 : ∀ w : Fin 224, lit0t (172 * 224 + w.val) = mwBits 172 w.val := by decide +kernel
theorem tab173 : ∀ w : Fin 224, lit0t (173 * 224 + w.val) = mwBits 173 w.val := by decide +kernel
theorem tab174 : ∀ w : Fin 224, lit0t (174 * 224 + w.val) = mwBits 174 w.val := by decide +kernel
theorem tab175 : ∀ w : Fin 224, lit0t (175 * 224 + w.val) = mwBits 175 w.val := by decide +kernel
theorem tab176 : ∀ w : Fin 224, lit0t (176 * 224 + w.val) = mwBits 176 w.val := by decide +kernel
theorem tab177 : ∀ w : Fin 224, lit0t (177 * 224 + w.val) = mwBits 177 w.val := by decide +kernel
theorem tab178 : ∀ w : Fin 224, lit0t (178 * 224 + w.val) = mwBits 178 w.val := by decide +kernel
theorem tab179 : ∀ w : Fin 224, lit0t (179 * 224 + w.val) = mwBits 179 w.val := by decide +kernel
theorem tab180 : ∀ w : Fin 224, lit0t (180 * 224 + w.val) = mwBits 180 w.val := by decide +kernel
theorem tab181 : ∀ w : Fin 224, lit0t (181 * 224 + w.val) = mwBits 181 w.val := by decide +kernel
theorem tab182 : ∀ w : Fin 224, lit0t (182 * 224 + w.val) = mwBits 182 w.val := by decide +kernel
theorem tab183 : ∀ w : Fin 224, lit0t (183 * 224 + w.val) = mwBits 183 w.val := by decide +kernel
theorem tab184 : ∀ w : Fin 224, lit0t (184 * 224 + w.val) = mwBits 184 w.val := by decide +kernel
theorem tab185 : ∀ w : Fin 224, lit0t (185 * 224 + w.val) = mwBits 185 w.val := by decide +kernel
theorem tab186 : ∀ w : Fin 224, lit0t (186 * 224 + w.val) = mwBits 186 w.val := by decide +kernel
theorem tab187 : ∀ w : Fin 224, lit0t (187 * 224 + w.val) = mwBits 187 w.val := by decide +kernel
theorem tab188 : ∀ w : Fin 224, lit0t (188 * 224 + w.val) = mwBits 188 w.val := by decide +kernel
theorem tab189 : ∀ w : Fin 224, lit0t (189 * 224 + w.val) = mwBits 189 w.val := by decide +kernel
theorem tab190 : ∀ w : Fin 224, lit0t (190 * 224 + w.val) = mwBits 190 w.val := by decide +kernel
theorem tab191 : ∀ w : Fin 224, lit0t (191 * 224 + w.val) = mwBits 191 w.val := by decide +kernel
theorem tab192 : ∀ w : Fin 224, lit0t (192 * 224 + w.val) = mwBits 192 w.val := by decide +kernel
theorem tab193 : ∀ w : Fin 224, lit0t (193 * 224 + w.val) = mwBits 193 w.val := by decide +kernel
theorem tab194 : ∀ w : Fin 224, lit0t (194 * 224 + w.val) = mwBits 194 w.val := by decide +kernel
theorem tab195 : ∀ w : Fin 224, lit0t (195 * 224 + w.val) = mwBits 195 w.val := by decide +kernel

/-- These rows together. -/
theorem tabs6 (x : Fin 28) (w : Fin 224) : lit0t ((168 + x.val) * 224 + w.val) = mwBits (168 + x.val) w.val := by
  fin_cases x
  · exact tab168 w
  · exact tab169 w
  · exact tab170 w
  · exact tab171 w
  · exact tab172 w
  · exact tab173 w
  · exact tab174 w
  · exact tab175 w
  · exact tab176 w
  · exact tab177 w
  · exact tab178 w
  · exact tab179 w
  · exact tab180 w
  · exact tab181 w
  · exact tab182 w
  · exact tab183 w
  · exact tab184 w
  · exact tab185 w
  · exact tab186 w
  · exact tab187 w
  · exact tab188 w
  · exact tab189 w
  · exact tab190 w
  · exact tab191 w
  · exact tab192 w
  · exact tab193 w
  · exact tab194 w
  · exact tab195 w

end Cert.KV
-- ==== Proof.K.Tab7.lean ====
module

public import proofs.«01_k».proof.Proof.K.TabBits

/-! Rows 196 to 223 of the smoothing matrix. -/

@[expose] public section

set_option maxRecDepth 16384
set_option maxHeartbeats 4000000

namespace Cert.KV

open Cert.KernelIdeal Idealize.ShloMosaic

theorem tab196 : ∀ w : Fin 224, lit0t (196 * 224 + w.val) = mwBits 196 w.val := by decide +kernel
theorem tab197 : ∀ w : Fin 224, lit0t (197 * 224 + w.val) = mwBits 197 w.val := by decide +kernel
theorem tab198 : ∀ w : Fin 224, lit0t (198 * 224 + w.val) = mwBits 198 w.val := by decide +kernel
theorem tab199 : ∀ w : Fin 224, lit0t (199 * 224 + w.val) = mwBits 199 w.val := by decide +kernel
theorem tab200 : ∀ w : Fin 224, lit0t (200 * 224 + w.val) = mwBits 200 w.val := by decide +kernel
theorem tab201 : ∀ w : Fin 224, lit0t (201 * 224 + w.val) = mwBits 201 w.val := by decide +kernel
theorem tab202 : ∀ w : Fin 224, lit0t (202 * 224 + w.val) = mwBits 202 w.val := by decide +kernel
theorem tab203 : ∀ w : Fin 224, lit0t (203 * 224 + w.val) = mwBits 203 w.val := by decide +kernel
theorem tab204 : ∀ w : Fin 224, lit0t (204 * 224 + w.val) = mwBits 204 w.val := by decide +kernel
theorem tab205 : ∀ w : Fin 224, lit0t (205 * 224 + w.val) = mwBits 205 w.val := by decide +kernel
theorem tab206 : ∀ w : Fin 224, lit0t (206 * 224 + w.val) = mwBits 206 w.val := by decide +kernel
theorem tab207 : ∀ w : Fin 224, lit0t (207 * 224 + w.val) = mwBits 207 w.val := by decide +kernel
theorem tab208 : ∀ w : Fin 224, lit0t (208 * 224 + w.val) = mwBits 208 w.val := by decide +kernel
theorem tab209 : ∀ w : Fin 224, lit0t (209 * 224 + w.val) = mwBits 209 w.val := by decide +kernel
theorem tab210 : ∀ w : Fin 224, lit0t (210 * 224 + w.val) = mwBits 210 w.val := by decide +kernel
theorem tab211 : ∀ w : Fin 224, lit0t (211 * 224 + w.val) = mwBits 211 w.val := by decide +kernel
theorem tab212 : ∀ w : Fin 224, lit0t (212 * 224 + w.val) = mwBits 212 w.val := by decide +kernel
theorem tab213 : ∀ w : Fin 224, lit0t (213 * 224 + w.val) = mwBits 213 w.val := by decide +kernel
theorem tab214 : ∀ w : Fin 224, lit0t (214 * 224 + w.val) = mwBits 214 w.val := by decide +kernel
theorem tab215 : ∀ w : Fin 224, lit0t (215 * 224 + w.val) = mwBits 215 w.val := by decide +kernel
theorem tab216 : ∀ w : Fin 224, lit0t (216 * 224 + w.val) = mwBits 216 w.val := by decide +kernel
theorem tab217 : ∀ w : Fin 224, lit0t (217 * 224 + w.val) = mwBits 217 w.val := by decide +kernel
theorem tab218 : ∀ w : Fin 224, lit0t (218 * 224 + w.val) = mwBits 218 w.val := by decide +kernel
theorem tab219 : ∀ w : Fin 224, lit0t (219 * 224 + w.val) = mwBits 219 w.val := by decide +kernel
theorem tab220 : ∀ w : Fin 224, lit0t (220 * 224 + w.val) = mwBits 220 w.val := by decide +kernel
theorem tab221 : ∀ w : Fin 224, lit0t (221 * 224 + w.val) = mwBits 221 w.val := by decide +kernel
theorem tab222 : ∀ w : Fin 224, lit0t (222 * 224 + w.val) = mwBits 222 w.val := by decide +kernel
theorem tab223 : ∀ w : Fin 224, lit0t (223 * 224 + w.val) = mwBits 223 w.val := by decide +kernel

/-- These rows together. -/
theorem tabs7 (x : Fin 28) (w : Fin 224) : lit0t ((196 + x.val) * 224 + w.val) = mwBits (196 + x.val) w.val := by
  fin_cases x
  · exact tab196 w
  · exact tab197 w
  · exact tab198 w
  · exact tab199 w
  · exact tab200 w
  · exact tab201 w
  · exact tab202 w
  · exact tab203 w
  · exact tab204 w
  · exact tab205 w
  · exact tab206 w
  · exact tab207 w
  · exact tab208 w
  · exact tab209 w
  · exact tab210 w
  · exact tab211 w
  · exact tab212 w
  · exact tab213 w
  · exact tab214 w
  · exact tab215 w
  · exact tab216 w
  · exact tab217 w
  · exact tab218 w
  · exact tab219 w
  · exact tab220 w
  · exact tab221 w
  · exact tab222 w
  · exact tab223 w

end Cert.KV
-- ==== Proof.K.Table.lean ====
module

public import proofs.«01_k».proof.Proof.K.Tab0
public import proofs.«01_k».proof.Proof.K.Tab1
public import proofs.«01_k».proof.Proof.K.Tab2
public import proofs.«01_k».proof.Proof.K.Tab3
public import proofs.«01_k».proof.Proof.K.Tab4
public import proofs.«01_k».proof.Proof.K.Tab5
public import proofs.«01_k».proof.Proof.K.Tab6
public import proofs.«01_k».proof.Proof.K.Tab7

/-! The whole smoothing matrix. -/

@[expose] public section

set_option maxRecDepth 16384
set_option maxHeartbeats 4000000

namespace Cert.KV

open Cert.KernelIdeal Idealize.ShloMosaic

/-- Every entry of the matrix. -/
theorem table (x w : Fin 224) : lit0t (x.val * 224 + w.val) = mwBits x.val w.val := by
  have hx := x.2
  by_cases h0 : x.val < 28
  · have h := tabs0 ⟨x.val - 0, by omega⟩ w
    rw [show 0 + (⟨x.val - 0, by omega⟩ : Fin 28).val = x.val by show 0 + (x.val - 0) = x.val; omega] at h
    exact h
  by_cases h1 : x.val < 56
  · have h := tabs1 ⟨x.val - 28, by omega⟩ w
    rw [show 28 + (⟨x.val - 28, by omega⟩ : Fin 28).val = x.val by show 28 + (x.val - 28) = x.val; omega] at h
    exact h
  by_cases h2 : x.val < 84
  · have h := tabs2 ⟨x.val - 56, by omega⟩ w
    rw [show 56 + (⟨x.val - 56, by omega⟩ : Fin 28).val = x.val by show 56 + (x.val - 56) = x.val; omega] at h
    exact h
  by_cases h3 : x.val < 112
  · have h := tabs3 ⟨x.val - 84, by omega⟩ w
    rw [show 84 + (⟨x.val - 84, by omega⟩ : Fin 28).val = x.val by show 84 + (x.val - 84) = x.val; omega] at h
    exact h
  by_cases h4 : x.val < 140
  · have h := tabs4 ⟨x.val - 112, by omega⟩ w
    rw [show 112 + (⟨x.val - 112, by omega⟩ : Fin 28).val = x.val by show 112 + (x.val - 112) = x.val; omega] at h
    exact h
  by_cases h5 : x.val < 168
  · have h := tabs5 ⟨x.val - 140, by omega⟩ w
    rw [show 140 + (⟨x.val - 140, by omega⟩ : Fin 28).val = x.val by show 140 + (x.val - 140) = x.val; omega] at h
    exact h
  by_cases h6 : x.val < 196
  · have h := tabs6 ⟨x.val - 168, by omega⟩ w
    rw [show 168 + (⟨x.val - 168, by omega⟩ : Fin 28).val = x.val by show 168 + (x.val - 168) = x.val; omega] at h
    exact h
  by_cases h7 : x.val < 224
  · have h := tabs7 ⟨x.val - 196, by omega⟩ w
    rw [show 196 + (⟨x.val - 196, by omega⟩ : Fin 28).val = x.val by show 196 + (x.val - 196) = x.val; omega] at h
    exact h
  omega

end Cert.KV
-- ==== Proof.K.RXdu.lean ====
module

public import proofs.«01_k».proof.Proof.K.RResize
public import proofs.«01_k».proof.Proof.K.Table

/-! The kernel's smoothed image is the reference's resized one, where the image is finite. -/

@[expose] public section

set_option maxRecDepth 16384
set_option maxHeartbeats 2000000

noncomputable section

namespace Cert.KV

open Idealize.ShloMosaic

/-- The smoothing matrix as real numbers: source column `x`, column `w`. -/
def mwR (x w : ℕ) : ℝ := ((if x / 2 = i0 w then 1 - fr w else 0) + (if x / 2 = i1 w then fr w else 0)) / 2

theorem mwBits_real (x w : ℕ) (hx : x < 224) (hw : w < 224) : Ideal.ofBits .f32 (mwBits x w) = ((mwR x w : ℝ) : EReal) := by
  unfold mwBits mwR
  by_cases h0 : w = 0
  · subst h0
    have e0 : i0 0 = 0 := rfl
    have ef : fr 0 = 0 := by simp [fr]
    rw [if_pos rfl, e0, ef]
    by_cases hx : x / 2 = 0 <;> simp [hx, half_f32, c0_f32]
  by_cases h1 : w = 223
  · subst h1
    have e0 : i0 223 = 111 := rfl
    have ef : fr 223 = 0 := by simp [fr]
    rw [if_neg h0, if_pos rfl, e0, ef]
    by_cases hx : x / 2 = 111 <;> simp [hx, half_f32, c0_f32]
  have e1 : i1 w = (w - 1) / 2 + 1 := by unfold i1 i0; omega
  rw [if_neg h0, if_neg h1, e1, show i0 w = (w - 1) / 2 from rfl]
  by_cases h2 : w % 2 = 0
  · have ef : fr w = 3 / 4 := by simp [fr, h0, h1, h2]
    rw [if_pos h2, ef]
    by_cases ha : x / 2 = (w - 1) / 2
    · have hb : ¬ x / 2 = (w - 1) / 2 + 1 := by omega
      rw [if_pos ha, if_pos ha, if_neg hb, eighth_f32]; norm_num
    · rw [if_neg ha, if_neg ha]
      by_cases hb : x / 2 = (w - 1) / 2 + 1
      · rw [if_pos hb, if_pos hb, c3_8_f32]; norm_num
      · rw [if_neg hb, if_neg hb, c0_f32]; norm_num
  · have ef : fr w = 1 / 4 := by simp [fr, h0, h1, h2]
    rw [if_neg h2, ef]
    by_cases ha : x / 2 = (w - 1) / 2
    · have hb : ¬ x / 2 = (w - 1) / 2 + 1 := by omega
      rw [if_pos ha, if_pos ha, if_neg hb, c3_8_f32]; norm_num
    · rw [if_neg ha, if_neg ha]
      by_cases hb : x / 2 = (w - 1) / 2 + 1
      · rw [if_pos hb, if_pos hb, eighth_f32]; norm_num
      · rw [if_neg hb, if_neg hb, c0_f32]; norm_num

/-- Every entry of the kernel's matrix. -/
theorem Mk_real (x w : Fin 224) : Mk x w = ((mwR x w : ℝ) : EReal) := by
  unfold Mk
  have e : (Cert.KernelIdeal.S224x224.rowMajor (ix2 x w)).val = x.val * 224 + w.val := by
    exact rowMajor_val2 _ 224 rfl
  rw [← mwBits_real x w x.2 w.2, ← table x w, ← e]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum against the indicator of one pair of columns. -/
theorem pair_sum (y : Fin 224 → ℝ) (a : ℝ) (k : ℕ) (hk : k < 112) (h0 : 2 * k < 224) (h1 : 2 * k + 1 < 224) :
    ∑ x : Fin 224, y x * (if x.val / 2 = k then a else 0) = (y ⟨2 * k, h0⟩ + y ⟨2 * k + 1, h1⟩) * a := by
  rw [Finset.sum_eq_add (⟨2 * k, h0⟩ : Fin 224) ⟨2 * k + 1, h1⟩ (by intro h; have := congrArg Fin.val h; simp at this)]
  · rw [if_pos (by show 2 * k / 2 = k; omega), if_pos (by show (2 * k + 1) / 2 = k; omega)]; ring
  · intro c _ hc
    rw [if_neg, mul_zero]
    intro h
    rcases (by omega : c.val = 2 * k ∨ c.val = 2 * k + 1) with h' | h'
    · exact hc.1 (Fin.ext h')
    · exact hc.2 (Fin.ext h')
  · intro h; exact absurd (Finset.mem_univ _) h
  · intro h; exact absurd (Finset.mem_univ _) h

theorem lt0 (k : ℕ) (hk : k < 112) : 2 * k < 224 := by omega
theorem lt1 (k : ℕ) (hk : k < 112) : 2 * k + 1 < 224 := by omega

/-- A row halved and doubled again, at column `w`. -/
def smo (y : Fin 224 → ℝ) (w : Fin 224) : ℝ :=
  (y ⟨2 * i0 w, lt0 _ (i0_lt w)⟩ + y ⟨2 * i0 w + 1, lt1 _ (i0_lt w)⟩) * ((1 - fr w) / 2)
    + (y ⟨2 * i1 w, lt0 _ (i1_lt w)⟩ + y ⟨2 * i1 w + 1, lt1 _ (i1_lt w)⟩) * (fr w / 2)

theorem mw_sum (y : Fin 224 → ℝ) (w : Fin 224) : ∑ x : Fin 224, y x * mwR x w = smo y w := by
  have e : ∀ x : Fin 224, y x * mwR x w = y x * (if x.val / 2 = i0 w then (1 - fr w) / 2 else 0) + y x * (if x.val / 2 = i1 w then fr w / 2 else 0) := by
    intro x; unfold mwR; split_ifs <;> ring
  rw [Finset.sum_congr rfl fun x _ => e x, Finset.sum_add_distrib,
    pair_sum y _ _ (i0_lt w) (lt0 _ (i0_lt w)) (lt1 _ (i0_lt w)), pair_sum y _ _ (i1_lt w) (lt0 _ (i1_lt w)) (lt1 _ (i1_lt w))]
  rfl

/-- A row of the image smoothed along its columns; zero outside the image. -/
def rowT (x : Fin 96 → Fin 224 → Fin 224 → ℝ) (c : Fin 96) (w : Fin 224) (q : ℕ) : ℝ := if h : q < 224 then smo (x c ⟨q, h⟩) w else 0

theorem xwS_real (x : Fin 96 → Fin 224 → Fin 224 → ℝ) (c : Fin 96) (q : ℕ) (w : Fin 224) :
    xwS (fun c h w => ((x c h w : ℝ) : EReal)) Mk c (q + 2) w = ((rowT x c w q : ℝ) : EReal) := by
  unfold xwS rowT
  by_cases h : q < 224
  · rw [dif_pos h, ← mw_sum, coe_sum]
    refine Finset.sum_congr rfl fun y _ => ?_
    rw [Mk_real, xrow, dif_pos (by omega), ← EReal.coe_mul]; rfl
  · rw [dif_neg h]
    refine (Finset.sum_eq_zero fun y _ => ?_).trans (by simp)
    rw [xrow, dif_neg (by omega), zero_mul]

theorem rowT_in (x : Fin 96 → Fin 224 → Fin 224 → ℝ) (c : Fin 96) (w : Fin 224) (q p : ℕ) (hp : p < 224) (h : q = p) : rowT x c w q = smo (x c ⟨p, hp⟩) w := by
  subst h; rw [rowT, dif_pos hp]

/-- The kernel's smoothed image. -/
theorem xduK_real (x : Fin 96 → Fin 224 → Fin 224 → ℝ) (c : Fin 96) (h w : Fin 224) :
    xduK (fun c h w => ((x c h w : ℝ) : EReal)) Mk c h w = ((smo (fun q => smo (x c q) w) h : ℝ) : EReal) := by
  have hh := h.2
  unfold xduK
  by_cases h0 : h.val = 0
  · have e0 : i0 h = 0 := by rw [h0]; rfl
    have ef : fr h = 0 := by rw [h0]; simp [fr]
    have a2 := xwS_real x c 0 w
    have a3 := xwS_real x c 1 w
    rw [h0]
    rw [show cf0 0 = 0 from rfl, show cf1 0 = 0 from rfl, show cf2 0 = Ideal.ofBits .f32 0x3F000000#32 from rfl, show cf3 0 = Ideal.ofBits .f32 0x3F000000#32 from rfl, show cf4 0 = 0 from rfl]
    simp only [zero_mul, zero_add, add_zero]
    rw [a2, a3, half_f32, ← EReal.coe_mul, ← EReal.coe_mul, ← EReal.coe_add]
    congr 1
    unfold smo
    rw [ef, rowT_in x c w 0 (2 * i0 h) (lt0 _ (i0_lt h)) (by omega), rowT_in x c w 1 (2 * i0 h + 1) (lt1 _ (i0_lt h)) (by omega)]
    unfold smo; ring
  by_cases h1 : h.val = 223
  · have e0 : i0 h = 111 := by rw [h1]; rfl
    have ef : fr h = 0 := by rw [h1]; simp [fr]
    have a2 := xwS_real x c 222 w
    have a3 := xwS_real x c 223 w
    rw [h1]
    rw [show cf0 223 = 0 from rfl, show cf1 223 = Ideal.ofBits .f32 0x3F000000#32 from rfl, show cf2 223 = Ideal.ofBits .f32 0x3F000000#32 from rfl, show cf3 223 = 0 from rfl, show cf4 223 = 0 from rfl]
    simp only [zero_mul, zero_add, add_zero]
    rw [a2, a3, half_f32, ← EReal.coe_mul, ← EReal.coe_mul, ← EReal.coe_add]
    congr 1
    unfold smo
    rw [ef, rowT_in x c w 222 (2 * i0 h) (lt0 _ (i0_lt h)) (by omega), rowT_in x c w 223 (2 * i0 h + 1) (lt1 _ (i0_lt h)) (by omega)]
    unfold smo; ring
  have e1 : i1 h = (h.val - 1) / 2 + 1 := by unfold i1 i0; omega
  have e0 : i0 h = (h.val - 1) / 2 := rfl
  by_cases h2 : h.val % 2 = 0
  · have ef : fr h = 3 / 4 := by simp [fr, h0, h1, h2]
    obtain ⟨k, hk⟩ : ∃ k, h.val = 2 * k + 2 := ⟨(h.val - 2) / 2, by omega⟩
    have a0 := xwS_real x c (2 * k) w
    have a1 := xwS_real x c (2 * k + 1) w
    have a2 := xwS_real x c (2 * k + 2) w
    have a3 := xwS_real x c (2 * k + 3) w
    rw [show cf0 h = _ from by rw [cf0, if_neg h0, if_pos h2], show cf1 h = _ from by rw [cf1, if_neg h0, if_neg h1, if_pos h2],
      show cf2 h = _ from by rw [cf2, if_neg h0, if_neg h1], show cf3 h = _ from by rw [cf3, if_neg h0, if_neg h1, if_pos h2],
      show cf4 h = 0 from by rw [cf4, if_neg h1, if_pos h2]]
    have e0' : i0 h = k := by omega
    have e1' : i1 h = k + 1 := by omega
    rw [hk]
    rw [zero_mul, add_zero, a0, show 2 * k + 2 + 1 = 2 * k + 1 + 2 by omega, a1, a2, show 2 * k + 2 + 3 = 2 * k + 3 + 2 by omega, a3, eighth_f32, c3_8_f32]
    simp only [← EReal.coe_mul, ← EReal.coe_add]
    congr 1
    unfold smo
    rw [ef, rowT_in x c w (2 * k) (2 * i0 h) (lt0 _ (i0_lt h)) (by omega), rowT_in x c w (2 * k + 1) (2 * i0 h + 1) (lt1 _ (i0_lt h)) (by omega),
      rowT_in x c w (2 * k + 2) (2 * i1 h) (lt0 _ (i1_lt h)) (by omega), rowT_in x c w (2 * k + 3) (2 * i1 h + 1) (lt1 _ (i1_lt h)) (by omega)]
    unfold smo; ring
  · have ef : fr h = 1 / 4 := by simp [fr, h0, h1, h2]
    obtain ⟨k, hk⟩ : ∃ k, h.val = 2 * k + 1 := ⟨h.val / 2, by omega⟩
    have a0 := xwS_real x c (2 * k) w
    have a1 := xwS_real x c (2 * k + 1) w
    have a2 := xwS_real x c (2 * k + 2) w
    have a3 := xwS_real x c (2 * k + 3) w
    rw [show cf0 h = 0 from by rw [cf0, if_neg h0, if_neg h2], show cf1 h = _ from by rw [cf1, if_neg h0, if_neg h1, if_neg h2],
      show cf2 h = _ from by rw [cf2, if_neg h0, if_neg h1], show cf3 h = _ from by rw [cf3, if_neg h0, if_neg h1, if_neg h2],
      show cf4 h = _ from by rw [cf4, if_neg h1, if_neg h2]]
    have e0' : i0 h = k := by omega
    have e1' : i1 h = k + 1 := by omega
    rw [hk]
    rw [zero_mul, zero_add, show 2 * k + 1 + 1 = 2 * k + 2 by omega, a0, a1, show 2 * k + 1 + 3 = 2 * k + 2 + 2 by omega, a2, show 2 * k + 1 + 4 = 2 * k + 3 + 2 by omega, a3, eighth_f32, c3_8_f32]
    simp only [← EReal.coe_mul, ← EReal.coe_add]
    congr 1
    unfold smo
    rw [ef, rowT_in x c w (2 * k) (2 * i0 h) (lt0 _ (i0_lt h)) (by omega), rowT_in x c w (2 * k + 1) (2 * i0 h + 1) (lt1 _ (i0_lt h)) (by omega),
      rowT_in x c w (2 * k + 2) (2 * i1 h) (lt0 _ (i1_lt h)) (by omega), rowT_in x c w (2 * k + 3) (2 * i1 h + 1) (lt1 _ (i1_lt h)) (by omega)]
    unfold smo; ring

end Cert.KV

end
-- ==== Proof.K.RLin.lean ====
module

public import proofs.«01_k».proof.Proof.K.RXdu

/-! Sums with weights that are real and not negative: two such sums that agree on real images agree on all images. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

/-- A function of the image that is a sum of its pixels with real weights, none negative. -/
def Lin (G : Img → EReal) : Prop :=
  ∃ a : Fin 96 × Fin 224 × Fin 224 → ℝ, (∀ p, 0 ≤ a p) ∧ ∀ X : Img, G X = ∑ p, ((a p : ℝ) : EReal) * X p.1 p.2.1 p.2.2

theorem mul_sum_real {ι : Type} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

theorem Lin.zero : Lin fun _ => 0 := ⟨fun _ => 0, fun _ => le_rfl, fun X => by simp⟩

theorem Lin.pixel (c : Fin 96) (h w : Fin 224) : Lin fun X => X c h w := by
  refine ⟨fun p => if p = (c, h, w) then 1 else 0, fun p => by dsimp only; split_ifs <;> norm_num, fun X => ?_⟩
  rw [Finset.sum_eq_single (c, h, w)]
  · simp
  · intro p _ hp; simp [hp]
  · intro hp; exact absurd (Finset.mem_univ _) hp

theorem Lin.add {G H : Img → EReal} (hG : Lin G) (hH : Lin H) : Lin fun X => G X + H X := by
  obtain ⟨a, ha, eG⟩ := hG
  obtain ⟨b, hb, eH⟩ := hH
  refine ⟨fun p => a p + b p, fun p => add_nonneg (ha p) (hb p), fun X => ?_⟩
  show G X + H X = _
  rw [eG, eH, ← Finset.sum_add_distrib]
  refine Finset.sum_congr rfl fun p _ => ?_
  rw [EReal.coe_add, EReal.right_distrib_of_nonneg (EReal.coe_nonneg.mpr (ha p)) (EReal.coe_nonneg.mpr (hb p))]

theorem Lin.smul {G : Img → EReal} (hG : Lin G) (k : EReal) (hk : ∃ r : ℝ, 0 ≤ r ∧ k = (r : EReal)) : Lin fun X => k * G X := by
  obtain ⟨a, ha, eG⟩ := hG
  obtain ⟨r, hr, rfl⟩ := hk
  refine ⟨fun p => r * a p, fun p => mul_nonneg hr (ha p), fun X => ?_⟩
  show (r : EReal) * G X = _
  rw [eG, mul_sum_real r hr]
  refine Finset.sum_congr rfl fun p _ => ?_
  rw [EReal.coe_mul, mul_assoc]

theorem Lin.mul {G : Img → EReal} (hG : Lin G) (k : EReal) (hk : ∃ r : ℝ, 0 ≤ r ∧ k = (r : EReal)) : Lin fun X => G X * k := by
  have := hG.smul k hk
  simpa only [mul_comm k] using this

theorem Lin.sum {ι : Type} (s : Finset ι) (G : ι → Img → EReal) (hG : ∀ i, Lin (G i)) : Lin fun X => ∑ i ∈ s, G i X := by
  classical
  induction s using Finset.induction_on with
  | empty => simpa using Lin.zero
  | insert a s ha ih => simpa only [Finset.sum_insert ha] using (hG a).add ih

/-- Agreement on real images is agreement. -/
theorem Lin.ext {G H : Img → EReal} (hG : Lin G) (hH : Lin H)
    (he : ∀ x : Fin 96 → Fin 224 → Fin 224 → ℝ, G (fun c h w => ((x c h w : ℝ) : EReal)) = H (fun c h w => ((x c h w : ℝ) : EReal))) (X : Img) : G X = H X := by
  obtain ⟨a, ha, eG⟩ := hG
  obtain ⟨b, hb, eH⟩ := hH
  have hab : ∀ q, a q = b q := fun q => by
    have hq := he fun c h w => if (c, h, w) = q then 1 else 0
    rw [eG, eH] at hq
    have one : ∀ f : Fin 96 × Fin 224 × Fin 224 → ℝ, ∑ p, ((f p : ℝ) : EReal) * (((if (p.1, p.2.1, p.2.2) = q then 1 else 0 : ℝ)) : EReal) = ((f q : ℝ) : EReal) := fun f => by
      rw [Finset.sum_eq_single q]
      · simp
      · intro p _ hp
        have : ¬ (p.1, p.2.1, p.2.2) = q := hp
        simp [this]
      · intro hp; exact absurd (Finset.mem_univ _) hp
    have hq' : ((a q : ℝ) : EReal) = ((b q : ℝ) : EReal) := (one a).symm.trans (hq.trans (one b))
    exact EReal.coe_eq_coe_iff.mp hq'
  rw [eG, eH]
  exact Finset.sum_congr rfl fun p _ => by rw [hab]

/-! The kernel's smoothing and the reference's resizing are both such sums. -/

theorem real_half : ∃ r : ℝ, 0 ≤ r ∧ Ideal.ofBits .f32 0x3F000000#32 = (r : EReal) := ⟨_, by norm_num, half_f32⟩
theorem real_eighth : ∃ r : ℝ, 0 ≤ r ∧ Ideal.ofBits .f32 0x3E000000#32 = (r : EReal) := ⟨_, by norm_num, eighth_f32⟩
theorem real_c3 : ∃ r : ℝ, 0 ≤ r ∧ Ideal.ofBits .f32 0x3EC00000#32 = (r : EReal) := ⟨_, by norm_num, c3_8_f32⟩
theorem real_zero : ∃ r : ℝ, 0 ≤ r ∧ (0 : EReal) = (r : EReal) := ⟨0, le_rfl, rfl⟩

theorem real_cf0 (h : ℕ) : ∃ r : ℝ, 0 ≤ r ∧ cf0 h = (r : EReal) := by
  unfold cf0; split_ifs <;> first | exact real_zero | exact real_eighth | exact real_c3 | exact real_half
theorem real_cf1 (h : ℕ) : ∃ r : ℝ, 0 ≤ r ∧ cf1 h = (r : EReal) := by
  unfold cf1; split_ifs <;> first | exact real_zero | exact real_eighth | exact real_c3 | exact real_half
theorem real_cf2 (h : ℕ) : ∃ r : ℝ, 0 ≤ r ∧ cf2 h = (r : EReal) := by
  unfold cf2; split_ifs <;> first | exact real_zero | exact real_eighth | exact real_c3 | exact real_half
theorem real_cf3 (h : ℕ) : ∃ r : ℝ, 0 ≤ r ∧ cf3 h = (r : EReal) := by
  unfold cf3; split_ifs <;> first | exact real_zero | exact real_eighth | exact real_c3 | exact real_half
theorem real_cf4 (h : ℕ) : ∃ r : ℝ, 0 ≤ r ∧ cf4 h = (r : EReal) := by
  unfold cf4; split_ifs <;> first | exact real_zero | exact real_eighth | exact real_c3 | exact real_half

theorem mwR_nonneg (x w : ℕ) : 0 ≤ mwR x w := by
  have h := fr_bounds w
  unfold mwR
  split_ifs <;> linarith

theorem lin_xrow (c : Fin 96) (p : ℕ) (x : Fin 224) : Lin fun X => xrow X c p x := by
  unfold xrow
  by_cases h : 2 ≤ p ∧ p ≤ 225
  · simpa only [dif_pos h] using Lin.pixel c ⟨p - 2, by omega⟩ x
  · simpa only [dif_neg h] using Lin.zero

theorem lin_xwS (c : Fin 96) (p : ℕ) (w : Fin 224) : Lin fun X => xwS X Mk c p w :=
  Lin.sum _ (fun x X => xrow X c p x * Mk x w) fun x => (lin_xrow c p x).mul _ ⟨_, mwR_nonneg x w, Mk_real x w⟩

theorem lin_xduK (c : Fin 96) (h : ℕ) (w : Fin 224) : Lin fun X => xduK X Mk c h w :=
  ((((lin_xwS c h w).smul _ (real_cf0 h)).add ((lin_xwS c (h + 1) w).smul _ (real_cf1 h))).add ((lin_xwS c (h + 2) w).smul _ (real_cf2 h))).add
    ((lin_xwS c (h + 3) w).smul _ (real_cf3 h)) |>.add ((lin_xwS c (h + 4) w).smul _ (real_cf4 h))

/-- Two adjacent values weighted and added. -/
def mixE (a b : EReal) (t : ℝ) : EReal := a * ((1 - t : ℝ) : EReal) + b * ((t : ℝ) : EReal)

theorem lin_mix {G H : Img → EReal} (hG : Lin G) (hH : Lin H) (t : ℝ) (h0 : 0 ≤ t) (h1 : t ≤ 1) : Lin fun X => mixE (G X) (H X) t :=
  (hG.mul _ ⟨1 - t, by linarith, rfl⟩).add (hH.mul _ ⟨t, h0, rfl⟩)

/-- Rows halved, then columns halved, then rows doubled, then columns doubled. -/
def dnR (X : Img) (c : Fin 96) (h : Fin 112) (w : Fin 224) : EReal := mixE (X c ⟨2 * h.val, dn_lt0 h⟩ w) (X c ⟨2 * h.val + 1, dn_lt1 h⟩ w) (1 / 2)
def dnC (X : Img) (c : Fin 96) (h : Fin 112) (w : Fin 112) : EReal := mixE (dnR X c h ⟨2 * w.val, dn_lt0 w⟩) (dnR X c h ⟨2 * w.val + 1, dn_lt1 w⟩) (1 / 2)
def upR (X : Img) (c : Fin 96) (h : Fin 224) (w : Fin 112) : EReal := mixE (dnC X c ⟨i0 h, i0_lt h⟩ w) (dnC X c ⟨i1 h, i1_lt h⟩ w) (fr h)
def upC (X : Img) (c : Fin 96) (h : Fin 224) (w : Fin 224) : EReal := mixE (upR X c h ⟨i0 w, i0_lt w⟩) (upR X c h ⟨i1 w, i1_lt w⟩) (fr w)

theorem lin_dnR (c : Fin 96) (h : Fin 112) (w : Fin 224) : Lin fun X => dnR X c h w := lin_mix (.pixel _ _ _) (.pixel _ _ _) _ (by norm_num) (by norm_num)
theorem lin_dnC (c : Fin 96) (h w : Fin 112) : Lin fun X => dnC X c h w := lin_mix (lin_dnR _ _ _) (lin_dnR _ _ _) _ (by norm_num) (by norm_num)
theorem lin_upR (c : Fin 96) (h : Fin 224) (w : Fin 112) : Lin fun X => upR X c h w := lin_mix (lin_dnC _ _ _) (lin_dnC _ _ _) _ (fr_bounds h).1 (fr_bounds h).2.le
theorem lin_upC (c : Fin 96) (h w : Fin 224) : Lin fun X => upC X c h w := lin_mix (lin_upR _ _ _) (lin_upR _ _ _) _ (fr_bounds w).1 (fr_bounds w).2.le

/-- The kernel's smoothed image is the resized one, whatever the image. -/
theorem smooth_eq (X : Img) (c : Fin 96) (h w : Fin 224) : upC X c h w = xduK X Mk c h w := by
  refine (lin_upC c h w).ext (lin_xduK c h w) (fun x => ?_) X
  simp only [upC, upR, dnC, dnR, mixE, xduK_real, ← EReal.coe_mul, ← EReal.coe_add]
  congr 1
  unfold smo; ring

variable (V : Valuation τ sig (Elt Ideal))

theorem upC_at (b : Fin 2) (c : Fin 96) (h w : Fin 224) :
    r132 V b c h ⟨i0 w, i0_lt w⟩ * ((1 - fr w : ℝ) : EReal) + r132 V b c h ⟨i1 w, i1_lt w⟩ * ((fr w : ℝ) : EReal) = upC (rA V b) c h w := by
  simp only [r132_eq, r77_eq, r54_eq]
  rfl

/-- The detail of a pixel is the same in both programs. -/
theorem detail_eq (b : Fin 2) (h w : Fin 224) : r159 V b h w = dfK (rA V b) Mk h w := by
  rw [r159_eq]
  unfold dfK
  refine Finset.sum_congr rfl fun c _ => ?_
  rw [upC_at, smooth_eq]

end Cert.KV

end
-- ==== Proof.K.RSim.lean ====
module

public import proofs.«01_k».proof.Proof.K.RLin

/-! The reference's neighbours and similarities, entry by entry. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

theorem dv_lt (n : Fin 50176) : n.val / 224 < 224 := by omega
theorem md_lt (n : Fin 50176) : n.val % 224 < 224 := by omega

/-- The row of a flattened position. -/
def nh (n : Fin 50176) : Fin 224 := ⟨n.val / 224, dv_lt n⟩
/-- The column of a flattened position. -/
def nw (n : Fin 50176) : Fin 224 := ⟨n.val % 224, md_lt n⟩

variable (V : Valuation τ sig (Elt Ideal))

theorem v190_at (b : Fin 2) (c : Fin 96) (p q : Fin 226) : (res_main_v190 V : S2x96x226x226.Idx → EReal) (ix4 b c p q) = xp (rA V b) c p q := by
  have hp := p.2
  have hq := q.2
  unfold xp
  pointwise [res_main_v190]
  split_ifs with h1 h2 h2
  · rfl
  · exfalso
    have a := h1 (2 : Fin 4)
    have b := h1 (3 : Fin 4)
    have a1 : 1 ≤ p.val ∧ (p.val - 1) % 1 = 0 ∧ (p.val - 1) / 1 < 224 := a
    have b1 : 1 ≤ q.val ∧ (q.val - 1) % 1 = 0 ∧ (q.val - 1) / 1 < 224 := b
    omega
  · exfalso
    apply h1
    intro (a : Fin 4)
    match a with
    | ⟨0, _⟩ => show 0 ≤ b.val ∧ (b.val - 0) % 1 = 0 ∧ (b.val - 0) / 1 < 2; omega
    | ⟨1, _⟩ => show 0 ≤ c.val ∧ (c.val - 0) % 1 = 0 ∧ (c.val - 0) / 1 < 96; omega
    | ⟨2, _⟩ => show 1 ≤ p.val ∧ (p.val - 1) % 1 = 0 ∧ (p.val - 1) / 1 < 224; omega
    | ⟨3, _⟩ => show 1 ≤ q.val ∧ (q.val - 1) % 1 = 0 ∧ (q.val - 1) / 1 < 224; omega
  · exact (small_float 0 (by norm_num)).trans (by simp)

/-- The nine neighbours, laid out by position in the window. -/
theorem v210_at (b : Fin 2) (c : Fin 96) (k : Fin 9) (n : Fin 50176) : (res_main_v210 V : S2x96x9x50176.Idx → EReal) (ix4 b c k n) = nbr (rA V b) (nh n) (nw n) k c := by
  pointwise [res_main_v210]
  have hn := dv_lt n
  have hm := md_lt n
  fin_cases k
  · exact (v190_at V b c ⟨n.val / 224, by omega⟩ ⟨n.val % 224, by omega⟩).trans (congrArg₂ (xp (rA V b) c) rfl rfl)
  · exact (v190_at V b c ⟨n.val / 224, by omega⟩ ⟨1 + n.val % 224, by omega⟩).trans (congrArg₂ (xp (rA V b) c) rfl (Nat.add_comm 1 (n.val % 224)))
  · exact (v190_at V b c ⟨n.val / 224, by omega⟩ ⟨2 + n.val % 224, by omega⟩).trans (congrArg₂ (xp (rA V b) c) rfl (Nat.add_comm 2 (n.val % 224)))
  · exact (v190_at V b c ⟨1 + n.val / 224, by omega⟩ ⟨n.val % 224, by omega⟩).trans (congrArg₂ (xp (rA V b) c) (Nat.add_comm 1 (n.val / 224)) rfl)
  · exact (v190_at V b c ⟨1 + n.val / 224, by omega⟩ ⟨1 + n.val % 224, by omega⟩).trans (congrArg₂ (xp (rA V b) c) (Nat.add_comm 1 (n.val / 224)) (Nat.add_comm 1 (n.val % 224)))
  · exact (v190_at V b c ⟨1 + n.val / 224, by omega⟩ ⟨2 + n.val % 224, by omega⟩).trans (congrArg₂ (xp (rA V b) c) (Nat.add_comm 1 (n.val / 224)) (Nat.add_comm 2 (n.val % 224)))
  · exact (v190_at V b c ⟨2 + n.val / 224, by omega⟩ ⟨n.val % 224, by omega⟩).trans (congrArg₂ (xp (rA V b) c) (Nat.add_comm 2 (n.val / 224)) rfl)
  · exact (v190_at V b c ⟨2 + n.val / 224, by omega⟩ ⟨1 + n.val % 224, by omega⟩).trans (congrArg₂ (xp (rA V b) c) (Nat.add_comm 2 (n.val / 224)) (Nat.add_comm 1 (n.val % 224)))
  · exact (v190_at V b c ⟨2 + n.val / 224, by omega⟩ ⟨2 + n.val % 224, by omega⟩).trans (congrArg₂ (xp (rA V b) c) (Nat.add_comm 2 (n.val / 224)) (Nat.add_comm 2 (n.val % 224)))

theorem v211_at (b : Fin 2) (c : Fin 96) (n : Fin 50176) : (res_main_v211 V : S2x96x50176.Idx → EReal) (ix3 b c n) = rA V b c (nh n) (nw n) := by
  pointwise [res_main_v211]
  rfl

/-- A length, at least `1e-12`. -/
def lenS (a : Fin 96 → EReal) : EReal := max (Ideal.sqrt (∑ c, a c * a c)) (Ideal.ofBits .f32 0x2B8CBCCC#32)

theorem norm3 (x : S2x96x50176.Idx → EReal) (b : Fin 2) (c : Fin 96) (n : Fin 50176) :
  (Host.divf (F := Ideal) (φ := .f32) x (broadcastInDim S2x96x50176 ![0, 1, 2] bcast_S2x1x50176_S2x96x50176_0_1_2 (maximumf (Host.sqrt (broadcastInDim S2x1x50176 ![0, 2] bcast_S2x50176_S2x1x50176_0_2 (Host.reduceAdd (mulf x x) (constant S_ .f32 0x00000000#32) reducesTo_S2x96x50176_S2x50176_d1 h_S_))) (broadcastInDim S2x1x50176 ![] bcast_S_S2x1x50176 (constant S_ .f32 0x2B8CBCCC#32))))) (ix3 b c n)
    = Ideal.div (x (ix3 b c n)) (lenS fun c => x (ix3 b c n)) := by
  unfold lenS
  pointwise

theorem norm4 (x : S2x96x9x50176.Idx → EReal) (b : Fin 2) (c : Fin 96) (i : Fin 9) (n : Fin 50176) :
  (Host.divf (F := Ideal) (φ := .f32) x (broadcastInDim S2x96x9x50176 ![0, 1, 2, 3] bcast_S2x1x9x50176_S2x96x9x50176_0_1_2_3 (maximumf (Host.sqrt (broadcastInDim S2x1x9x50176 ![0, 2, 3] bcast_S2x9x50176_S2x1x9x50176_0_2_3 (Host.reduceAdd (mulf x x) (constant S_ .f32 0x00000000#32) reducesTo_S2x96x9x50176_S2x9x50176_d1 h_S_))) (broadcastInDim S2x1x9x50176 ![] bcast_S_S2x1x9x50176 (constant S_ .f32 0x2B8CBCCC#32))))) (ix4 b c i n)
    = Ideal.div (x (ix4 b c i n)) (lenS fun c => x (ix4 b c i n)) := by
  unfold lenS
  pointwise

theorem dot9 (x : FVec Ideal S2x96x50176 .f32) (y : FVec Ideal S2x96x9x50176 .f32) (b : Fin 2) (n : Fin 50176) (i : Fin 9) :
   (Host.dotGeneral dot_S2x96x50176_S2x96x9x50176_S2x50176x9_1_1_n_2_02_03 none x y : S2x50176x9.Idx → EReal) (ix3 b n i) = ∑ c : Fin 96, (x (ix3 b c n) : EReal) * (y (ix4 b c i n) : EReal) := by
  pointwise

/-- A similarity is the product of the two columns divided by their lengths. -/
theorem v228_at (b : Fin 2) (n : Fin 50176) (i : Fin 9) : (res_main_v228 V : S2x50176x9.Idx → EReal) (ix3 b n i)
    = ∑ c : Fin 96, Ideal.div (rA V b c (nh n) (nw n)) (lenS fun c => rA V b c (nh n) (nw n))
        * Ideal.div (nbr (rA V b) (nh n) (nw n) i c) (lenS (nbr (rA V b) (nh n) (nw n) i)) := by
  unfold res_main_v228
  refine (dot9 _ _ b n i).trans (Finset.sum_congr rfl fun c _ => ?_)
  refine congrArg₂ (· * ·) ((norm3 _ b c n).trans ?_) ((norm4 _ b c i n).trans ?_)
  · rw [v211_at]; congr 2; funext c; exact v211_at V b c n
  · rw [v210_at]; congr 2; funext c; exact v210_at V b c i n

theorem lenS_real (a : Fin 96 → ℝ) : ∃ r : ℝ, 0 < r ∧ lenS (fun c => ((a c : ℝ) : EReal)) = (r : EReal) := by
  obtain ⟨e, he, hE⟩ := eps12_pos
  refine ⟨max (Real.sqrt (∑ c, a c * a c)) e, lt_max_of_lt_right he, ?_⟩
  unfold lenS
  have : ∑ c, ((a c : ℝ) : EReal) * ((a c : ℝ) : EReal) = ((∑ c, a c * a c : ℝ) : EReal) := by
    rw [coe_sum]; exact Finset.sum_congr rfl fun c _ => (EReal.coe_mul _ _).symm
  rw [this, Ideal.sqrt_coe, if_neg (not_lt.mpr (Finset.sum_nonneg fun c _ => mul_self_nonneg _)), hE, coe_max']

/-- For finite columns, dividing each by its length or the product by both lengths is the same, and a real number. -/
theorem sim_real (a b : Fin 96 → ℝ) : ∃ s : ℝ, simS (fun c => ((a c : ℝ) : EReal)) (fun c => ((b c : ℝ) : EReal)) = (s : EReal)
    ∧ ∑ c : Fin 96, Ideal.div ((a c : ℝ) : EReal) (lenS fun c => ((a c : ℝ) : EReal)) * Ideal.div ((b c : ℝ) : EReal) (lenS fun c => ((b c : ℝ) : EReal)) = (s : EReal) := by
  obtain ⟨r, hr, hR⟩ := lenS_real a
  obtain ⟨t, ht, hT⟩ := lenS_real b
  refine ⟨(∑ c, a c * b c) * (1 / r) * (1 / t), ?_, ?_⟩
  · unfold simS
    rw [show invn (fun c => ((a c : ℝ) : EReal)) = Ideal.div 1 (lenS fun c => ((a c : ℝ) : EReal)) from rfl,
      show invn (fun c => ((b c : ℝ) : EReal)) = Ideal.div 1 (lenS fun c => ((b c : ℝ) : EReal)) from rfl, hR, hT,
      Ideal.div_coe hr.ne', Ideal.div_coe ht.ne', one_mul, one_mul]
    rw [Finset.sum_congr rfl fun c _ => (EReal.coe_mul (a c) (b c)).symm, ← coe_sum, ← EReal.coe_mul, ← EReal.coe_mul]
  · rw [hR, hT, Finset.sum_mul, Finset.sum_mul, coe_sum]
    refine Finset.sum_congr rfl fun c _ => ?_
    rw [Ideal.div_coe hr.ne', Ideal.div_coe ht.ne', ← EReal.coe_mul, ← EReal.coe_mul, ← EReal.coe_mul]
    congr 1; ring

/-- A sum of terms that are not negative, one of them infinite. -/
theorem sum_top {ι : Type} (s : Finset ι) (f : ι → EReal) (hf : ∀ i, 0 ≤ f i) (i : ι) (hi : i ∈ s) (ht : f i = ⊤) : ∑ i ∈ s, f i = ⊤ :=
  top_le_iff.mp (ht ▸ Finset.single_le_sum (fun j _ => hf j) hi)

theorem sq_nonneg' (x : EReal) : 0 ≤ x * x := by
  induction x with
  | bot => simp
  | top => simp
  | coe r => rw [← EReal.coe_mul]; exact EReal.coe_nonneg.mpr (mul_self_nonneg r)

/-- An extended real is real or its square is infinite. -/
theorem real_or_sq (x : EReal) : x = ((x.toReal : ℝ) : EReal) ∨ x * x = ⊤ := by
  induction x with
  | bot => right; simp
  | top => right; simp
  | coe r => left; simp

theorem lenS_top (a : Fin 96 → EReal) (c : Fin 96) (h : a c * a c = ⊤) : lenS a = ⊤ := by
  unfold lenS
  rw [sum_top Finset.univ (fun c => a c * a c) (fun c => sq_nonneg' _) c (Finset.mem_univ c) h]
  exact max_eq_left le_top

theorem div_top (x : EReal) : Ideal.div x ⊤ = 0 := by
  unfold Ideal.div
  rw [if_neg (by simp), EReal.inv_top, mul_zero]

/-- Dividing each column by its length or the product by both lengths is the same. -/
theorem sim_gen (a b : Fin 96 → EReal) : ∑ c : Fin 96, Ideal.div (a c) (lenS a) * Ideal.div (b c) (lenS b) = simS a b := by
  have ei : ∀ a, invn a = Ideal.div 1 (lenS a) := fun _ => rfl
  by_cases ha : ∃ c, a c * a c = ⊤
  · obtain ⟨c, hc⟩ := ha
    unfold simS
    rw [ei a, lenS_top a c hc, div_top, mul_zero, zero_mul]
    exact Finset.sum_eq_zero fun c _ => by rw [div_top, zero_mul]
  by_cases hb : ∃ c, b c * b c = ⊤
  · obtain ⟨c, hc⟩ := hb
    unfold simS
    rw [ei b, lenS_top b c hc, div_top, mul_zero]
    exact Finset.sum_eq_zero fun c _ => by rw [div_top, mul_zero]
  have ra : a = fun c => (((a c).toReal : ℝ) : EReal) := funext fun c => (real_or_sq (a c)).resolve_right fun h => ha ⟨c, h⟩
  have rb : b = fun c => (((b c).toReal : ℝ) : EReal) := funext fun c => (real_or_sq (b c)).resolve_right fun h => hb ⟨c, h⟩
  obtain ⟨s, h1, h2⟩ := sim_real (fun c => (a c).toReal) fun c => (b c).toReal
  rw [ra, rb]
  exact h2.trans h1.symm

/-- The similarities of the two programs agree. -/
theorem sims_eq (b : Fin 2) (n : Fin 50176) (i : Fin 9) :
    (res_main_v228 V : S2x50176x9.Idx → EReal) (ix3 b n i) = sims (rA V b) (nh n) (nw n) i := by
  rw [v228_at]
  exact sim_gen (fun c => rA V b c (nh n) (nw n)) (nbr (rA V b) (nh n) (nw n) i)

end Cert.KV

end
-- ==== Proof.K.RDet.lean ====
module

public import proofs.«01_k».proof.Proof.K.RSim

/-! The detail power and the number of neighbours kept. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

theorem fold_flat_min (D : Fin 224 → Fin 224 → EReal) : Finset.fold min ⊤ (fun n : Fin 50176 => D (nh n) (nw n)) Finset.univ
    = Finset.fold min ⊤ (fun t => tmin D t) Finset.univ := by
  show Finset.inf Finset.univ (fun n : Fin 50176 => D (nh n) (nw n)) = Finset.inf Finset.univ (fun t : Fin 7 => Finset.inf Finset.univ (fun x : Fin 32 × Fin 224 => D ⟨32 * t + x.1, by omega⟩ x.2))
  apply le_antisymm
  · refine Finset.le_inf fun t _ => Finset.le_inf fun x _ => ?_
    refine (Finset.inf_le (Finset.mem_univ (⟨(32 * t.val + x.1.val) * 224 + x.2.val, by omega⟩ : Fin 50176))).trans (le_of_eq ?_)
    congr 1
    · exact Fin.ext (by show ((32 * t.val + x.1.val) * 224 + x.2.val) / 224 = 32 * t.val + x.1.val; omega)
    · exact Fin.ext (by show ((32 * t.val + x.1.val) * 224 + x.2.val) % 224 = x.2.val; omega)
  · refine Finset.le_inf fun n _ => ?_
    have hn := n.2
    refine (Finset.inf_le (Finset.mem_univ (⟨n.val / 224 / 32, by omega⟩ : Fin 7))).trans ((Finset.inf_le (Finset.mem_univ ((⟨n.val / 224 % 32, by omega⟩, nw n) : Fin 32 × Fin 224))).trans (le_of_eq ?_))
    congr 1
    exact Fin.ext (by show 32 * (n.val / 224 / 32) + n.val / 224 % 32 = n.val / 224; omega)

theorem fold_flat_max (D : Fin 224 → Fin 224 → EReal) : Finset.fold max ⊥ (fun n : Fin 50176 => D (nh n) (nw n)) Finset.univ
    = Finset.fold max ⊥ (fun t => tmax D t) Finset.univ := by
  show Finset.sup Finset.univ (fun n : Fin 50176 => D (nh n) (nw n)) = Finset.sup Finset.univ (fun t : Fin 7 => Finset.sup Finset.univ (fun x : Fin 32 × Fin 224 => D ⟨32 * t + x.1, by omega⟩ x.2))
  apply le_antisymm
  · refine Finset.sup_le fun n _ => ?_
    have hn := n.2
    refine le_trans (le_of_eq ?_) ((Finset.le_sup (f := fun x : Fin 32 × Fin 224 => D ⟨32 * (⟨n.val / 224 / 32, by omega⟩ : Fin 7) + x.1, by show 32 * (n.val / 224 / 32) + x.1.val < 224; omega⟩ x.2) (Finset.mem_univ ((⟨n.val / 224 % 32, by omega⟩, nw n) : Fin 32 × Fin 224))).trans
      (Finset.le_sup (f := fun t : Fin 7 => Finset.sup Finset.univ (fun x : Fin 32 × Fin 224 => D ⟨32 * t + x.1, by omega⟩ x.2)) (Finset.mem_univ (⟨n.val / 224 / 32, by omega⟩ : Fin 7))))
    congr 1
    exact Fin.ext (by show n.val / 224 = 32 * (n.val / 224 / 32) + n.val / 224 % 32; omega)
  · refine Finset.sup_le fun t _ => Finset.sup_le fun x _ => ?_
    refine le_trans (le_of_eq ?_) (Finset.le_sup (f := fun n : Fin 50176 => D (nh n) (nw n)) (Finset.mem_univ (⟨(32 * t.val + x.1.val) * 224 + x.2.val, by omega⟩ : Fin 50176)))
    congr 1
    · exact Fin.ext (by show 32 * t.val + x.1.val = ((32 * t.val + x.1.val) * 224 + x.2.val) / 224; omega)
    · exact Fin.ext (by show x.2.val = ((32 * t.val + x.1.val) * 224 + x.2.val) % 224; omega)

variable (V : Valuation τ sig (Elt Ideal))

/-- The detail power of a pixel. -/
def r174 (b : Fin 2) (h w : Fin 224) : EReal := (res_main_v174 V : S2x1x224x224.Idx → EReal) (ix4 b 0 h w)

/-- The normalised detail of a pixel. -/
def r172 (b : Fin 2) (h w : Fin 224) : EReal := (res_main_v172 V : S2x1x224x224.Idx → EReal) (ix4 b 0 h w)

theorem v172_at (b : Fin 2) (h w : Fin 224) : r172 V b h w =
    Ideal.div (r159 V b h w - Finset.fold min ⊤ (fun n : Fin 50176 => r159 V b (nh n) (nw n)) Finset.univ)
      (Finset.fold max ⊥ (fun n : Fin 50176 => r159 V b (nh n) (nw n)) Finset.univ - Finset.fold min ⊤ (fun n : Fin 50176 => r159 V b (nh n) (nw n)) Finset.univ + Ideal.ofBits .f32 0x322BCC77#32) := by
  rw [← top_f32, ← bot_f32]
  unfold r172
  pointwise [res_main_v172, res_main_v162]
  rfl

/-- The detail power is the kernel's. -/
theorem power_eq (b : Fin 2) (h w : Fin 224) :
    r174 V b h w = dpS (dminS (stS (rA V b) (dfK (rA V b) Mk))) (dmaxS (stS (rA V b) (dfK (rA V b) Mk))) (dfK (rA V b) Mk h w) := by
  have e : r174 V b h w = r172 V b h w * r172 V b h w * (r172 V b h w * r172 V b h w) := rfl
  have hd : ∀ h w, r159 V b h w = dfK (rA V b) Mk h w := detail_eq V b
  rw [e, v172_at]
  simp only [hd]
  rw [fold_flat_min (dfK (rA V b) Mk), fold_flat_max (dfK (rA V b) Mk)]
  rfl

/-- The number of neighbours kept is a natural number or infinite. -/
theorem cntS_nat (p : EReal) : cntS p = ⊤ ∨ ∃ k : ℕ, cntS p = ((k : ℝ) : EReal) := by
  unfold cntS
  generalize Ideal.div (p - Ideal.ofBits .f32 0x3F666666#32) (Ideal.ofBits .f32 0x3DCCCCCE#32) * Ideal.ofBits .f32 0x41700000#32 = z
  split_ifs
  · rw [mul_one]
    induction z with
    | bot => right; exact ⟨1, by simp⟩
    | top => left; rw [Ideal.liftRound_top, max_eq_left le_top]; exact EReal.coe_add_top 1
    | coe r =>
      right
      rw [Ideal.liftRound_coe]
      refine ⟨1 + (Ideal.roundHalfEven r).toNat, ?_⟩
      have : max (((Ideal.roundHalfEven r : ℤ) : ℝ) : EReal) 0 = (((Ideal.roundHalfEven r).toNat : ℝ) : EReal) := by
        rw [show (0 : EReal) = ((0 : ℝ) : EReal) from rfl, ← coe_max']
        congr 1
        rw [← Int.cast_natCast, Int.toNat_eq_max]; push_cast; rfl
      rw [this, show (1 : EReal) = ((1 : ℝ) : EReal) from rfl, ← EReal.coe_add]; push_cast; rfl
  · right; exact ⟨1, by simp⟩

theorem int_word (z : ℤ) (h0 : 0 ≤ z) (h1 : z < 2 ^ 31) : (BitVec.ofInt 32 z).toInt = z := by
  obtain ⟨n, rfl⟩ := Int.eq_ofNat_of_zero_le h0
  rw [show BitVec.ofInt 32 ((n : ℕ) : ℤ) = BitVec.ofNat 32 n from BitVec.ofInt_natCast 32 n]
  exact small_toInt n (by omega)

theorem word_keep (i : Fin 9) (w : BitVec 32) (z : ℤ) (hz : w.toInt = z) :
    IntOp.cmpi .slt (BitVec.ofNat 32 i) (IntOp.minsi w 9#32) = BitVec.ofBool (decide (((i : ℕ) : ℤ) < z)) := by
  have hi := i.2
  show BitVec.ofBool ((BitVec.ofNat 32 i).slt (if w.slt 9#32 then w else 9#32)) = _
  congr 1
  rw [BitVec.slt_eq_decide, small_toInt _ (by omega)]
  have : (if w.slt 9#32 then w else 9#32).toInt = min z 9 := by
    have h9 : (9#32 : BitVec 32).toInt = 9 := by decide
    rw [BitVec.slt_eq_decide, hz, h9]
    by_cases h : z < 9
    · rw [if_pos (by simpa using h), hz, min_eq_left h.le]
    · rw [if_neg (by simpa using h), h9, min_eq_right (not_lt.mp h)]
  rw [this]
  congr 1
  rw [eq_iff_iff, lt_min_iff]
  exact ⟨fun h => h.1, fun h => ⟨h, by omega⟩⟩

theorem uito_bit (P : Prop) [Decidable P] : FloatOps.uitofp (F := Ideal) .f32 (BitVec.ofBool (decide P)) = if P then (1 : EReal) else 0 := by
  show ((((BitVec.ofBool (decide P)).toNat : ℝ)) : EReal) = _
  by_cases h : P <;> simp [h]

/-- The kept positions are those below the count. -/
theorem keep_bit (i : Fin 9) (cn : EReal) (h : cn = ⊤ ∨ ∃ k : ℕ, cn = ((k : ℝ) : EReal)) :
    FloatOps.uitofp (F := Ideal) .f32 (IntOp.cmpi .slt (BitVec.ofNat 32 i) (IntOp.minsi (FloatOps.fptosi (F := Ideal) (φ := FTy.f32) 32 cn) 9#32))
      = if ((i : ℕ) : EReal) < cn then (1 : EReal) else 0 := by
  have hi := i.2
  rcases h with rfl | ⟨k, rfl⟩
  · rw [word_keep i _ (2 ^ 31 - 1) (by show (BitVec.ofInt 32 (Ideal.toIntClamped _ _ ⊤)).toInt = _; rw [show Ideal.toIntClamped (-(2 ^ (32 - 1) : ℕ)) ((2 ^ (32 - 1) : ℕ) - 1) ⊤ = 2 ^ 31 - 1 from rfl]; exact int_word _ (by norm_num) (by norm_num)), uito_bit]
    rw [if_pos (by omega), if_pos]
    exact EReal.coe_lt_top ((i : ℕ) : ℝ)
  · have hz : Ideal.toIntClamped (-(2 ^ (32 - 1) : ℕ)) ((2 ^ (32 - 1) : ℕ) - 1) ((k : ℝ) : EReal) = min (2 ^ 31 - 1) (k : ℤ) := by
      show max _ (min _ (if (0 : ℝ) ≤ (k : ℝ) then ⌊(k : ℝ)⌋ else _)) = _
      rw [if_pos (by positivity), Int.floor_natCast]
      omega
    rw [word_keep i _ (min (2 ^ 31 - 1) (k : ℤ)) (by show (BitVec.ofInt 32 (Ideal.toIntClamped _ _ _)).toInt = _; rw [hz]; exact int_word _ (by omega) (by omega)), uito_bit]
    have : (((i : ℕ) : EReal) < ((k : ℝ) : EReal)) ↔ (((i : ℕ) : ℤ) < min (2 ^ 31 - 1) (k : ℤ)) := by
      rw [show ((i : ℕ) : EReal) = (((i : ℕ) : ℝ) : EReal) from rfl, EReal.coe_lt_coe_iff, Nat.cast_lt]; omega
    simp only [this]

end Cert.KV

end
-- ==== Proof.K.RSel.lean ====
module

public import proofs.«01_k».proof.Proof.K.RDet

/-! The reference's selection of neighbours: weights in sorted order, and their aggregation. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

variable (V : Valuation τ sig (Elt Ideal))

/-- The neighbour at a sorted position. -/
def ord (s : Fin 9 → EReal) (i : Fin 9) : Fin 9 := sortedFrom (fun k k' : Fin 9 => decide (s k' < s k)) i

/-- A similarity of the reference. -/
def r228 (b : Fin 2) (n : Fin 50176) (i : Fin 9) : EReal := (res_main_v228 V : S2x50176x9.Idx → EReal) (ix3 b n i)
theorem v240_at (b : Fin 2) (n : Fin 50176) (i : Fin 9) : (res_main_v240 V : S2x50176x9.Idx → EReal) (ix3 b n i) = - r228 V b n i := rfl

theorem v241_at (b : Fin 2) (n : Fin 50176) (i : Fin 9) (s : Fin 9 → EReal) (hs : ∀ k, r228 V b n k = s k) :
    (res_main_v241 V : IVec S2x50176x9 32) (ix3 b n i) = BitVec.ofNat 32 (ord s i) := by
  refine order_at (res_main_v240 V) b n i s fun k => ?_
  rw [v240_at, hs]

theorem v241_some (b : Fin 2) (n : Fin 50176) (i : Fin 9) : ∃ p : Fin 9, (res_main_v241 V : IVec S2x50176x9 32) (ix3 b n i) = BitVec.ofNat 32 p :=
  ⟨_, v241_at V b n i _ fun _ => rfl⟩

theorem idx_ok (w : BitVec 32) (h : ∃ p : Fin 9, w = BitVec.ofNat 32 p) :
    IntOp.andi (IntOp.cmpi .sge (Scalar.select (IntOp.cmpi .slt w 0#32) (IntOp.addi w 9#32) w) 0#32)
      (IntOp.cmpi .sle (Scalar.select (IntOp.cmpi .slt w 0#32) (IntOp.addi w 9#32) w) 8#32) = 1#1 := by
  obtain ⟨p, rfl⟩ := h
  fin_cases p <;> decide

theorem fold_ones {ι : Type} (s : Finset ι) (f : ι → BitVec 1) [Std.Commutative (IntOp.andi (w := 1))] [Std.Associative (IntOp.andi (w := 1))]
    (h : ∀ i, f i = 1#1) : Finset.fold IntOp.andi 1#1 f s = 1#1 := by
  classical
  induction s using Finset.induction_on with
  | empty => rfl
  | insert a s ha ih => rw [Finset.fold_insert ha, ih, h]; rfl

theorem wrap9c (v : IVec S2x50176x9 32) (b : Fin 2) (n : Fin 50176) (i : Fin 9) (p : Fin 9) (hv : v (ix3 b n i) = BitVec.ofNat 32 p) :
    (shapeCast S2x50176x9x1 (select (cmpi .slt v (broadcastInDim S2x50176x9 ![] bcast_S_S2x50176x9 (constantI S_ 32 0#32)))
      (addi v (broadcastInDim S2x50176x9 ![] bcast_S_S2x50176x9 (constantI S_ 32 9#32))) v) shapeCasts_S2x50176x9_S2x50176x9x1 (ix4 b n i 0)).toInt = (p : ℕ) := by
  pointwise
  rw [hv]
  exact wrap_word p 9#32 (by omega)

theorem wrap9b (v : IVec S2x50176x9 32) (b : Fin 2) (n : Fin 50176) (i : Fin 9) (p : Fin 9) (hv : v (ix3 b n i) = BitVec.ofNat 32 p) :
    (select (cmpi .slt (broadcastInDim S2x50176x9x1 ![0, 1, 2] bcast_S2x50176x9_S2x50176x9x1_0_1_2 v) (broadcastInDim S2x50176x9x1 ![] bcast_S_S2x50176x9x1 (constantI S_ 32 0#32)))
      (addi (broadcastInDim S2x50176x9x1 ![0, 1, 2] bcast_S2x50176x9_S2x50176x9x1_0_1_2 v) (broadcastInDim S2x50176x9x1 ![] bcast_S_S2x50176x9x1 (constantI S_ 32 9#32)))
      (broadcastInDim S2x50176x9x1 ![0, 1, 2] bcast_S2x50176x9_S2x50176x9x1_0_1_2 v) (ix4 b n i 0)).toInt = (p : ℕ) := by
  pointwise
  rw [hv]
  exact wrap_word p 9#32 (by omega)

/-- The unnormalised weight at a sorted position. -/
def rawP (s : Fin 9 → EReal) (cn : EReal) (i : Fin 9) : EReal := Ideal.exp (s (ord s i)) * (if ((i : ℕ) : EReal) < cn then 1 else 0)

theorem call7_at (b : Fin 2) (n : Fin 50176) (i : Fin 9) (s : Fin 9 → EReal) (hs : ∀ k, r228 V b n k = s k) :
    ((res_main_call7_v5 V : IVec S2x50176x9x1 32) (ix4 b n i 0)).toInt = (ord s i : ℕ) := by
  unfold res_main_call7_v5
  exact wrap9c _ b n i _ (v241_at V b n i s hs)

theorem call7_ok (x : S2x50176x9x1.Idx) :
    IntOp.andi (IntOp.cmpi .sge ((res_main_call7_v5 V : IVec S2x50176x9x1 32) x) 0#32) (IntOp.cmpi .sle ((res_main_call7_v5 V : IVec S2x50176x9x1 32) x) 8#32) = 1#1 := by
  pointwise [res_main_call7_v5]
  exact idx_ok _ (v241_some V _ _ _)

theorem call8_at (b : Fin 2) (n : Fin 50176) (i : Fin 9) (s : Fin 9 → EReal) (hs : ∀ k, r228 V b n k = s k) :
    ((res_main_call8_v4 V : IVec S2x50176x9x1 32) (ix4 b n i 0)).toInt = (ord s i : ℕ) := by
  unfold res_main_call8_v4 res_main_v252
  exact wrap9b _ b n i _ (v241_at V b n i s hs)

theorem call8_ok (x : S2x50176x9x1.Idx) :
    IntOp.andi (IntOp.cmpi .sge ((res_main_call8_v4 V : IVec S2x50176x9x1 32) x) 0#32) (IntOp.cmpi .sle ((res_main_call8_v4 V : IVec S2x50176x9x1 32) x) 8#32) = 1#1 := by
  pointwise [res_main_call8_v4, res_main_v252]
  exact idx_ok _ (v241_some V _ _ _)

/-- The reference's unnormalised weight at a sorted position. -/
def r244 (b : Fin 2) (n : Fin 50176) (i : Fin 9) : EReal := (res_main_v244 V : S2x50176x9.Idx → EReal) (ix3 b n i)

theorem v244_at (b : Fin 2) (n : Fin 50176) (i : Fin 9) (s : Fin 9 → EReal) (hs : ∀ k, r228 V b n k = s k) :
    r244 V b n i = rawP s (cntS (r174 V b (nh n) (nw n))) i := by
  unfold rawP
  rw [← keep_bit i _ (cntS_nat _)]
  unfold r244
  pointwise [res_main_v244]
  rw [fold_ones]
  · rw [g_sim _ _ b n i (ord s i) (call7_at V b n i s hs), uito_bit, ← hs]
    rfl
  · exact call7_ok V

/-- The aggregated value at a flattened position. -/
def aggP (s : Fin 9 → EReal) (cn : EReal) (y : Fin 9 → EReal) : EReal :=
  ∑ i : Fin 9, y (ord s i) * Ideal.div (rawP s cn i) (∑ i : Fin 9, rawP s cn i + Ideal.ofBits .f32 0x322BCC77#32)

/-- Summed over sorted positions or over neighbours, the aggregation is the same. -/
theorem aggP_eq (s : Fin 9 → EReal) (cn : EReal) (y : Fin 9 → EReal) : aggP s cn y = aggS (wtS s cn) y := by
  unfold aggP
  have hsum : ∑ i : Fin 9, rawP s cn i = ∑ j : Fin 9, rawS s cn j :=
    sum_sorted s fun j r => Ideal.exp (s j) * (if ((r : ℕ) : EReal) < cn then 1 else 0)
  rw [hsum]
  refine (sum_sorted s fun j r => y j * Ideal.div (Ideal.exp (s j) * (if ((r : ℕ) : EReal) < cn then 1 else 0)) (∑ j : Fin 9, rawS s cn j + Ideal.ofBits .f32 0x322BCC77#32)).trans ?_
  have : ∀ j : Fin 9, y j * Ideal.div (Ideal.exp (s j) * (if ((rankN s j : ℕ) : EReal) < cn then 1 else 0)) (∑ j : Fin 9, rawS s cn j + Ideal.ofBits .f32 0x322BCC77#32) = wtS s cn j * y j :=
    fun j => mul_comm _ _
  rw [Finset.sum_congr rfl fun j _ => this j, Fin.sum_univ_castSucc, Fin.sum_univ_eight]
  show _ = (wtS s cn 0 * y 0 + wtS s cn 3 * y 3 + wtS s cn 6 * y 6) + (wtS s cn 1 * y 1 + wtS s cn 4 * y 4 + wtS s cn 7 * y 7) + (wtS s cn 2 * y 2 + wtS s cn 5 * y 5 + wtS s cn 8 * y 8)
  show wtS s cn 0 * y 0 + wtS s cn 1 * y 1 + wtS s cn 2 * y 2 + wtS s cn 3 * y 3 + wtS s cn 4 * y 4 + wtS s cn 5 * y 5 + wtS s cn 6 * y 6 + wtS s cn 7 * y 7 + wtS s cn 8 * y 8 = _
  abel

/-- The position of a pixel in the flattened image. -/
def fl (h w : Fin 224) : Fin 50176 := ⟨h.val * 224 + w.val, by omega⟩

theorem nh_fl (h w : Fin 224) : nh (fl h w) = h := Fin.ext (by show (h.val * 224 + w.val) / 224 = h.val; omega)
theorem nw_fl (h w : Fin 224) : nw (fl h w) = w := Fin.ext (by show (h.val * 224 + w.val) % 224 = w.val; omega)

theorem swap_at (x : S2x96x9x50176.Idx → EReal) (b : Fin 2) (n : Fin 50176) (k : Fin 9) (c : Fin 96) :
    (transpose S2x50176x9x96 [0, 3, 2, 1] x transposes_S2x96x9x50176_S2x50176x9x96_0_3_2_1) (ix4 b n k c) = x (ix4 b c k n) := by
  pointwise

/-- One channel of the aggregation, at a flattened position. -/
theorem term_at (b : Fin 2) (n : Fin 50176) (i : Fin 9) (c : Fin 96) (s : Fin 9 → EReal) (hs : ∀ k, r228 V b n k = s k) :
    (Host.gather gather_S2x50176x9x96_S2x50176x9x1_S2x50176x9x96_3_2_01_01_2_3_11196
      (transpose S2x50176x9x96 [0, 3, 2, 1] (res_main_v210 V : S2x96x9x50176.Idx → EReal) transposes_S2x96x9x50176_S2x50176x9x96_0_3_2_1)
      (res_main_call8_v4 V) : S2x50176x9x96.Idx → EReal) (ix4 b n i c) = nbr (rA V b) (nh n) (nw n) (ord s i) c := by
  exact (g_pat _ _ b n i c (ord s i) (call8_at V b n i s hs)).trans ((swap_at _ b n (ord s i) c).trans (v210_at V b c (ord s i) n))

end Cert.KV

end
-- ==== Proof.K.RAgg.lean ====
module

public import proofs.«01_k».proof.Proof.K.RSel

/-! The aggregation of the reference, pixel by pixel. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

/-- The aggregation from its selected values, in-range mask and weights. -/
theorem agg_gen (P : FVec Ideal S2x50176x9x96 .f32) (K : IVec S2x50176x9x1 32) (W : FVec Ideal S2x50176x9 .f32)
    (hK : ∀ x, IntOp.andi (IntOp.cmpi .sge (K x) 0#32) (IntOp.cmpi .sle (K x) 8#32) = 1#1) (b : Fin 2) (c : Fin 96) (h w : Fin 224) :
    ((shapeCast S2x96x224x224 (transpose S2x96x50176 [0, 2, 1] (Host.reduceAdd (mulf (select (broadcastInDim S2x50176x9x96 ![0, 1, 2] bcast_S2x50176x9_S2x50176x9x96_0_1_2 (Host.reduce IntOp.andi (andi (cmpi .sge K (broadcastInDim S2x50176x9x1 ![] bcast_S_S2x50176x9x1 (constantI S_ 32 0#32))) (cmpi .sle K (broadcastInDim S2x50176x9x1 ![0, 1, 2, 3] bcast_S1x1x1x1_S2x50176x9x1_0_1_2_3 (broadcastInDim S1x1x1x1 ![3] bcast_S1_S1x1x1x1_3 (constantI S1 32 8#32))))) (constantI S_ 1 1#1) reducesTo_S2x50176x9x1_S2x50176x9_d3 h_S_)) P (broadcastInDim S2x50176x9x96 ![] bcast_S_S2x50176x9x96 (constant S_ .f32 0x7FC00000#32))) (broadcastInDim S2x50176x9x96 ![0, 1, 2, 3] bcast_S2x50176x9x1_S2x50176x9x96_0_1_2_3 (broadcastInDim S2x50176x9x1 ![0, 1, 2] bcast_S2x50176x9_S2x50176x9x1_0_1_2 (Host.divf W (broadcastInDim S2x50176x9 ![0, 1, 2] bcast_S2x50176x1_S2x50176x9_0_1_2 (addf (broadcastInDim S2x50176x1 ![0, 1] bcast_S2x50176_S2x50176x1_0_1 (Host.reduceAdd W (constant S_ .f32 0x00000000#32) reducesTo_S2x50176x9_S2x50176_d2 h_S_)) (broadcastInDim S2x50176x1 ![] bcast_S_S2x50176x1 (constant S_ .f32 0x322BCC77#32)))))))) (constant S_ .f32 0x00000000#32) reducesTo_S2x50176x9x96_S2x50176x96_d2 h_S_) transposes_S2x50176x96_S2x96x50176_0_2_1) shapeCasts_S2x96x50176_S2x96x224x224) : S2x96x224x224.Idx → EReal) (ix4 b c h w)
      = ∑ i : Fin 9, (P (ix4 b (fl h w) i c) : EReal) * Ideal.div (W (ix3 b (fl h w) i)) (∑ i : Fin 9, (W (ix3 b (fl h w) i) : EReal) + Ideal.ofBits .f32 0x322BCC77#32) := by
  unfold fl
  pointwise
  refine Finset.sum_congr rfl fun i _ => ?_
  rw [fold_ones]
  · rfl
  · intro x; exact hK _

end Cert.KV

end
-- ==== Proof.K.RNorm.lean ====
module

public import proofs.«01_k».proof.Proof.K.RSel

/-! The group normalisation of the reference, pixel by pixel. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

theorem c3_lt (c : Fin 96) : c.val / 3 < 32 := by omega
theorem c3_mod (c : Fin 96) : c.val % 3 < 3 := by omega

/-- The normalisation from the grouped image, its differences from the mean and the number of elements. -/
theorem gn_gen (g e : FVec Ideal S2x32x3x224x224 .f32) (v : FVec Ideal S_ .f32) (ga be : FVec Ideal S96 .f32) (b : Fin 2) (c : Fin 96) (h w : Fin 224) :
    ((addf (mulf (shapeCast S2x96x224x224 (Host.divf (subf g (broadcastInDim S2x32x3x224x224 ![0, 1, 2, 3, 4] bcast_S2x32x1x1x1_S2x32x3x224x224_0_1_2_3_4 (Host.divf (broadcastInDim S2x32x1x1x1 ![0, 1] bcast_S2x32_S2x32x1x1x1_0_1 (Host.reduceAdd g (constant S_ .f32 0x00000000#32) reducesTo_S2x32x3x224x224_S2x32_d2_3_4 h_S_)) (broadcastInDim S2x32x1x1x1 ![] bcast_S_S2x32x1x1x1 (constant S_ .f32 0x48130000#32))))) (broadcastInDim S2x32x3x224x224 ![0, 1, 2, 3, 4] bcast_S2x32x1x1x1_S2x32x3x224x224_0_1_2_3_4 (Host.sqrt (addf (select (broadcastInDim S2x32x1x1x1 ![] bcast_S_S2x32x1x1x1 (cmpf .ogt v (constant S_ .f32 0x00000000#32))) (Host.divf (broadcastInDim S2x32x1x1x1 ![0, 1] bcast_S2x32_S2x32x1x1x1_0_1 (Host.reduceAdd (mulf e e) (constant S_ .f32 0x00000000#32) reducesTo_S2x32x3x224x224_S2x32_d2_3_4 h_S_)) (broadcastInDim S2x32x1x1x1 ![] bcast_S_S2x32x1x1x1 v)) (broadcastInDim S2x32x1x1x1 ![] bcast_S_S2x32x1x1x1 (id (constant S_ .f32 0x7FC00000#32)))) (broadcastInDim S2x32x1x1x1 ![] bcast_S_S2x32x1x1x1 (constant S_ .f32 0x3727C5AC#32)))))) shapeCasts_S2x32x3x224x224_S2x96x224x224) (broadcastInDim S2x96x224x224 ![0, 1, 2, 3] bcast_S1x96x1x1_S2x96x224x224_0_1_2_3 (broadcastInDim S1x96x1x1 ![1] bcast_S96_S1x96x1x1_1 ga))) (broadcastInDim S2x96x224x224 ![0, 1, 2, 3] bcast_S1x96x1x1_S2x96x224x224_0_1_2_3 (broadcastInDim S1x96x1x1 ![1] bcast_S96_S1x96x1x1_1 be))) : S2x96x224x224.Idx → EReal) (ix4 b c h w)
      = Ideal.div ((g (ix5 b ⟨c.val / 3, c3_lt c⟩ ⟨c.val % 3, c3_mod c⟩ h w) : EReal) - Ideal.div (∑ x : Fin 3, ∑ y : Fin 224, ∑ z : Fin 224, (g (ix5 b ⟨c.val / 3, c3_lt c⟩ x y z) : EReal)) (Ideal.ofBits .f32 0x48130000#32))
          (Ideal.sqrt ((if 0 < (v ix0 : EReal) then Ideal.div (∑ x : Fin 3, ∑ y : Fin 224, ∑ z : Fin 224, (e (ix5 b ⟨c.val / 3, c3_lt c⟩ x y z) : EReal) * (e (ix5 b ⟨c.val / 3, c3_lt c⟩ x y z) : EReal)) (v ix0) else Ideal.ofBits .f32 0x7FC00000#32) + Ideal.ofBits .f32 0x3727C5AC#32))
        * (ga (ix1 c) : EReal) + (be (ix1 c) : EReal) := by
  pointwise
  rfl

end Cert.KV

end
-- ==== Proof.K.RFfn.lean ====
module

public import proofs.«01_k».proof.Proof.K.RSel

/-! The feed-forward layer of the reference and its grouped image, pixel by pixel. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

/-- The layer's result from the column before it. -/
theorem ffn_gen (e : FVec Ideal S2x96x224x224 .f32) (a3 : FVec Ideal S192x96 .f32) (a4 : FVec Ideal S192 .f32) (a5 : FVec Ideal S96x192 .f32) (a6 : FVec Ideal S96 .f32)
    (b : Fin 2) (c : Fin 96) (h w : Fin 224) :
    (addf e (addf (transpose S2x96x224x224 [0, 3, 1, 2] (Host.dotGeneral dot_S2x192x224x224_S96x192_S2x224x224x96_1_1_023_0_n_n none (maximumf (addf (transpose S2x192x224x224 [0, 3, 1, 2] (Host.dotGeneral dot_S2x96x224x224_S192x96_S2x224x224x192_1_1_023_0_n_n none e a3) transposes_S2x224x224x192_S2x192x224x224_0_3_1_2) (broadcastInDim S2x192x224x224 ![0, 1, 2, 3] bcast_S1x192x1x1_S2x192x224x224_0_1_2_3 (broadcastInDim S1x192x1x1 ![1] bcast_S192_S1x192x1x1_1 a4))) (broadcastInDim S2x192x224x224 ![] bcast_S_S2x192x224x224 (constant S_ .f32 0x00000000#32))) a5) transposes_S2x224x224x96_S2x96x224x224_0_3_1_2) (broadcastInDim S2x96x224x224 ![0, 1, 2, 3] bcast_S1x96x1x1_S2x96x224x224_0_1_2_3 (broadcastInDim S1x96x1x1 ![1] bcast_S96_S1x96x1x1_1 a6))) : S2x96x224x224.Idx → EReal) (ix4 b c h w)
      = ffnS (fun d => (e (ix4 b d h w) : EReal)) (fun o d => (a3 (ix2 o d) : EReal)) (fun o => (a4 (ix1 o) : EReal)) (fun k o => (a5 (ix2 k o) : EReal)) (fun k => (a6 (ix1 k) : EReal)) c := by
  unfold ffnS
  pointwise
  rw [add_assoc]
  congr 2
  refine Finset.sum_congr rfl fun o _ => ?_
  rw [mul_comm]
  congr 3
  exact Finset.sum_congr rfl fun d _ => mul_comm _ _

theorem group_gen (x : S2x96x224x224.Idx → EReal) (b : Fin 2) (g : Fin 32) (a : Fin 3) (h w : Fin 224) (hc : 3 * g.val + a.val < 96) :
    (shapeCast S2x32x3x224x224 x shapeCasts_S2x96x224x224_S2x32x3x224x224) (ix5 b g a h w) = x (ix4 b ⟨3 * g.val + a.val, hc⟩ h w) := by
  pointwise
  congr 2
  exact Fin.ext (by show g.val * 3 + a.val = 3 * g.val + a.val; omega)

theorem diff_gen (g : FVec Ideal S2x32x3x224x224 .f32) (b : Fin 2) (q : Fin 32) (a : Fin 3) (h w : Fin 224) :
    (subf g (broadcastInDim S2x32x3x224x224 ![0, 1, 2, 3, 4] bcast_S2x32x1x1x1_S2x32x3x224x224_0_1_2_3_4 (Host.divf (broadcastInDim S2x32x1x1x1 ![0, 1] bcast_S2x32_S2x32x1x1x1_0_1 (Host.reduceAdd g (constant S_ .f32 0x00000000#32) reducesTo_S2x32x3x224x224_S2x32_d2_3_4 h_S_)) (broadcastInDim S2x32x1x1x1 ![] bcast_S_S2x32x1x1x1 (constant S_ .f32 0x48130000#32)))) : S2x32x3x224x224.Idx → EReal) (ix5 b q a h w)
      = (g (ix5 b q a h w) : EReal) - Ideal.div (∑ x : Fin 3, ∑ y : Fin 224, ∑ z : Fin 224, (g (ix5 b q x y z) : EReal)) (Ideal.ofBits .f32 0x48130000#32) := by
  pointwise

end Cert.KV

end
-- ==== Proof.K.RSplit.lean ====
module

public import proofs.«01_k».proof.Proof.K.RAgg
public import proofs.«01_k».proof.Proof.K.RNorm
public import proofs.«01_k».proof.Proof.K.RFfn

/-! The sum of aggregation and normalisation from the values of their parts. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

theorem addf_at {s : Shape} (A G : FVec Ideal s .f32) (j : s.Idx) (a g : EReal) (hA : (A : s.Idx → EReal) j = a) (hG : (G : s.Idx → EReal) j = g) :
    (addf A G : s.Idx → EReal) j = a + g := by
  subst hA hG; rfl

/-- The column before the feed-forward layer, each part given by its value. -/
theorem split_gen (P : FVec Ideal S2x50176x9x96 .f32) (K : IVec S2x50176x9x1 32) (W : FVec Ideal S2x50176x9 .f32)
    (g e : FVec Ideal S2x32x3x224x224 .f32) (v : FVec Ideal S_ .f32) (ga be : FVec Ideal S96 .f32)
    (hK : ∀ x, IntOp.andi (IntOp.cmpi .sge (K x) 0#32) (IntOp.cmpi .sle (K x) 8#32) = 1#1) (b : Fin 2) (c : Fin 96) (h w : Fin 224)
    (y r : Fin 9 → EReal) (m q z : EReal) (hP : ∀ i, (P (ix4 b (fl h w) i c) : EReal) = y i) (hW : ∀ i, (W (ix3 b (fl h w) i) : EReal) = r i)
    (hg : (g (ix5 b ⟨c.val / 3, c3_lt c⟩ ⟨c.val % 3, c3_mod c⟩ h w) : EReal) = z)
    (hm : ∑ x : Fin 3, ∑ y : Fin 224, ∑ z : Fin 224, (g (ix5 b ⟨c.val / 3, c3_lt c⟩ x y z) : EReal) = m)
    (hq : ∑ x : Fin 3, ∑ y : Fin 224, ∑ z : Fin 224, (e (ix5 b ⟨c.val / 3, c3_lt c⟩ x y z) : EReal) * (e (ix5 b ⟨c.val / 3, c3_lt c⟩ x y z) : EReal) = q)
    (hv : (v ix0 : EReal) = Ideal.ofBits .f32 0x48130000#32) :
    (addf (shapeCast S2x96x224x224 (transpose S2x96x50176 [0, 2, 1] (Host.reduceAdd (mulf (select (broadcastInDim S2x50176x9x96 ![0, 1, 2] bcast_S2x50176x9_S2x50176x9x96_0_1_2 (Host.reduce IntOp.andi (andi (cmpi .sge K (broadcastInDim S2x50176x9x1 ![] bcast_S_S2x50176x9x1 (constantI S_ 32 0#32))) (cmpi .sle K (broadcastInDim S2x50176x9x1 ![0, 1, 2, 3] bcast_S1x1x1x1_S2x50176x9x1_0_1_2_3 (broadcastInDim S1x1x1x1 ![3] bcast_S1_S1x1x1x1_3 (constantI S1 32 8#32))))) (constantI S_ 1 1#1) reducesTo_S2x50176x9x1_S2x50176x9_d3 h_S_)) P (broadcastInDim S2x50176x9x96 ![] bcast_S_S2x50176x9x96 (constant S_ .f32 0x7FC00000#32))) (broadcastInDim S2x50176x9x96 ![0, 1, 2, 3] bcast_S2x50176x9x1_S2x50176x9x96_0_1_2_3 (broadcastInDim S2x50176x9x1 ![0, 1, 2] bcast_S2x50176x9_S2x50176x9x1_0_1_2 (Host.divf W (broadcastInDim S2x50176x9 ![0, 1, 2] bcast_S2x50176x1_S2x50176x9_0_1_2 (addf (broadcastInDim S2x50176x1 ![0, 1] bcast_S2x50176_S2x50176x1_0_1 (Host.reduceAdd W (constant S_ .f32 0x00000000#32) reducesTo_S2x50176x9_S2x50176_d2 h_S_)) (broadcastInDim S2x50176x1 ![] bcast_S_S2x50176x1 (constant S_ .f32 0x322BCC77#32)))))))) (constant S_ .f32 0x00000000#32) reducesTo_S2x50176x9x96_S2x50176x96_d2 h_S_) transposes_S2x50176x96_S2x96x50176_0_2_1) shapeCasts_S2x96x50176_S2x96x224x224) (addf (mulf (shapeCast S2x96x224x224 (Host.divf (subf g (broadcastInDim S2x32x3x224x224 ![0, 1, 2, 3, 4] bcast_S2x32x1x1x1_S2x32x3x224x224_0_1_2_3_4 (Host.divf (broadcastInDim S2x32x1x1x1 ![0, 1] bcast_S2x32_S2x32x1x1x1_0_1 (Host.reduceAdd g (constant S_ .f32 0x00000000#32) reducesTo_S2x32x3x224x224_S2x32_d2_3_4 h_S_)) (broadcastInDim S2x32x1x1x1 ![] bcast_S_S2x32x1x1x1 (constant S_ .f32 0x48130000#32))))) (broadcastInDim S2x32x3x224x224 ![0, 1, 2, 3, 4] bcast_S2x32x1x1x1_S2x32x3x224x224_0_1_2_3_4 (Host.sqrt (addf (select (broadcastInDim S2x32x1x1x1 ![] bcast_S_S2x32x1x1x1 (cmpf .ogt v (constant S_ .f32 0x00000000#32))) (Host.divf (broadcastInDim S2x32x1x1x1 ![0, 1] bcast_S2x32_S2x32x1x1x1_0_1 (Host.reduceAdd (mulf e e) (constant S_ .f32 0x00000000#32) reducesTo_S2x32x3x224x224_S2x32_d2_3_4 h_S_)) (broadcastInDim S2x32x1x1x1 ![] bcast_S_S2x32x1x1x1 v)) (broadcastInDim S2x32x1x1x1 ![] bcast_S_S2x32x1x1x1 (id (constant S_ .f32 0x7FC00000#32)))) (broadcastInDim S2x32x1x1x1 ![] bcast_S_S2x32x1x1x1 (constant S_ .f32 0x3727C5AC#32)))))) shapeCasts_S2x32x3x224x224_S2x96x224x224) (broadcastInDim S2x96x224x224 ![0, 1, 2, 3] bcast_S1x96x1x1_S2x96x224x224_0_1_2_3 (broadcastInDim S1x96x1x1 ![1] bcast_S96_S1x96x1x1_1 ga))) (broadcastInDim S2x96x224x224 ![0, 1, 2, 3] bcast_S1x96x1x1_S2x96x224x224_0_1_2_3 (broadcastInDim S1x96x1x1 ![1] bcast_S96_S1x96x1x1_1 be))) : S2x96x224x224.Idx → EReal) (ix4 b c h w)
      = ∑ i : Fin 9, y i * Ideal.div (r i) (∑ i : Fin 9, r i + Ideal.ofBits .f32 0x322BCC77#32)
        + (Ideal.div (z - Ideal.div m (Ideal.ofBits .f32 0x48130000#32)) (Ideal.sqrt (Ideal.div q (Ideal.ofBits .f32 0x48130000#32) + Ideal.ofBits .f32 0x3727C5AC#32)) * (ga (ix1 c) : EReal) + (be (ix1 c) : EReal)) := by
  have hA := agg_gen P K W hK b c h w
  have hG := gn_gen g e v ga be b c h w
  have hp : (0 : EReal) < (v ix0 : EReal) := by
    rw [hv, count_f32]; exact_mod_cast (by norm_num : (0 : ℝ) < 150528)
  rw [if_pos hp, hg, hm, hq, hv] at hG
  simp only [hP, hW] at hA
  exact addf_at _ _ _ _ _ hA hG

end Cert.KV

end
-- ==== Proof.K.RMath.lean ====
module

public import proofs.«01_k».proof.Proof.K.RDet

/-! Mean and variance over the tiles and over the whole group; one scale and shift or the plain normalisation. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

/-- Rows tile by tile are all rows. -/
theorem rows_sum {M : Type} [AddCommMonoid M] (f : Fin 224 → M) : ∑ t : Fin 7, ∑ r : Fin 32, f ⟨32 * t + r, by omega⟩ = ∑ h, f h := by
  rw [← Fintype.sum_prod_type' (fun (t : Fin 7) (r : Fin 32) => f ⟨32 * t + r, by omega⟩)]
  refine Fintype.sum_equiv (finProdFinEquiv (m := 7) (n := 32)) _ _ fun x => congrArg f (Fin.ext ?_)
  show 32 * x.1.val + x.2.val = x.2.val + 32 * x.1.val
  omega

theorem g3_lt (g : Fin 32) (a : Fin 3) : 3 * g.val + a.val < 96 := by omega

/-- The sum of a group over the whole image. -/
def gsum (X : Img) (g : Fin 32) : EReal := ∑ a : Fin 3, ∑ h : Fin 224, ∑ w : Fin 224, X ⟨3 * g.val + a.val, g3_lt g a⟩ h w

theorem tsum_sum (X : Img) (g : Fin 32) : ∑ t : Fin 7, tsum X g t = gsum X g := by
  unfold tsum gsum
  rw [Finset.sum_comm]
  exact Finset.sum_congr rfl fun a _ => rows_sum fun h => ∑ w : Fin 224, X ⟨3 * g.val + a.val, g3_lt g a⟩ h w

theorem muS_eq (X : Img) (D : Fin 224 → Fin 224 → EReal) (g : Fin 32) : muS (stS X D) g = Ideal.div (gsum X g) (Ideal.ofBits .f32 0x48130000#32) := by
  unfold muS
  rw [← tsum_sum]
  congr 1
  refine Finset.sum_congr rfl fun t _ => ?_
  unfold stS
  rw [if_neg (by show ¬ (2 + g.val = 0); omega), if_neg (by show ¬ (2 + g.val = 1); omega), dif_pos (by show 2 + g.val < 34; omega)]
  congr 1
  exact Fin.ext (by show 2 + g.val - 2 = g.val; omega)

theorem varS_eq (X : Img) (D : Fin 224 → Fin 224 → EReal) (g : Fin 32) : varS (stS X D) g
    = Ideal.div (gsum (sqI X) g) (Ideal.ofBits .f32 0x48130000#32) - muS (stS X D) g * muS (stS X D) g := by
  unfold varS
  rw [← tsum_sum]
  congr 2
  refine Finset.sum_congr rfl fun t _ => ?_
  unfold stS
  rw [if_neg (by show ¬ (34 + g.val = 0); omega), if_neg (by show ¬ (34 + g.val = 1); omega), dif_neg (by show ¬ (34 + g.val < 34); omega)]
  congr 1
  exact Fin.ext (by show 34 + g.val - 34 = g.val; omega)

/-- The mean of the squares less the square of the mean is the mean of the squared differences. -/
theorem var_id {ι : Type} [Fintype ι] (y : ι → ℝ) (N : ℝ) (hN : N ≠ 0) (hc : (Fintype.card ι : ℝ) = N) :
    (∑ i, y i * y i) / N - (∑ i, y i) / N * ((∑ i, y i) / N) = (∑ i, (y i - (∑ j, y j) / N) * (y i - (∑ j, y j) / N)) / N := by
  set m := (∑ j, y j) / N with hm
  have hS : ∑ j, y j = m * N := by rw [hm]; field_simp
  have e : ∀ i, (y i - m) * (y i - m) = y i * y i - 2 * m * y i + m * m := fun i => by ring
  rw [Finset.sum_congr rfl fun i _ => e i, Finset.sum_add_distrib, Finset.sum_sub_distrib, ← Finset.mul_sum, hS, Finset.sum_const, Finset.card_univ, nsmul_eq_mul, hc]
  field_simp; ring

/-- The same over a group of three channels. -/
theorem var_group (y : Fin 3 → Fin 224 → Fin 224 → ℝ) :
    (∑ a, ∑ h, ∑ w, y a h w * y a h w) / 150528 - (∑ a, ∑ h, ∑ w, y a h w) / 150528 * ((∑ a, ∑ h, ∑ w, y a h w) / 150528)
      = (∑ a, ∑ h, ∑ w, (y a h w - (∑ a, ∑ h, ∑ w, y a h w) / 150528) * (y a h w - (∑ a, ∑ h, ∑ w, y a h w) / 150528)) / 150528 := by
  have h := var_id (fun p : Fin 3 × Fin 224 × Fin 224 => y p.1 p.2.1 p.2.2) 150528 (by norm_num) (by simp [Fintype.card_prod])
  simp only [Fintype.sum_prod_type] at h
  exact h

theorem coe_sum3 (y : Fin 3 → Fin 224 → Fin 224 → ℝ) : ∑ a, ∑ h, ∑ w, ((y a h w : ℝ) : EReal) = ((∑ a, ∑ h, ∑ w, y a h w : ℝ) : EReal) := by
  simp only [coe_sum]

/-- The plain normalisation of a pixel. -/
def gnR (X : Img) (ga be : EReal) (g : Fin 32) (x : EReal) : EReal :=
  Ideal.div (x - Ideal.div (gsum X g) (Ideal.ofBits .f32 0x48130000#32))
    (Ideal.sqrt (Ideal.div (∑ a : Fin 3, ∑ h : Fin 224, ∑ w : Fin 224, (X ⟨3 * g.val + a.val, g3_lt g a⟩ h w - Ideal.div (gsum X g) (Ideal.ofBits .f32 0x48130000#32)) * (X ⟨3 * g.val + a.val, g3_lt g a⟩ h w - Ideal.div (gsum X g) (Ideal.ofBits .f32 0x48130000#32)))
      (Ideal.ofBits .f32 0x48130000#32) + Ideal.ofBits .f32 0x3727C5AC#32)) * ga + be

theorem div_count (r : ℝ) : Ideal.div ((r : ℝ) : EReal) (Ideal.ofBits .f32 0x48130000#32) = ((r / 150528 : ℝ) : EReal) := by
  rw [count_f32, Ideal.div_coe (by norm_num), ← EReal.coe_mul]; congr 1; ring

/-- For a finite image and scale the kernel's normalisation is the plain one. -/
theorem gn_eq (x : Fin 96 → Fin 224 → Fin 224 → ℝ) (D : Fin 224 → Fin 224 → EReal) (g : Fin 32) (z ga : ℝ) (be : EReal) :
    gnS (z : EReal) (muS (stS (fun c h w => ((x c h w : ℝ) : EReal)) D) g) (varS (stS (fun c h w => ((x c h w : ℝ) : EReal)) D) g) (ga : EReal) be
      = gnR (fun c h w => ((x c h w : ℝ) : EReal)) (ga : EReal) be g (z : EReal) := by
  rw [varS_eq, muS_eq]
  unfold gnS gnR
  have hsum : gsum (fun c h w => ((x c h w : ℝ) : EReal)) g = ((∑ a : Fin 3, ∑ h, ∑ w, x ⟨3 * g.val + a.val, g3_lt g a⟩ h w : ℝ) : EReal) := coe_sum3 _
  have hsq : gsum (sqI fun c h w => ((x c h w : ℝ) : EReal)) g = ((∑ a : Fin 3, ∑ h, ∑ w, x ⟨3 * g.val + a.val, g3_lt g a⟩ h w * x ⟨3 * g.val + a.val, g3_lt g a⟩ h w : ℝ) : EReal) := by
    rw [← coe_sum3]; simp only [gsum, sqI, EReal.coe_mul]
  set m : ℝ := (∑ a : Fin 3, ∑ h, ∑ w, x ⟨3 * g.val + a.val, g3_lt g a⟩ h w) / 150528 with hm
  have hv := var_group fun a h w => x ⟨3 * g.val + a.val, g3_lt g a⟩ h w
  simp only [← hm] at hv
  rw [hsq, hsum, div_count, div_count, ← hm]
  simp only [← EReal.coe_sub, ← EReal.coe_mul]
  rw [coe_sum3 fun a h w => (x ⟨3 * g.val + a.val, g3_lt g a⟩ h w - m) * (x ⟨3 * g.val + a.val, g3_lt g a⟩ h w - m), div_count, hv]
  set vr : ℝ := (∑ a : Fin 3, ∑ h, ∑ w, (x ⟨3 * g.val + a.val, g3_lt g a⟩ h w - m) * (x ⟨3 * g.val + a.val, g3_lt g a⟩ h w - m)) / 150528 with hvr
  have hpos : 0 ≤ vr := div_nonneg (Finset.sum_nonneg fun a _ => Finset.sum_nonneg fun h _ => Finset.sum_nonneg fun w _ => mul_self_nonneg _) (by norm_num)
  obtain ⟨e, he, hE⟩ := eps5_pos
  have hs : Real.sqrt (vr + e) ≠ 0 := (Real.sqrt_pos.mpr (by linarith)).ne'
  rw [hE, ← EReal.coe_add, Ideal.sqrt_coe, if_neg (by linarith), Ideal.div_coe hs, Ideal.div_coe hs, one_mul]
  simp only [← EReal.coe_mul]
  rw [sub_eq_add_neg, add_comm be, ← add_assoc, ← EReal.coe_neg, ← EReal.coe_add]
  congr 2
  ring

/-- A finite sum that is real has real terms. -/
theorem sum_real {ι : Type} (s : Finset ι) (f : ι → EReal) (r : ℝ) (h : ∑ i ∈ s, f i = (r : EReal)) (i : ι) (hi : i ∈ s) : f i = (((f i).toReal : ℝ) : EReal) := by
  classical
  rw [← Finset.add_sum_erase s f hi] at h
  generalize (∑ x ∈ s.erase i, f x) = y at h
  generalize f i = z at h ⊢
  induction z with
  | bot => simp at h
  | top => induction y with
    | bot => simp at h
    | top => simp at h
    | coe q => simp at h
  | coe q => simp

theorem div_count_top : Ideal.div ⊤ (Ideal.ofBits .f32 0x48130000#32) = ⊤ := by
  rw [count_f32, Ideal.div_coe (by norm_num)]; exact EReal.top_mul_coe_of_pos (by norm_num)
theorem div_count_bot : Ideal.div ⊥ (Ideal.ofBits .f32 0x48130000#32) = ⊥ := by
  rw [count_f32, Ideal.div_coe (by norm_num)]; exact EReal.bot_mul_coe_of_pos (by norm_num)

/-- From an infinite mean every square of a difference is infinite. -/
theorem sq_sub_inf (x m : EReal) (hm : m = ⊤ ∨ m = ⊥) : (x - m) * (x - m) = ⊤ := by
  rcases hm with rfl | rfl
  · rw [EReal.sub_top]; exact EReal.bot_mul_bot
  · induction x with
    | bot => simp
    | top => simp
    | coe r => simp

/-- Where a group holds an infinity, both normalisations leave the shift alone. -/
theorem gn_inf (X : Img) (D : Fin 224 → Fin 224 → EReal) (g : Fin 32) (a : Fin 3) (h w : Fin 224)
    (hi : X ⟨3 * g.val + a.val, g3_lt g a⟩ h w * X ⟨3 * g.val + a.val, g3_lt g a⟩ h w = ⊤) (z ga be : EReal) :
    gnS z (muS (stS X D) g) (varS (stS X D) g) ga be = gnR X ga be g z := by
  have hsq : gsum (sqI X) g = ⊤ := by
    unfold gsum sqI
    refine sum_top _ _ (fun a => Finset.sum_nonneg fun h _ => Finset.sum_nonneg fun w _ => sq_nonneg' _) a (Finset.mem_univ a) ?_
    refine sum_top _ _ (fun h => Finset.sum_nonneg fun w _ => sq_nonneg' _) h (Finset.mem_univ h) ?_
    exact sum_top _ _ (fun w => sq_nonneg' _) w (Finset.mem_univ w) hi
  have hs : gsum X g = ⊤ ∨ gsum X g = ⊥ := by
    by_contra hn
    rw [not_or] at hn
    have hr : gsum X g = (((gsum X g).toReal : ℝ) : EReal) := (EReal.coe_toReal hn.1 hn.2).symm
    have h1 := sum_real _ _ _ hr a (Finset.mem_univ a)
    have h2 := sum_real _ _ _ h1 h (Finset.mem_univ h)
    have h3 := sum_real _ _ _ h2 w (Finset.mem_univ w)
    rw [h3, ← EReal.coe_mul] at hi
    exact EReal.coe_ne_top _ hi
  obtain ⟨e, he, hE⟩ := eps5_pos
  rw [varS_eq, muS_eq, hsq, div_count_top]
  unfold gnS gnR
  have hm : Ideal.div (gsum X g) (Ideal.ofBits .f32 0x48130000#32) = ⊤ ∨ Ideal.div (gsum X g) (Ideal.ofBits .f32 0x48130000#32) = ⊥ := by
    rcases hs with hs | hs
    · left; rw [hs, div_count_top]
    · right; rw [hs, div_count_bot]
  generalize Ideal.div (gsum X g) (Ideal.ofBits .f32 0x48130000#32) = m at hm ⊢
  have hv : (⊤ : EReal) - m * m = ⊥ := by
    have : m * m = ⊤ := by rcases hm with rfl | rfl <;> simp
    rw [this, EReal.sub_top]
  have hb : Ideal.div 1 ⊥ = 0 := by
    unfold Ideal.div
    rw [if_neg (by simp), EReal.inv_bot, mul_zero]
  have ht : ∑ a : Fin 3, ∑ h : Fin 224, ∑ w : Fin 224, (X ⟨3 * g.val + a.val, g3_lt g a⟩ h w - m) * (X ⟨3 * g.val + a.val, g3_lt g a⟩ h w - m) = ⊤ := by
    refine sum_top _ _ (fun a => Finset.sum_nonneg fun h _ => Finset.sum_nonneg fun w _ => sq_nonneg' _) a (Finset.mem_univ a) ?_
    refine sum_top _ _ (fun h => Finset.sum_nonneg fun w _ => sq_nonneg' _) h (Finset.mem_univ h) ?_
    exact sum_top _ _ (fun w => sq_nonneg' _) w (Finset.mem_univ w) (sq_sub_inf _ _ hm)
  rw [hv, ht, div_count_top, hE, EReal.bot_add, EReal.top_add_coe, show Ideal.sqrt ⊥ = ⊥ from rfl, show Ideal.sqrt ⊤ = ⊤ from rfl, hb, div_top]
  simp

/-- For a finite scale the kernel's normalisation of a pixel is the plain one, whatever the image. -/
theorem gn_gen' (X : Img) (D : Fin 224 → Fin 224 → EReal) (g : Fin 32) (a : Fin 3) (h w : Fin 224) (ga : ℝ) (be : EReal) :
    gnS (X ⟨3 * g.val + a.val, g3_lt g a⟩ h w) (muS (stS X D) g) (varS (stS X D) g) (ga : EReal) be = gnR X (ga : EReal) be g (X ⟨3 * g.val + a.val, g3_lt g a⟩ h w) := by
  by_cases hi : ∃ a h w, X ⟨3 * g.val + a.val, g3_lt g a⟩ h w * X ⟨3 * g.val + a.val, g3_lt g a⟩ h w = ⊤
  · obtain ⟨a', h', w', e⟩ := hi
    exact gn_inf X D g a' h' w' e _ _ _
  have hr : ∀ a h w, X ⟨3 * g.val + a.val, g3_lt g a⟩ h w = (((X ⟨3 * g.val + a.val, g3_lt g a⟩ h w).toReal : ℝ) : EReal) := fun a h w =>
    (real_or_sq _).resolve_right fun e => hi ⟨a, h, w, e⟩
  have hg := gn_eq (fun c h w => (X c h w).toReal) D g (X ⟨3 * g.val + a.val, g3_lt g a⟩ h w).toReal ga be
  rw [varS_eq, muS_eq] at hg ⊢
  unfold gnR gsum sqI at *
  simp only [← hr] at hg
  exact hg

end Cert.KV

end
-- ==== Proof.K.RFin.lean ====
module

public import proofs.«01_k».proof.Proof.K.RSplit
public import proofs.«01_k».proof.Proof.K.RMath

/-! The reference computes what the kernel computes, where the scale is finite. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

variable (V : Valuation τ sig (Elt Ideal))

/-- The image in groups of channels. -/
def r260 (b : Fin 2) (g : Fin 32) (a : Fin 3) (h w : Fin 224) : EReal := (res_main_v260 V : S2x32x3x224x224.Idx → EReal) (ix5 b g a h w)
/-- Its differences from the groups' means. -/
def rC9 (b : Fin 2) (g : Fin 32) (a : Fin 3) (h w : Fin 224) : EReal := (res_main_call9_v5 V : S2x32x3x224x224.Idx → EReal) (ix5 b g a h w)

theorem v260_at (b : Fin 2) (g : Fin 32) (a : Fin 3) (h w : Fin 224) : r260 V b g a h w = rA V b ⟨3 * g.val + a.val, g3_lt g a⟩ h w :=
  group_gen _ b g a h w (g3_lt g a)

theorem gsum_at (b : Fin 2) (g : Fin 32) : (∑ x : Fin 3, ∑ y : Fin 224, ∑ z : Fin 224, r260 V b g x y z) = gsum (rA V b) g := by
  unfold gsum
  exact Finset.sum_congr rfl fun a _ => Finset.sum_congr rfl fun h _ => Finset.sum_congr rfl fun w _ => v260_at V b g a h w

theorem c9_at (b : Fin 2) (g : Fin 32) (a : Fin 3) (h w : Fin 224) :
    rC9 V b g a h w = rA V b ⟨3 * g.val + a.val, g3_lt g a⟩ h w - Ideal.div (gsum (rA V b) g) (Ideal.ofBits .f32 0x48130000#32) := by
  have h1 : rC9 V b g a h w = r260 V b g a h w - Ideal.div (∑ x : Fin 3, ∑ y : Fin 224, ∑ z : Fin 224, r260 V b g x y z) (Ideal.ofBits .f32 0x48130000#32) :=
    diff_gen (res_main_v260 V) b g a h w
  rw [h1, gsum_at, v260_at]

theorem n_at : (res_main_call9_v8 V : S_.Idx → EReal) ix0 = Ideal.ofBits .f32 0x48130000#32 := by
  have e : (res_main_call9_v8 V : S_.Idx → EReal) ix0 = (Ideal.ofBits .f32 0x48130000#32 - FloatOps.sitofp (F := Ideal) .f32 (BitVec.ofNat 32 0) : EReal) := rfl
  rw [e, small_float 0 (by norm_num)]
  simp

/-- The scale and the shift of a channel. -/
def rG (c : Fin 96) : EReal := (V (Proc.devRef .tc main_arg1) : S96.Idx → EReal) (ix1 c)
def rB (c : Fin 96) : EReal := (V (Proc.devRef .tc main_arg2) : S96.Idx → EReal) (ix1 c)

/-- The column before the feed-forward layer. -/
def r280 (b : Fin 2) (c : Fin 96) (h w : Fin 224) : EReal := (res_main_v280 V : S2x96x224x224.Idx → EReal) (ix4 b c h w)

theorem w_at (b : Fin 2) (h w : Fin 224) (s : Fin 9 → EReal) (hs : ∀ k, r228 V b (fl h w) k = s k) (i : Fin 9) :
    r244 V b (fl h w) i = rawP s (cntS (r174 V b h w)) i := by
  have := v244_at V b (fl h w) i s hs
  rwa [nh_fl, nw_fl] at this

/-- The selected neighbour's value at a sorted position. -/
def rP (b : Fin 2) (h w : Fin 224) (i : Fin 9) (c : Fin 96) : EReal :=
  (Host.gather gather_S2x50176x9x96_S2x50176x9x1_S2x50176x9x96_3_2_01_01_2_3_11196
      (transpose S2x50176x9x96 [0, 3, 2, 1] (res_main_v210 V : S2x96x9x50176.Idx → EReal) transposes_S2x96x9x50176_S2x50176x9x96_0_3_2_1)
      (res_main_call8_v4 V) : S2x50176x9x96.Idx → EReal) (ix4 b (fl h w) i c)

theorem p_at (b : Fin 2) (h w : Fin 224) (s : Fin 9 → EReal) (hs : ∀ k, r228 V b (fl h w) k = s k) (i : Fin 9) (c : Fin 96) :
    rP V b h w i c = nbr (rA V b) h w (ord s i) c := by
  have : rP V b h w i c = nbr (rA V b) (nh (fl h w)) (nw (fl h w)) (ord s i) c := term_at V b (fl h w) i c s hs
  rwa [nh_fl, nw_fl] at this

theorem z_at (b : Fin 2) (c : Fin 96) (h w : Fin 224) : r260 V b ⟨c.val / 3, c3_lt c⟩ ⟨c.val % 3, c3_mod c⟩ h w = rA V b c h w := by
  rw [v260_at]
  exact congrArg (fun c => rA V b c h w) (Fin.ext (by show 3 * (c.val / 3) + c.val % 3 = c.val; omega))

theorem sq_at (b : Fin 2) (g : Fin 32) : (∑ x : Fin 3, ∑ y : Fin 224, ∑ z : Fin 224, rC9 V b g x y z * rC9 V b g x y z)
    = ∑ a : Fin 3, ∑ h : Fin 224, ∑ w : Fin 224, (rA V b ⟨3 * g.val + a.val, g3_lt g a⟩ h w - Ideal.div (gsum (rA V b) g) (Ideal.ofBits .f32 0x48130000#32))
        * (rA V b ⟨3 * g.val + a.val, g3_lt g a⟩ h w - Ideal.div (gsum (rA V b) g) (Ideal.ofBits .f32 0x48130000#32)) := by
  simp only [c9_at]

theorem v280_split (b : Fin 2) (c : Fin 96) (h w : Fin 224) (s : Fin 9 → EReal) (hs : ∀ k, r228 V b (fl h w) k = s k) :
    r280 V b c h w = aggP s (cntS (r174 V b h w)) (fun k => nbr (rA V b) h w k c) + gnR (rA V b) (rG V c) (rB V c) ⟨c.val / 3, c3_lt c⟩ (rA V b c h w) := by
  unfold r280 res_main_v280
  exact split_gen _ (res_main_call8_v4 V) (res_main_v244 V) (res_main_v260 V) (res_main_call9_v5 V) (res_main_call9_v8 V) _ _ (call8_ok V) b c h w
    (fun i => nbr (rA V b) h w (ord s i) c) (fun i => rawP s (cntS (r174 V b h w)) i) _ _ _
    (fun i => p_at V b h w s hs i c) (w_at V b h w s hs) (z_at V b c h w) (gsum_at V b _) (sq_at V b _) (n_at V)

/-- The column before the feed-forward layer is the kernel's. -/
theorem v280_eq (b : Fin 2) (ga : Fin 96 → ℝ) (hga : ∀ c, rG V c = ((ga c : ℝ) : EReal)) (c : Fin 96) (h w : Fin 224) :
    r280 V b c h w = eS (rA V b) (cntS (dpS (dminS (stS (rA V b) (dfK (rA V b) Mk))) (dmaxS (stS (rA V b) (dfK (rA V b) Mk))) (dfK (rA V b) Mk h w)))
      (muS (stS (rA V b) (dfK (rA V b) Mk))) (varS (stS (rA V b) (dfK (rA V b) Mk))) (rG V) (rB V) h w c := by
  have hs : ∀ k, r228 V b (fl h w) k = sims (rA V b) h w k := fun k => by
    have := sims_eq V b (fl h w) k
    rwa [nh_fl, nw_fl] at this
  rw [v280_split V b c h w _ hs, aggP_eq, power_eq V b]
  unfold eS
  congr 1
  have hg := gn_gen' (rA V b) (dfK (rA V b) Mk) ⟨c.val / 3, c3_lt c⟩ ⟨c.val % 3, c3_mod c⟩ h w (ga c) (rB V c)
  have hc : (⟨3 * (⟨c.val / 3, c3_lt c⟩ : Fin 32).val + (⟨c.val % 3, c3_mod c⟩ : Fin 3).val, g3_lt _ _⟩ : Fin 96) = c :=
    Fin.ext (by show 3 * (c.val / 3) + c.val % 3 = c.val; omega)
  rw [hc] at hg
  rw [hga]
  exact hg.symm

end Cert.KV

end
-- ==== Proof.K.RVal.lean ====
module

public import proofs.«01_k».proof.Proof.K.RFin
public import proofs.«01_k».proof.Proof.K.KVal
public import proofs.«01_k».proof.Pre_finite_scale

/-! The whole result of the reference, and what the precondition says of the arguments. -/

@[expose] public section

set_option maxRecDepth 16384
set_option maxHeartbeats 2000000

noncomputable section

namespace Cert.KV

open Cert.ReferenceIdeal Cert.ReferenceIdeal.Gen Cert.ReferenceIdeal.Value Idealize.ShloMosaic Idealize.ShloMosaic.TcCoe Idealize.SL.Sem

/-- An extended real whose absolute value is below infinity is real. -/
theorem real_of_abs (x : EReal) (h : Ideal.cmp .olt (max x (-x)) (Ideal.ofBits .f32 0x7F800000#32) = 1#1) : x = ((x.toReal : ℝ) : EReal) := by
  rw [top_f32] at h
  have hlt : max x (-x) < ⊤ := by
    by_contra hn
    simp [Ideal.cmp, hn] at h
  have h1 : x ≠ ⊤ := fun e => by simp [e] at hlt
  have h2 : x ≠ ⊥ := fun e => by simp [e] at hlt
  exact (EReal.coe_toReal h1 h2).symm

instance : Cert.Pre_finite_scale.Facts where
  bcast_S_S96 := by decide

/-- The precondition says that every scale is real. -/
theorem pre_scale (a0 : FVec Ideal S2x96x224x224 .f32) (a1 a2 : FVec Ideal S96 .f32) (a3 : FVec Ideal S192x96 .f32) (a4 : FVec Ideal S192 .f32) (a5 : FVec Ideal S96x192 .f32) (a6 : FVec Ideal S96 .f32)
    (h : (Cert.Pre_finite_scale.fn (F := Ideal) a0 a1 a2 a3 a4 a5 a6) = fun _ => 1#1) (j : S96.Idx) :
    (a1 j : EReal) = (((a1 j : EReal).toReal : ℝ) : EReal) :=
  real_of_abs _ (congrFun h j)

variable (V : Valuation τ sig (Elt Ideal))

/-- The weights and the offsets of the feed-forward layer. -/
def rW1 (o : Fin 192) (d : Fin 96) : EReal := (V (Proc.devRef .tc main_arg3) : S192x96.Idx → EReal) (ix2 o d)
def rB1 (o : Fin 192) : EReal := (V (Proc.devRef .tc main_arg4) : S192.Idx → EReal) (ix1 o)
def rW2 (k : Fin 96) (o : Fin 192) : EReal := (V (Proc.devRef .tc main_arg5) : S96x192.Idx → EReal) (ix2 k o)
def rB2 (k : Fin 96) : EReal := (V (Proc.devRef .tc main_arg6) : S96.Idx → EReal) (ix1 k)

/-- The feed-forward layer's text over any column. -/
def layer (e : FVec Ideal S2x96x224x224 .f32) (a3 : FVec Ideal S192x96 .f32) (a4 : FVec Ideal S192 .f32) (a5 : FVec Ideal S96x192 .f32) (a6 : FVec Ideal S96 .f32) : FVec Ideal S2x96x224x224 .f32 :=
  addf e (addf (transpose S2x96x224x224 [0, 3, 1, 2] (Host.dotGeneral dot_S2x192x224x224_S96x192_S2x224x224x96_1_1_023_0_n_n none (maximumf (addf (transpose S2x192x224x224 [0, 3, 1, 2] (Host.dotGeneral dot_S2x96x224x224_S192x96_S2x224x224x192_1_1_023_0_n_n none e a3) transposes_S2x224x224x192_S2x192x224x224_0_3_1_2) (broadcastInDim S2x192x224x224 ![0, 1, 2, 3] bcast_S1x192x1x1_S2x192x224x224_0_1_2_3 (broadcastInDim S1x192x1x1 ![1] bcast_S192_S1x192x1x1_1 a4))) (broadcastInDim S2x192x224x224 ![] bcast_S_S2x192x224x224 (constant S_ .f32 0x00000000#32))) a5) transposes_S2x224x224x96_S2x96x224x224_0_3_1_2) (broadcastInDim S2x96x224x224 ![0, 1, 2, 3] bcast_S1x96x1x1_S2x96x224x224_0_1_2_3 (broadcastInDim S1x96x1x1 ![1] bcast_S96_S1x96x1x1_1 a6)))

/-- The reference's result. -/
def ref_res : FVec Ideal S2x96x224x224 .f32 :=
  layer (res_main_v280 V) (V (Proc.devRef .tc main_arg3)) (V (Proc.devRef .tc main_arg4)) (V (Proc.devRef .tc main_arg5)) (V (Proc.devRef .tc main_arg6))

/-- Every entry of the reference's result is the kernel's, where the scale is real. -/
theorem ref_at (hg : ∀ c, rG V c = (((rG V c).toReal : ℝ) : EReal))
    (b : Fin 2) (c : Fin 96) (h w : Fin 224) :
    (ref_res V : S2x96x224x224.Idx → EReal) (ix4 b c h w) = kerS (rA V b) (rG V) (rB V) (rW1 V) (rB1 V) (rW2 V) (rB2 V) c h w := by
  refine (ffn_gen (res_main_v280 V) (V (Proc.devRef .tc main_arg3)) (V (Proc.devRef .tc main_arg4)) (V (Proc.devRef .tc main_arg5)) (V (Proc.devRef .tc main_arg6)) b c h w).trans ?_
  exact congrArg (fun e => ffnS e (rW1 V) (rB1 V) (rW2 V) (rB2 V) c)
    (funext fun d => v280_eq V b (fun c => (rG V c).toReal) hg d h w)

/-- The reference's result as a whole. -/
theorem ref_value (hg : ∀ c, rG V c = (((rG V c).toReal : ℝ) : EReal)) :
    (ref_res V : S2x96x224x224.Idx → EReal) = fun j => kerS (rA V (j 0)) (rG V) (rB V) (rW1 V) (rB1 V) (rW2 V) (rB2 V) (j 1) (j 2) (j 3) := by
  funext j
  idx_vars j
  exact ref_at V hg j0 j1 j2 j3

end Cert.KV

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.K.KRun
public import proofs.«01_k».proof.Proof.K.RVal
public import proofs.«01_k».proof.Pre_finite_scale

@[expose] public section

noncomputable section

namespace Cert.Proof

open Idealize.ShloMosaic Idealize.SL.Sem Cert.Kernel

/-- The reference runs and leaves its arguments and the semaphores as they were. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From the same arguments, the scale finite, both programs end with the same result. -/
theorem same_result : Cert.algebraic_KernelIdeal_ReferenceIdeal_pre_finite_scale := fun m g m' g' hpre hargs => by
  refine ⟨fun c => Cert.KernelIdeal.Gen.W4 m g c (Proc.devRef .tc Cert.KernelIdeal.main_v34), (θ_run Cert.KernelIdeal.defs _ _).mono (fun r h => h.1) (Cert.KV.kernel_run m g),
    (θ_run Cert.ReferenceIdeal.defs _ _).mono (fun r h c => ⟨(h c).1.trans ?_, (h c).2⟩) (Cert.ReferenceIdeal.Value.run (F := Ideal) m' g')⟩
  obtain ⟨e0, e1, e2, e3, e4, e5, e6⟩ := hargs c
  have hs := Cert.KV.pre_scale _ _ _ _ _ _ _ (hpre c)
  rw [← e1] at hs
  refine (Cert.KV.ref_value (StableHlo.launchContents m' c) (fun ch => hs (ix1 ch))).trans ?_
  refine Eq.trans ?_ (Cert.KV.kernel_value m g c).symm
  rw [← e0, ← e1, ← e2, ← e3, ← e4, ← e5, ← e6]
  rfl

/-- The kernel and its reference run cleanly, the ideal kernel is the kernel, and on finite scales both compute the same result. -/
theorem claim : Cert.Claim := ⟨Cert.Kernel.Gen.facts, Cert.KernelIdeal.Gen.facts, Cert.ReferenceIdeal.Gen.facts, inferInstance,
  fun m ρ _ => Cert.Kernel.Gen.frame m ρ,
  fun m ρ _ => Cert.KernelIdeal.Gen.frame m ρ,
  fun m ρ _ => Cert.KernelIdeal.Gen.frame m ρ,
  fun m ρ _ => reference_frame m ρ trivial,
  fun m ρ _ => reference_frame m ρ trivial,
  trivial,
  same_result⟩

end Cert.Proof

end
